-- ==== Defs.lean ====
def Pre_Kernel [hPre_counts : Cert.Pre_counts.Facts] (m : (ℓ : Loc Cert.Kernel.nD Cert.Kernel.τ Cert.Kernel.sig) → Buf (Elt Bits) ℓ) : Prop :=
  ∀ c : Dev Cert.Kernel.nD,
    (Cert.Pre_counts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal (m : (ℓ : Loc Cert.KernelIdeal.nD Cert.KernelIdeal.τ Cert.KernelIdeal.sig) → Buf (Elt Ideal) ℓ) : Prop :=
  True

def Pre_KernelIdeal_counts [hPre_counts : Cert.Pre_counts.Facts] (m : (ℓ : Loc Cert.KernelIdeal.nD Cert.KernelIdeal.τ Cert.KernelIdeal.sig) → Buf (Elt Ideal) ℓ) : Prop :=
  ∀ c : Dev Cert.KernelIdeal.nD,
    (Cert.Pre_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] [hPre_counts : Cert.Pre_counts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_counts [hKernelIdeal : Cert.KernelIdeal.Facts] [hPre_counts : Cert.Pre_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "softplus_cut" .f32 0x41A00000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_counts : Cert.Pre_counts.Facts),
    quiescent_Kernel (hKernel := hKernel) (hPre_counts := hPre_counts)
    ∧ quiescent_KernelIdeal (hKernelIdeal := hKernelIdeal)
    ∧ quiescent_KernelIdeal_pre_counts (hKernelIdeal := hKernelIdeal) (hPre_counts := hPre_counts)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Pre_counts.lean ====
abbrev S2x192x16x16x8 : Shape := ⟨5, ![2, 192, 16, 16, 8]⟩
abbrev S192 : Shape := ⟨1, ![192]⟩
abbrev S192x8 : Shape := ⟨2, ![192, 8]⟩
abbrev S8x192x768 : Shape := ⟨3, ![8, 192, 768]⟩
abbrev S8x384x4 : Shape := ⟨3, ![8, 384, 4]⟩
abbrev S8x384 : Shape := ⟨2, ![8, 384]⟩
abbrev S8x384x44 : Shape := ⟨3, ![8, 384, 44]⟩
abbrev S8x12x384 : Shape := ⟨3, ![8, 12, 384]⟩
abbrev S8x384x16 : Shape := ⟨3, ![8, 384, 16]⟩
abbrev S8x384x192 : Shape := ⟨3, ![8, 384, 192]⟩
abbrev S2x192x2048 : Shape := ⟨3, ![2, 192, 2048]⟩
abbrev S2x2048x192 : Shape := ⟨3, ![2, 2048, 192]⟩
abbrev S_ : Shape := ⟨0, ![]⟩
abbrev S2x2048 : Shape := ⟨2, ![2, 2048]⟩
abbrev S2x2048x1 : Shape := ⟨3, ![2, 2048, 1]⟩
abbrev S1x1x192 : Shape := ⟨3, ![1, 1, 192]⟩
abbrev S2x2048x8 : Shape := ⟨3, ![2, 2048, 8]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S2x8x2048 : Shape := ⟨3, ![2, 8, 2048]⟩
abbrev S2x8x1 : Shape := ⟨3, ![2, 8, 1]⟩
abbrev S2x8 : Shape := ⟨2, ![2, 8]⟩

class Facts : Prop where
  shapeCasts_S2x192x16x16x8_S2x192x2048 : S2x192x16x16x8.ShapeCasts S2x192x2048
  transposes_S2x192x2048_S2x2048x192_0_2_1 : S2x192x2048.Transposes [0, 2, 1] S2x2048x192
  reducesTo_S2x2048x192_S2x2048_d2 : S2x2048x192.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x192_0_1_2 : S2x2048x1.BroadcastsInDim S2x2048x192 (![0, 1, 2] : Fin 3 → Fin S2x2048x192.rank)
  bcast_S192_S1x1x192_2 : S192.BroadcastsInDim S1x1x192 (![2] : Fin 1 → Fin S1x1x192.rank)
  bcast_S1x1x192_S2x2048x192_0_1_2 : S1x1x192.BroadcastsInDim S2x2048x192 (![0, 1, 2] : Fin 3 → Fin S2x2048x192.rank)
  reducesTo_S2x2048x8_S2x2048_d2 : S2x2048x8.ReducesTo [2] S2x2048
  bcast_S_S2x2048 : S_.BroadcastsInDim S2x2048 (![] : Fin 0 → Fin S2x2048.rank)
  bcast_S2x2048x1_S2x2048x8_0_1_2 : S2x2048x1.BroadcastsInDim S2x2048x8 (![0, 1, 2] : Fin 3 → Fin S2x2048x8.rank)
  sliceFits_S2x2048x8_S2x2048x2 : S2x2048x8.Slices (fun _ => 0) S2x2048x2
  bcast_S2x2048x2_S2x2048x2x1_0_1_2 : S2x2048x2.BroadcastsInDim S2x2048x2x1 (![0, 1, 2] : Fin 3 → Fin S2x2048x2x1.rank)
  bcast_S2x2048x2x1_S2x2048x2x8_0_1_2_3 : S2x2048x2x1.BroadcastsInDim S2x2048x2x8 (![0, 1, 2, 3] : Fin 4 → Fin S2x2048x2x8.rank)
  bcast_S1x1x1x8_S2x2048x2x8_0_1_2_3 : S1x1x1x8.BroadcastsInDim S2x2048x2x8 (![0, 1, 2, 3] : Fin 4 → Fin S2x2048x2x8.rank)
  reducesTo_S2x2048x2x8_S2x2048x8_d2 : S2x2048x2x8.ReducesTo [2] S2x2048x8
  transposes_S2x2048x8_S2x8x2048_0_2_1 : S2x2048x8.Transposes [0, 2, 1] S2x8x2048
  bcast_S_S_ : S_.BroadcastsInDim S_ (![] : Fin 0 → Fin S_.rank)
  reduceWindows_S2x8x2048_S2x8x2048_w1s1p0_0_w1s1p0_0_w2048s1p2047_0 : S2x8x2048.ReduceWindows (![1, 1, 2048] : Fin 3 → Nat) ![1, 1, 1] ![0, 0, 2047] ![0, 0, 0] S2x8x2048
  slices_S2x8x2048_S2x8x1_0_0_2047 : S2x8x2048.Slices ![0, 0, 2047] S2x8x1
  shapeCasts_S2x8x1_S2x8 : S2x8x1.ShapeCasts S2x8
  bcast_S_S2x8 : S_.BroadcastsInDim S2x8 (![] : Fin 0 → Fin S2x8.rank)
  reducesTo_S2x8_S_d0_1 : S2x8.ReducesTo [0, 1] S_
  dot_S2x2048x192_S192x8_S2x2048x8_2_0_01_1_n_n_wf : DotDims.WF S2x2048x192 S192x8 S2x2048x8 [2] [0] [0, 1] [1] [] []

variable [Facts]

def dot_S2x2048x192_S192x8_S2x2048x8_2_0_01_1_n_n : DotDims S2x2048x192 S192x8 S2x2048x8 where
  lhsContracting := [2]
  rhsContracting := [0]
  lhsNonContracting := [0, 1]
  rhsNonContracting := [1]
  lhsBatch := []
  rhsBatch := []
  wf := dot_S2x2048x192_S192x8_S2x2048x8_2_0_01_1_n_n_wf
def fn_one_hot {F : FTy → Type} [FloatOps F] (arg0 : IVec S2x2048x2 32) : FVec F S2x2048x2x8 .f32 :=
  let v0 : IVec S2x2048x2x1 32 := broadcastInDim S2x2048x2x1 ![0, 1, 2] bcast_S2x2048x2_S2x2048x2x1_0_1_2 arg0
  let v1 : IVec S1x1x1x8 32 := iotaInDim S1x1x1x8 32 3
  let v2 : IVec S2x2048x2x8 32 := broadcastInDim S2x2048x2x8 ![0, 1, 2, 3] bcast_S2x2048x2x1_S2x2048x2x8_0_1_2_3 v0
  let v3 : IVec S2x2048x2x8 32 := broadcastInDim S2x2048x2x8 ![0, 1, 2, 3] bcast_S1x1x1x8_S2x2048x2x8_0_1_2_3 v1
  let v4 : IVec S2x2048x2x8 1 := cmpi .eq v2 v3
  let v5 : FVec F S2x2048x2x8 .f32 := uitofp .f32 v4
  v5

def fn_cumsum_0 {F : FTy → Type} [FloatOps F] (arg0 : IVec S2x8x2048 32) : IVec S2x8x2048 32 :=
  let c : IVec S_ 32 := constantI S_ 32 0#32
  let v0 : IVec S_ 32 := broadcastInDim S_ ![] bcast_S_S_ c
  let v1 : IVec S2x8x2048 32 := (fun x v => Host.reduceWindow IntOp.addi ![1, 1, 2048] ![1, 1, 1] ![0, 0, 2047] ![0, 0, 0] x v reduceWindows_S2x8x2048_S2x8x2048_w1s1p0_0_w1s1p0_0_w2048s1p2047_0 h_S_) arg0 v0
  v1

def fn_cumsum {F : FTy → Type} [FloatOps F] (arg0 : IVec S2x8x2048 32) : IVec S2x8x2048 32 :=
  let v0 : IVec S2x8x2048 32 := fn_cumsum_0 (F := F) arg0
  v0

def fn_part2 {F : FTy → Type} [FloatOps F] (main_indices : IVec S2x2048x2 32) : IVec S_ 1 :=
  let main_v38 : FVec F S2x2048x2x8 .f32 := fn_one_hot (F := F) main_indices
  let main_cst_7 : FVec F S_ .f32 := constant S_ .f32 0x00000000#32
  let main_v39 : FVec F S2x2048x8 .f32 := (fun x v => Host.reduceAdd x v reducesTo_S2x2048x2x8_S2x2048x8_d2 h_S_) main_v38 main_cst_7
  let main_v40 : FVec F S2x8x2048 .f32 := (transpose S2x8x2048 [0, 2, 1] · transposes_S2x2048x8_S2x8x2048_0_2_1) main_v39
  let main_v41 : IVec S2x8x2048 32 := fptosi 32 main_v40
  let main_v42 : IVec S2x8x2048 32 := fn_cumsum (F := F) main_v41
  let main_v43 : IVec S2x8x1 32 := (extractStridedSlice S2x8x1 ![0, 0, 2047] · slices_S2x8x2048_S2x8x1_0_0_2047) main_v42
  let main_v44 : IVec S2x8 32 := shapeCast S2x8 main_v43 shapeCasts_S2x8x1_S2x8
  let main_c : IVec S_ 32 := constantI S_ 32 0#32
  let main_v45 : IVec S2x8 32 := broadcastInDim S2x8 ![] bcast_S_S2x8 main_c
  let main_v46 : IVec S2x8 1 := cmpi .sge main_v44 main_v45
  let main_c_8 : IVec S_ 32 := constantI S_ 32 2048#32
  let main_v47 : IVec S2x8 32 := broadcastInDim S2x8 ![] bcast_S_S2x8 main_c_8
  let main_v48 : IVec S2x8 1 := cmpi .sle main_v44 main_v47
  let main_v49 : IVec S2x8 1 := andi main_v46 main_v48
  let main_c_9 : IVec S_ 1 := constantI S_ 1 1#1
  let main_v50 : IVec S_ 1 := (fun x v => Host.reduce IntOp.andi x v reducesTo_S2x8_S_d0_1 h_S_) main_v49 main_c_9
  main_v50

def fn_part1 {F : FTy → Type} [FloatOps F] (main_arg1 : FVec F S192 .f32) (main_arg2 : FVec F S192 .f32) (main_arg4 : FVec F S192x8 .f32) (main_v14 : FVec F S2x2048x192 .f32) (main_v18 : FVec F S2x2048x192 .f32) : IVec S_ 1 :=
  let main_v19 : FVec F S2x2048x192 .f32 := Host.divf main_v14 main_v18
  let main_v20 : FVec F S1x1x192 .f32 := broadcastInDim S1x1x192 ![2] bcast_S192_S1x1x192_2 main_arg1
  let main_v21 : FVec F S2x2048x192 .f32 := broadcastInDim S2x2048x192 ![0, 1, 2] bcast_S1x1x192_S2x2048x192_0_1_2 main_v20
  let main_v22 : FVec F S2x2048x192 .f32 := mulf main_v19 main_v21
  let main_v23 : FVec F S1x1x192 .f32 := broadcastInDim S1x1x192 ![2] bcast_S192_S1x1x192_2 main_arg2
  let main_v24 : FVec F S2x2048x192 .f32 := broadcastInDim S2x2048x192 ![0, 1, 2] bcast_S1x1x192_S2x2048x192_0_1_2 main_v23
  let main_v25 : FVec F S2x2048x192 .f32 := addf main_v22 main_v24
  let main_v26 : FVec F S2x2048x8 .f32 := (fun l r => Host.dotGeneral dot_S2x2048x192_S192x8_S2x2048x8_2_0_01_1_n_n none l r) main_v25 main_arg4
  let main_cst_4 : FVec F S_ .f32 := constant S_ .f32 0xFF800000#32
  let main_v27 : FVec F S2x2048 .f32 := (fun x v => Host.reduce FloatOps.maximumf x v reducesTo_S2x2048x8_S2x2048_d2 h_S_) main_v26 main_cst_4
  let main_cst_5 : FVec F S_ .f32 := constant S_ .f32 0xFF800000#32
  let main_v28 : FVec F S2x2048 .f32 := broadcastInDim S2x2048 ![] bcast_S_S2x2048 main_cst_5
  let main_v29 : FVec F S2x2048 .f32 := maximumf main_v28 main_v27
  let main_v30 : FVec F S2x2048x1 .f32 := broadcastInDim S2x2048x1 ![0, 1] bcast_S2x2048_S2x2048x1_0_1 main_v29
  let main_v31 : FVec F S2x2048x8 .f32 := broadcastInDim S2x2048x8 ![0, 1, 2] bcast_S2x2048x1_S2x2048x8_0_1_2 main_v30
  let main_v32 : FVec F S2x2048x8 .f32 := subf main_v26 main_v31
  let main_v33 : FVec F S2x2048x8 .f32 := Host.exp main_v32
  let main_cst_6 : FVec F S_ .f32 := constant S_ .f32 0x00000000#32
  let main_v34 : FVec F S2x2048 .f32 := (fun x v => Host.reduceAdd x v reducesTo_S2x2048x8_S2x2048_d2 h_S_) main_v33 main_cst_6
  let main_v35 : FVec F S2x2048x1 .f32 := broadcastInDim S2x2048x1 ![0, 1] bcast_S2x2048_S2x2048x1_0_1 main_v34
  let main_v36 : FVec F S2x2048x8 .f32 := broadcastInDim S2x2048x8 ![0, 1, 2] bcast_S2x2048x1_S2x2048x8_0_1_2 main_v35
  let main_v37 : FVec F S2x2048x8 .f32 := Host.divf main_v33 main_v36
  let main_values : FVec F S2x2048x2 .f32 := (fun x => (Host.topK S2x2048x2 2 (FloatOps.cmpfTotal .gt) x sliceFits_S2x2048x8_S2x2048x2).1) main_v37
  let main_indices : IVec S2x2048x2 32 := (fun x => (Host.topK S2x2048x2 2 (FloatOps.cmpfTotal .gt) x sliceFits_S2x2048x8_S2x2048x2).2) main_v37
  fn_part2 (F := F) main_indices

def fn {F : FTy → Type} [FloatOps F] (main_arg0 : FVec F S2x192x16x16x8 .f32) (main_arg1 : FVec F S192 .f32) (main_arg2 : FVec F S192 .f32) (main_arg3 : FVec F S192 .f32) (main_arg4 : FVec F S192x8 .f32) (main_arg5 : FVec F S8x192x768 .f32) (main_arg6 : FVec F S8x384x4 .f32) (main_arg7 : FVec F S8x384 .f32) (main_arg8 : FVec F S8x384x44 .f32) (main_arg9 : FVec F S8x12x384 .f32) (main_arg10 : FVec F S8x384 .f32) (main_arg11 : FVec F S8x384x16 .f32) (main_arg12 : FVec F S8x384 .f32) (main_arg13 : FVec F S8x384x192 .f32) : IVec S_ 1 :=
  let main_v0 : FVec F S2x192x2048 .f32 := shapeCast S2x192x2048 main_arg0 shapeCasts_S2x192x16x16x8_S2x192x2048
  let main_v1 : FVec F S2x2048x192 .f32 := (transpose S2x2048x192 [0, 2, 1] · transposes_S2x192x2048_S2x2048x192_0_2_1) main_v0
  let main_cst : FVec F S_ .f32 := constant S_ .f32 0x00000000#32
  let main_v2 : FVec F S2x2048 .f32 := (fun x v => Host.reduceAdd x v reducesTo_S2x2048x192_S2x2048_d2 h_S_) main_v1 main_cst
  let main_v3 : FVec F S2x2048x1 .f32 := broadcastInDim S2x2048x1 ![0, 1] bcast_S2x2048_S2x2048x1_0_1 main_v2
  let main_cst_0 : FVec F S_ .f32 := constant S_ .f32 0x43400000#32
  let main_v4 : FVec F S2x2048x1 .f32 := broadcastInDim S2x2048x1 ![] bcast_S_S2x2048x1 main_cst_0
  let main_v5 : FVec F S2x2048x1 .f32 := Host.divf main_v3 main_v4
  let main_v6 : FVec F S2x2048x192 .f32 := broadcastInDim S2x2048x192 ![0, 1, 2] bcast_S2x2048x1_S2x2048x192_0_1_2 main_v5
  let main_v7 : FVec F S2x2048x192 .f32 := subf main_v1 main_v6
  let main_v8 : FVec F S2x2048x192 .f32 := mulf main_v7 main_v7
  let main_cst_1 : FVec F S_ .f32 := constant S_ .f32 0x00000000#32
  let main_v9 : FVec F S2x2048 .f32 := (fun x v => Host.reduceAdd x v reducesTo_S2x2048x192_S2x2048_d2 h_S_) main_v8 main_cst_1
  let main_v10 : FVec F S2x2048x1 .f32 := broadcastInDim S2x2048x1 ![0, 1] bcast_S2x2048_S2x2048x1_0_1 main_v9
  let main_cst_2 : FVec F S_ .f32 := constant S_ .f32 0x43400000#32
  let main_v11 : FVec F S2x2048x1 .f32 := broadcastInDim S2x2048x1 ![] bcast_S_S2x2048x1 main_cst_2
  let main_v12 : FVec F S2x2048x1 .f32 := Host.divf main_v10 main_v11
  let main_v13 : FVec F S2x2048x192 .f32 := broadcastInDim S2x2048x192 ![0, 1, 2] bcast_S2x2048x1_S2x2048x192_0_1_2 main_v5
  let main_v14 : FVec F S2x2048x192 .f32 := subf main_v1 main_v13
  let main_cst_3 : FVec F S_ .f32 := constant S_ .f32 0x3727C5AC#32
  let main_v15 : FVec F S2x2048x1 .f32 := broadcastInDim S2x2048x1 ![] bcast_S_S2x2048x1 main_cst_3
  let main_v16 : FVec F S2x2048x1 .f32 := addf main_v12 main_v15
  let main_v17 : FVec F S2x2048x1 .f32 := Host.sqrt main_v16
  let main_v18 : FVec F S2x2048x192 .f32 := broadcastInDim S2x2048x192 ![0, 1, 2] bcast_S2x2048x1_S2x2048x192_0_1_2 main_v17
  fn_part1 (F := F) main_arg1 main_arg2 main_arg4 main_v14 main_v18
-- ==== Kernel.lean ====
abbrev S2x192x16x16x8 : Shape := ⟨5, ![2, 192, 16, 16, 8]⟩
abbrev S192 : Shape := ⟨1, ![192]⟩
abbrev S192x8 : Shape := ⟨2, ![192, 8]⟩
abbrev S8x192x768 : Shape := ⟨3, ![8, 192, 768]⟩
abbrev S8x384x4 : Shape := ⟨3, ![8, 384, 4]⟩
abbrev S8x384 : Shape := ⟨2, ![8, 384]⟩
abbrev S8x384x44 : Shape := ⟨3, ![8, 384, 44]⟩
abbrev S8x12x384 : Shape := ⟨3, ![8, 12, 384]⟩
abbrev S8x384x16 : Shape := ⟨3, ![8, 384, 16]⟩
abbrev S8x384x192 : Shape := ⟨3, ![8, 384, 192]⟩
abbrev S2x192x2048 : Shape := ⟨3, ![2, 192, 2048]⟩
abbrev S2x2048x192 : Shape := ⟨3, ![2, 2048, 192]⟩
abbrev S_ : Shape := ⟨0, ![]⟩
abbrev S2x2048 : Shape := ⟨2, ![2, 2048]⟩
abbrev S2x2048x1 : Shape := ⟨3, ![2, 2048, 1]⟩
abbrev S1x1x192 : Shape := ⟨3, ![1, 1, 192]⟩
abbrev S2x2048x8 : Shape := ⟨3, ![2, 2048, 8]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S8 : Shape := ⟨1, ![8]⟩
abbrev S2x8x2048 : Shape := ⟨3, ![2, 8, 2048]⟩
abbrev S2x8x1 : Shape := ⟨3, ![2, 8, 1]⟩
abbrev S2x8 : Shape := ⟨2, ![2, 8]⟩
abbrev S2048 : Shape := ⟨1, ![2048]⟩
abbrev S2 : Shape := ⟨1, ![2]⟩
abbrev S2x1x1 : Shape := ⟨3, ![2, 1, 1]⟩
abbrev S1x8x1 : Shape := ⟨3, ![1, 8, 1]⟩
abbrev S1x1x2048 : Shape := ⟨3, ![1, 1, 2048]⟩
abbrev S2x8x2048x1 : Shape := ⟨4, ![2, 8, 2048, 1]⟩
abbrev S2x8x2048x3 : Shape := ⟨4, ![2, 8, 2048, 3]⟩
abbrev S2x1x2048x192 : Shape := ⟨4, ![2, 1, 2048, 192]⟩
abbrev S1 : Shape := ⟨1, ![1]⟩
abbrev S1x1x1x1 : Shape := ⟨4, ![1, 1, 1, 1]⟩
abbrev S2x8x2048x192 : Shape := ⟨4, ![2, 8, 2048, 192]⟩
abbrev S2x8x1x1 : Shape := ⟨4, ![2, 8, 1, 1]⟩
abbrev S8x1x384 : Shape := ⟨3, ![8, 1, 384]⟩
abbrev S32768x192 : Shape := ⟨2, ![32768, 192]⟩
abbrev S8192 : Shape := ⟨1, ![8192]⟩
abbrev S8192x1 : Shape := ⟨2, ![8192, 1]⟩
abbrev S8192x192 : Shape := ⟨2, ![8192, 192]⟩
abbrev S2x2048x2x192 : Shape := ⟨4, ![2, 2048, 2, 192]⟩
abbrev S2x16x16x8x192 : Shape := ⟨5, ![2, 16, 16, 8, 192]⟩
abbrev S1x1x2048x192 : Shape := ⟨4, ![1, 1, 2048, 192]⟩
abbrev S1x1x2048x1 : Shape := ⟨4, ![1, 1, 2048, 1]⟩
abbrev S1x192x768 : Shape := ⟨3, ![1, 192, 768]⟩
abbrev S1x384x4 : Shape := ⟨3, ![1, 384, 4]⟩
abbrev S1x1x384 : Shape := ⟨3, ![1, 1, 384]⟩
abbrev S1x384x44 : Shape := ⟨3, ![1, 384, 44]⟩
abbrev S1x12x384 : Shape := ⟨3, ![1, 12, 384]⟩
abbrev S1x384x16 : Shape := ⟨3, ![1, 384, 16]⟩
abbrev S1x384x192 : Shape := ⟨3, ![1, 384, 192]⟩
abbrev S2048x384 : Shape := ⟨2, ![2048, 384]⟩
abbrev S2048x16 : Shape := ⟨2, ![2048, 16]⟩
abbrev S2048x192 : Shape := ⟨2, ![2048, 192]⟩
abbrev S192x768 : Shape := ⟨2, ![192, 768]⟩
abbrev S2048x768 : Shape := ⟨2, ![2048, 768]⟩
abbrev S384x4 : Shape := ⟨2, ![384, 4]⟩
abbrev S384 : Shape := ⟨1, ![384]⟩
abbrev S1x384 : Shape := ⟨2, ![1, 384]⟩
abbrev S3x384 : Shape := ⟨2, ![3, 384]⟩
abbrev S2045x384 : Shape := ⟨2, ![2045, 384]⟩
abbrev S384x1 : Shape := ⟨2, ![384, 1]⟩
abbrev S2x384 : Shape := ⟨2, ![2, 384]⟩
abbrev S2046x384 : Shape := ⟨2, ![2046, 384]⟩
abbrev S2047x384 : Shape := ⟨2, ![2047, 384]⟩
abbrev S384x44 : Shape := ⟨2, ![384, 44]⟩
abbrev S2048x44 : Shape := ⟨2, ![2048, 44]⟩
abbrev S12x384 : Shape := ⟨2, ![12, 384]⟩
abbrev S2048x12 : Shape := ⟨2, ![2048, 12]⟩
abbrev S384x16 : Shape := ⟨2, ![384, 16]⟩
abbrev S16x384 : Shape := ⟨2, ![16, 384]⟩
abbrev S128x384 : Shape := ⟨2, ![128, 384]⟩
abbrev S128x16 : Shape := ⟨2, ![128, 16]⟩
abbrev S128x1 : Shape := ⟨2, ![128, 1]⟩
abbrev S128 : Shape := ⟨1, ![128]⟩
abbrev S127x384 : Shape := ⟨2, ![127, 384]⟩
abbrev S126x384 : Shape := ⟨2, ![126, 384]⟩
abbrev S4x384 : Shape := ⟨2, ![4, 384]⟩
abbrev S124x384 : Shape := ⟨2, ![124, 384]⟩
abbrev S120x384 : Shape := ⟨2, ![120, 384]⟩
abbrev S112x384 : Shape := ⟨2, ![112, 384]⟩
abbrev S32x384 : Shape := ⟨2, ![32, 384]⟩
abbrev S96x384 : Shape := ⟨2, ![96, 384]⟩
abbrev S64x384 : Shape := ⟨2, ![64, 384]⟩
abbrev S384x192 : Shape := ⟨2, ![384, 192]⟩
abbrev S2048x1 : Shape := ⟨2, ![2048, 1]⟩

abbrev nBuf : Space → Nat
  | .hbm => 261
  | .vmem => 29
  | .smem => 2
  | _ => 0

abbrev hbmTy0_0 (i : Nat) : BufTy := match i % 128 with
  | 0 => ⟨S2x192x16x16x8, .f32⟩
  | 1 => ⟨S192, .f32⟩
  | 2 => ⟨S192, .f32⟩
  | 3 => ⟨S192, .f32⟩
  | 4 => ⟨S192x8, .f32⟩
  | 5 => ⟨S8x192x768, .f32⟩
  | 6 => ⟨S8x384x4, .f32⟩
  | 7 => ⟨S8x384, .f32⟩
  | 8 => ⟨S8x384x44, .f32⟩
  | 9 => ⟨S8x12x384, .f32⟩
  | 10 => ⟨S8x384, .f32⟩
  | 11 => ⟨S8x384x16, .f32⟩
  | 12 => ⟨S8x384, .f32⟩
  | 13 => ⟨S8x384x192, .f32⟩
  | 14 => ⟨S2x192x2048, .f32⟩
  | 15 => ⟨S2x2048x192, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S2x2048x192, .f32⟩
  | 23 => ⟨S2x2048x192, .f32⟩
  | 24 => ⟨S2x2048x192, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S2x2048x192, .f32⟩
  | 32 => ⟨S2x2048x192, .f32⟩
  | 33 => ⟨S_, .f32⟩
  | 34 => ⟨S2x2048x1, .f32⟩
  | 35 => ⟨S2x2048x1, .f32⟩
  | 36 => ⟨S2x2048x1, .f32⟩
  | 37 => ⟨S2x2048x192, .f32⟩
  | 38 => ⟨S2x2048x192, .f32⟩
  | 39 => ⟨S1x1x192, .f32⟩
  | 40 => ⟨S2x2048x192, .f32⟩
  | 41 => ⟨S2x2048x192, .f32⟩
  | 42 => ⟨S1x1x192, .f32⟩
  | 43 => ⟨S2x2048x192, .f32⟩
  | 44 => ⟨S2x2048x192, .f32⟩
  | 45 => ⟨S2x2048x8, .f32⟩
  | 46 => ⟨S_, .f32⟩
  | 47 => ⟨S2x2048, .f32⟩
  | 48 => ⟨S_, .f32⟩
  | 49 => ⟨S2x2048, .f32⟩
  | 50 => ⟨S2x2048, .f32⟩
  | 51 => ⟨S2x2048x1, .f32⟩
  | 52 => ⟨S2x2048x8, .f32⟩
  | 53 => ⟨S2x2048x8, .f32⟩
  | 54 => ⟨S2x2048x8, .f32⟩
  | 55 => ⟨S_, .f32⟩
  | 56 => ⟨S2x2048, .f32⟩
  | 57 => ⟨S2x2048x1, .f32⟩
  | 58 => ⟨S2x2048x8, .f32⟩
  | 59 => ⟨S2x2048x8, .f32⟩
  | 60 => ⟨S2x2048x2, .f32⟩
  | 61 => ⟨S2x2048x2, .i32⟩
  | 62 => ⟨S2x2048x2x1, .i32⟩
  | 63 => ⟨S1x1x1x8, .i32⟩
  | 64 => ⟨S2x2048x2x8, .i32⟩
  | 65 => ⟨S2x2048x2x8, .i32⟩
  | 66 => ⟨S2x2048x2x8, .i1⟩
  | 67 => ⟨S2x2048x2x8, .f32⟩
  | 68 => ⟨S_, .f32⟩
  | 69 => ⟨S2x2048x8, .f32⟩
  | 70 => ⟨S2x2048x8, .f32⟩
  | 71 => ⟨S_, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S_, .f32⟩
  | 79 => ⟨S8, .f32⟩
  | 80 => ⟨S8, .f32⟩
  | 81 => ⟨S8, .f32⟩
  | 82 => ⟨S_, .f32⟩
  | 83 => ⟨S_, .f32⟩
  | 84 => ⟨S_, .f32⟩
  | 85 => ⟨S_, .f32⟩
  | 86 => ⟨S2x8x2048, .f32⟩
  | 87 => ⟨S2x8x2048, .i32⟩
  | 88 => ⟨S_, .i32⟩
  | 89 => ⟨S_, .i32⟩
  | 90 => ⟨S2x8x2048, .i32⟩
  | 91 => ⟨S_, .i32⟩
  | 92 => ⟨S2x8x2048, .i32⟩
  | 93 => ⟨S2x8x2048, .i32⟩
  | 94 => ⟨S_, .i32⟩
  | 95 => ⟨S_, .i32⟩
  | 96 => ⟨S2x8x2048, .i32⟩
  | 97 => ⟨S2x8x1, .i32⟩
  | 98 => ⟨S2x8, .i32⟩
  | 99 => ⟨S_, .i32⟩
  | 100 => ⟨S2x8x2048, .i32⟩
  | 101 => ⟨S2x8x2048, .i1⟩
  | 102 => ⟨S_, .i32⟩
  | 103 => ⟨S2x8x2048, .i32⟩
  | 104 => ⟨S2x8x2048, .i32⟩
  | 105 => ⟨S2x8x1, .i32⟩
  | 106 => ⟨S2x8x2048, .i32⟩
  | 107 => ⟨S2x8x2048, .i32⟩
  | 108 => ⟨S_, .i32⟩
  | 109 => ⟨S2x8x2048, .i32⟩
  | 110 => ⟨S2x8x2048, .i32⟩
  | 111 => ⟨S2x8x2048, .i32⟩
  | 112 => ⟨S2048, .i32⟩
  | 113 => ⟨S2x8x2048, .i32⟩
  | 114 => ⟨S_, .i32⟩
  | 115 => ⟨S2x8x2048, .i32⟩
  | 116 => ⟨S2, .i32⟩
  | 117 => ⟨S2x1x1, .i32⟩
  | 118 => ⟨S8, .i32⟩
  | 119 => ⟨S1x8x1, .i32⟩
  | 120 => ⟨S2048, .i32⟩
  | 121 => ⟨S1x1x2048, .i32⟩
  | 122 => ⟨S_, .i32⟩
  | 123 => ⟨S2x1x1, .i32⟩
  | 124 => ⟨S2x1x1, .i1⟩
  | 125 => ⟨S_, .i32⟩
  | 126 => ⟨S2x1x1, .i32⟩
  | 127 => ⟨S2x1x1, .i32⟩
  | _ => ⟨S2x192x16x16x8, .f32⟩

abbrev hbmTy0_1 (i : Nat) : BufTy := match i % 128 with
  | 0 => ⟨S2x1x1, .i32⟩
  | 1 => ⟨S_, .i32⟩
  | 2 => ⟨S1x8x1, .i32⟩
  | 3 => ⟨S1x8x1, .i1⟩
  | 4 => ⟨S_, .i32⟩
  | 5 => ⟨S1x8x1, .i32⟩
  | 6 => ⟨S1x8x1, .i32⟩
  | 7 => ⟨S1x8x1, .i32⟩
  | 8 => ⟨S_, .i32⟩
  | 9 => ⟨S2x8x2048, .i32⟩
  | 10 => ⟨S2x8x2048, .i1⟩
  | 11 => ⟨S_, .i32⟩
  | 12 => ⟨S2x8x2048, .i32⟩
  | 13 => ⟨S2x8x2048, .i32⟩
  | 14 => ⟨S2x8x2048, .i32⟩
  | 15 => ⟨S2x8x2048, .i32⟩
  | 16 => ⟨S2x8x2048, .i32⟩
  | 17 => ⟨S2x8x2048x1, .i32⟩
  | 18 => ⟨S2x8x2048x1, .i32⟩
  | 19 => ⟨S2x8x2048x1, .i32⟩
  | 20 => ⟨S2x8x2048x3, .i32⟩
  | 21 => ⟨S2x8x2048, .i32⟩
  | 22 => ⟨S2x1x2048x192, .f32⟩
  | 23 => ⟨S2x8x2048x1, .i32⟩
  | 24 => ⟨S_, .i32⟩
  | 25 => ⟨S2x8x2048x1, .i32⟩
  | 26 => ⟨S2x8x2048x1, .i1⟩
  | 27 => ⟨S_, .i32⟩
  | 28 => ⟨S2x8x2048x1, .i32⟩
  | 29 => ⟨S2x8x2048x1, .i32⟩
  | 30 => ⟨S2x8x2048x1, .i32⟩
  | 31 => ⟨S2x2048x192, .f32⟩
  | 32 => ⟨S1, .i32⟩
  | 33 => ⟨S_, .i32⟩
  | 34 => ⟨S2x8x2048x1, .i32⟩
  | 35 => ⟨S2x8x2048x1, .i1⟩
  | 36 => ⟨S1x1x1x1, .i32⟩
  | 37 => ⟨S2x8x2048x1, .i32⟩
  | 38 => ⟨S2x8x2048x1, .i1⟩
  | 39 => ⟨S2x8x2048x1, .i1⟩
  | 40 => ⟨S_, .i1⟩
  | 41 => ⟨S2x8x2048, .i1⟩
  | 42 => ⟨S2x8x2048x192, .f32⟩
  | 43 => ⟨S2x8x2048x192, .i1⟩
  | 44 => ⟨S_, .f32⟩
  | 45 => ⟨S2x8x2048x192, .f32⟩
  | 46 => ⟨S2x8x2048x192, .f32⟩
  | 47 => ⟨S2x8x2048, .f32⟩
  | 48 => ⟨S_, .i32⟩
  | 49 => ⟨S2x8x2048, .i32⟩
  | 50 => ⟨S2x8x2048, .i1⟩
  | 51 => ⟨S_, .i32⟩
  | 52 => ⟨S2x8x2048, .i32⟩
  | 53 => ⟨S2x8x2048, .i32⟩
  | 54 => ⟨S2x8x2048, .i32⟩
  | 55 => ⟨S2x8x2048x1, .i32⟩
  | 56 => ⟨S1, .i32⟩
  | 57 => ⟨S_, .i32⟩
  | 58 => ⟨S2x8x2048x1, .i32⟩
  | 59 => ⟨S2x8x2048x1, .i1⟩
  | 60 => ⟨S1x1x1x1, .i32⟩
  | 61 => ⟨S2x8x2048x1, .i32⟩
  | 62 => ⟨S2x8x2048x1, .i1⟩
  | 63 => ⟨S2x8x2048x1, .i1⟩
  | 64 => ⟨S_, .i1⟩
  | 65 => ⟨S2x8x2048, .i1⟩
  | 66 => ⟨S2x8x2048, .f32⟩
  | 67 => ⟨S_, .f32⟩
  | 68 => ⟨S2x8x2048, .f32⟩
  | 69 => ⟨S2x8x2048, .f32⟩
  | 70 => ⟨S2x8x2048x1, .f32⟩
  | 71 => ⟨S2x8x1x1, .i32⟩
  | 72 => ⟨S8x1x384, .f32⟩
  | 73 => ⟨S8x1x384, .f32⟩
  | 74 => ⟨S8x1x384, .f32⟩
  | 75 => ⟨S2x8x2048x192, .f32⟩
  | 76 => ⟨S2x2048x8, .i32⟩
  | 77 => ⟨S_, .i32⟩
  | 78 => ⟨S2x2048x2, .i32⟩
  | 79 => ⟨S2x2048x2, .i1⟩
  | 80 => ⟨S_, .i32⟩
  | 81 => ⟨S2x2048x2, .i32⟩
  | 82 => ⟨S2x2048x2, .i32⟩
  | 83 => ⟨S2x2048x2, .i32⟩
  | 84 => ⟨S2x2048x2x1, .i32⟩
  | 85 => ⟨S1, .i32⟩
  | 86 => ⟨S_, .i32⟩
  | 87 => ⟨S2x2048x2x1, .i32⟩
  | 88 => ⟨S2x2048x2x1, .i1⟩
  | 89 => ⟨S1x1x1x1, .i32⟩
  | 90 => ⟨S2x2048x2x1, .i32⟩
  | 91 => ⟨S2x2048x2x1, .i1⟩
  | 92 => ⟨S2x2048x2x1, .i1⟩
  | 93 => ⟨S_, .i1⟩
  | 94 => ⟨S2x2048x2, .i1⟩
  | 95 => ⟨S2x2048x2, .i32⟩
  | 96 => ⟨S_, .i32⟩
  | 97 => ⟨S2x2048x2, .i32⟩
  | 98 => ⟨S2x2048x2, .i32⟩
  | 99 => ⟨S_, .i32⟩
  | 100 => ⟨S2x2048x2, .i32⟩
  | 101 => ⟨S2x2048x2, .i32⟩
  | 102 => ⟨S2, .i32⟩
  | 103 => ⟨S2x1x1, .i32⟩
  | 104 => ⟨S_, .i32⟩
  | 105 => ⟨S2x1x1, .i32⟩
  | 106 => ⟨S2x1x1, .i32⟩
  | 107 => ⟨S2x2048x2, .i32⟩
  | 108 => ⟨S2x2048x2, .i32⟩
  | 109 => ⟨S_, .i32⟩
  | 110 => ⟨S2x2048x2, .i32⟩
  | 111 => ⟨S2x2048x2, .i32⟩
  | 112 => ⟨S2x2048x2, .i32⟩
  | 113 => ⟨S32768x192, .f32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x192, .f32⟩
  | 124 => ⟨S2x2048x2x192, .f32⟩
  | 125 => ⟨S_, .f32⟩
  | 126 => ⟨S2x2048x192, .f32⟩
  | 127 => ⟨S1x1x192, .f32⟩
  | _ => ⟨S2x192x16x16x8, .f32⟩

abbrev hbmTy0_2 (i : Nat) : BufTy := match i % 128 with
  | 0 => ⟨S2x2048x192, .f32⟩
  | 1 => ⟨S2x2048x192, .f32⟩
  | 2 => ⟨S2x2048x192, .f32⟩
  | 3 => ⟨S2x16x16x8x192, .f32⟩
  | 4 => ⟨S2x192x16x16x8, .f32⟩
  | _ => ⟨S2x192x16x16x8, .f32⟩

abbrev hbmTy (i : Nat) : BufTy := match i / 128 with
  | 0 => hbmTy0_0 i
  | 1 => hbmTy0_1 i
  | 2 => hbmTy0_2 i
  | _ => ⟨S2x192x16x16x8, .f32⟩

abbrev bufTy : (tb : Table) → Fin (tcTables nBuf tb) → BufTy
  | .hbm, ⟨i, _⟩ => hbmTy i
  | .local _ .vmem, ⟨0, _⟩ => ⟨S1x1x2048x192, .f32⟩
  | .local _ .vmem, ⟨1, _⟩ => ⟨S1x1x2048x192, .f32⟩
  | .local _ .vmem, ⟨2, _⟩ => ⟨S1x1x2048x1, .f32⟩
  | .local _ .vmem, ⟨3, _⟩ => ⟨S1x1x2048x1, .f32⟩
  | .local _ .vmem, ⟨4, _⟩ => ⟨S1x192x768, .f32⟩
  | .local _ .vmem, ⟨5, _⟩ => ⟨S1x192x768, .f32⟩
  | .local _ .vmem, ⟨6, _⟩ => ⟨S1x384x4, .f32⟩
  | .local _ .vmem, ⟨7, _⟩ => ⟨S1x384x4, .f32⟩
  | .local _ .vmem, ⟨8, _⟩ => ⟨S1x1x384, .f32⟩
  | .local _ .vmem, ⟨9, _⟩ => ⟨S1x1x384, .f32⟩
  | .local _ .vmem, ⟨10, _⟩ => ⟨S1x384x44, .f32⟩
  | .local _ .vmem, ⟨11, _⟩ => ⟨S1x384x44, .f32⟩
  | .local _ .vmem, ⟨12, _⟩ => ⟨S1x12x384, .f32⟩
  | .local _ .vmem, ⟨13, _⟩ => ⟨S1x12x384, .f32⟩
  | .local _ .vmem, ⟨14, _⟩ => ⟨S1x1x384, .f32⟩
  | .local _ .vmem, ⟨15, _⟩ => ⟨S1x1x384, .f32⟩
  | .local _ .vmem, ⟨16, _⟩ => ⟨S1x384x16, .f32⟩
  | .local _ .vmem, ⟨17, _⟩ => ⟨S1x384x16, .f32⟩
  | .local _ .vmem, ⟨18, _⟩ => ⟨S1x1x384, .f32⟩
  | .local _ .vmem, ⟨19, _⟩ => ⟨S1x1x384, .f32⟩
  | .local _ .vmem, ⟨20, _⟩ => ⟨S1x384x192, .f32⟩
  | .local _ .vmem, ⟨21, _⟩ => ⟨S1x384x192, .f32⟩
  | .local _ .vmem, ⟨22, _⟩ => ⟨S1x1x2048x192, .f32⟩
  | .local _ .vmem, ⟨23, _⟩ => ⟨S1x1x2048x192, .f32⟩
  | .local _ .vmem, ⟨24, _⟩ => ⟨S2048x384, .f32⟩
  | .local _ .vmem, ⟨25, _⟩ => ⟨S2048x384, .f32⟩
  | .local _ .vmem, ⟨26, _⟩ => ⟨S2048x16, .f32⟩
  | .local _ .vmem, ⟨27, _⟩ => ⟨S2048x16, .f32⟩
  | .local _ .vmem, ⟨28, _⟩ => ⟨S2048x384, .f32⟩
  | .local _ .smem, ⟨0, _⟩ => ⟨S1x1x1x1, .i32⟩
  | .local _ .smem, ⟨1, _⟩ => ⟨S1x1x1x1, .i32⟩
  | _, _ => ⟨S2x192x16x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_cst_1 : Ref sig .tc := ⟨.hbm, 25, rfl⟩
abbrev main_call0_v9 : Ref sig .tc := ⟨.hbm, 26, rfl⟩
abbrev main_call0_v10 : Ref sig .tc := ⟨.hbm, 27, rfl⟩
abbrev main_call0_cst_2 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst_3 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_cst_4 : Ref sig .tc := ⟨.hbm, 46, rfl⟩
abbrev main_call0_v27 : Ref sig .tc := ⟨.hbm, 47, rfl⟩
abbrev main_call0_cst_5 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_cst_6 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_values : Ref sig .tc := ⟨.hbm, 60, rfl⟩
abbrev main_call0_indices : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_v38 : Ref sig .tc := ⟨.hbm, 67, rfl⟩
abbrev main_call0_cst_7 : Ref sig .tc := ⟨.hbm, 68, rfl⟩
abbrev main_call0_v39 : Ref sig .tc := ⟨.hbm, 69, rfl⟩
abbrev main_call0_v40 : Ref sig .tc := ⟨.hbm, 70, rfl⟩
abbrev main_call0_cst_8 : Ref sig .tc := ⟨.hbm, 71, rfl⟩
abbrev main_call0_v41 : Ref sig .tc := ⟨.hbm, 72, rfl⟩
abbrev main_call0_cst_9 : Ref sig .tc := ⟨.hbm, 73, rfl⟩
abbrev main_call0_v42 : Ref sig .tc := ⟨.hbm, 74, rfl⟩
abbrev main_call0_v43 : Ref sig .tc := ⟨.hbm, 75, rfl⟩
abbrev main_call0_cst_10 : Ref sig .tc := ⟨.hbm, 76, rfl⟩
abbrev main_call0_v44 : Ref sig .tc := ⟨.hbm, 77, rfl⟩
abbrev main_call0_cst_11 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_cst_12 : Ref sig .tc := ⟨.hbm, 82, rfl⟩
abbrev main_call0_v48 : Ref sig .tc := ⟨.hbm, 83, rfl⟩
abbrev main_call0_cst_13 : Ref sig .tc := ⟨.hbm, 84, rfl⟩
abbrev main_v0_1 : Ref sig .tc := ⟨.hbm, 85, rfl⟩
abbrev main_call0_v50 : Ref sig .tc := ⟨.hbm, 86, rfl⟩
abbrev main_call0_v51 : Ref sig .tc := ⟨.hbm, 87, rfl⟩
abbrev main_call0_call1_call0_c : Ref sig .tc := ⟨.hbm, 88, rfl⟩
abbrev main_call0_call1_call0_v0 : Ref sig .tc := ⟨.hbm, 89, rfl⟩
abbrev main_call0_v52 : Ref sig .tc := ⟨.hbm, 90, rfl⟩
abbrev main_call0_c : Ref sig .tc := ⟨.hbm, 91, rfl⟩
abbrev main_call0_v53 : Ref sig .tc := ⟨.hbm, 92, rfl⟩
abbrev main_call0_v54 : Ref sig .tc := ⟨.hbm, 93, rfl⟩
abbrev main_call0_call2_call0_c : Ref sig .tc := ⟨.hbm, 94, rfl⟩
abbrev main_call0_call2_call0_v0 : Ref sig .tc := ⟨.hbm, 95, rfl⟩
abbrev main_call0_v55 : Ref sig .tc := ⟨.hbm, 96, rfl⟩
abbrev main_call0_v56 : Ref sig .tc := ⟨.hbm, 97, rfl⟩
abbrev main_call0_v57 : Ref sig .tc := ⟨.hbm, 98, rfl⟩
abbrev main_call0_c_14 : Ref sig .tc := ⟨.hbm, 99, rfl⟩
abbrev main_call0_v58 : Ref sig .tc := ⟨.hbm, 100, rfl⟩
abbrev main_call0_v59 : Ref sig .tc := ⟨.hbm, 101, rfl⟩
abbrev main_call0_c_15 : Ref sig .tc := ⟨.hbm, 102, rfl⟩
abbrev main_call0_v60 : Ref sig .tc := ⟨.hbm, 103, rfl⟩
abbrev main_call0_v61 : Ref sig .tc := ⟨.hbm, 104, rfl⟩
abbrev main_call0_v62 : Ref sig .tc := ⟨.hbm, 105, rfl⟩
abbrev main_call0_v63 : Ref sig .tc := ⟨.hbm, 106, rfl⟩
abbrev main_call0_v64 : Ref sig .tc := ⟨.hbm, 107, rfl⟩
abbrev main_call0_c_16 : Ref sig .tc := ⟨.hbm, 108, rfl⟩
abbrev main_call0_v65 : Ref sig .tc := ⟨.hbm, 109, rfl⟩
abbrev main_call0_v66 : Ref sig .tc := ⟨.hbm, 110, rfl⟩
abbrev main_call0_v67 : Ref sig .tc := ⟨.hbm, 111, rfl⟩
abbrev main_call0_v68 : Ref sig .tc := ⟨.hbm, 112, rfl⟩
abbrev main_call0_v69 : Ref sig .tc := ⟨.hbm, 113, rfl⟩
abbrev main_call0_c_17 : Ref sig .tc := ⟨.hbm, 114, rfl⟩
abbrev main_call0_v70 : Ref sig .tc := ⟨.hbm, 115, rfl⟩
abbrev main_call0_call4_v0 : Ref sig .tc := ⟨.hbm, 116, rfl⟩
abbrev main_call0_call4_v1 : Ref sig .tc := ⟨.hbm, 117, rfl⟩
abbrev main_call0_call4_v2 : Ref sig .tc := ⟨.hbm, 118, rfl⟩
abbrev main_call0_call4_v3 : Ref sig .tc := ⟨.hbm, 119, rfl⟩
abbrev main_call0_call4_v4 : Ref sig .tc := ⟨.hbm, 120, rfl⟩
abbrev main_call0_call4_v5 : Ref sig .tc := ⟨.hbm, 121, rfl⟩
abbrev main_call0_call4_c : Ref sig .tc := ⟨.hbm, 122, rfl⟩
abbrev main_call0_call4_v6 : Ref sig .tc := ⟨.hbm, 123, rfl⟩
abbrev main_call0_call4_v7 : Ref sig .tc := ⟨.hbm, 124, rfl⟩
abbrev main_call0_call4_c_0 : Ref sig .tc := ⟨.hbm, 125, rfl⟩
abbrev main_call0_call4_v8 : Ref sig .tc := ⟨.hbm, 126, rfl⟩
abbrev main_call0_call4_v9 : Ref sig .tc := ⟨.hbm, 127, rfl⟩
abbrev main_call0_call4_v10 : Ref sig .tc := ⟨.hbm, 128, rfl⟩
abbrev main_call0_call4_c_1 : Ref sig .tc := ⟨.hbm, 129, rfl⟩
abbrev main_call0_call4_v11 : Ref sig .tc := ⟨.hbm, 130, rfl⟩
abbrev main_call0_call4_v12 : Ref sig .tc := ⟨.hbm, 131, rfl⟩
abbrev main_call0_call4_c_2 : Ref sig .tc := ⟨.hbm, 132, rfl⟩
abbrev main_call0_call4_v13 : Ref sig .tc := ⟨.hbm, 133, rfl⟩
abbrev main_call0_call4_v14 : Ref sig .tc := ⟨.hbm, 134, rfl⟩
abbrev main_call0_call4_v15 : Ref sig .tc := ⟨.hbm, 135, rfl⟩
abbrev main_call0_call4_c_3 : Ref sig .tc := ⟨.hbm, 136, rfl⟩
abbrev main_call0_call4_v16 : Ref sig .tc := ⟨.hbm, 137, rfl⟩
abbrev main_call0_call4_v17 : Ref sig .tc := ⟨.hbm, 138, rfl⟩
abbrev main_call0_call4_c_4 : Ref sig .tc := ⟨.hbm, 139, rfl⟩
abbrev main_call0_call4_v18 : Ref sig .tc := ⟨.hbm, 140, rfl⟩
abbrev main_call0_call4_v19 : Ref sig .tc := ⟨.hbm, 141, rfl⟩
abbrev main_call0_call4_v20 : Ref sig .tc := ⟨.hbm, 142, rfl⟩
abbrev main_call0_call4_v21 : Ref sig .tc := ⟨.hbm, 143, rfl⟩
abbrev main_call0_call4_v22 : Ref sig .tc := ⟨.hbm, 144, rfl⟩
abbrev main_call0_call4_v23 : Ref sig .tc := ⟨.hbm, 145, rfl⟩
abbrev main_call0_call4_v24 : Ref sig .tc := ⟨.hbm, 146, rfl⟩
abbrev main_call0_call4_v25 : Ref sig .tc := ⟨.hbm, 147, rfl⟩
abbrev main_call0_call4_v26 : Ref sig .tc := ⟨.hbm, 148, rfl⟩
abbrev main_call0_v71 : Ref sig .tc := ⟨.hbm, 149, rfl⟩
abbrev main_call0_v72 : Ref sig .tc := ⟨.hbm, 150, rfl⟩
abbrev main_call0_v73 : Ref sig .tc := ⟨.hbm, 151, rfl⟩
abbrev main_call0_call5_c : Ref sig .tc := ⟨.hbm, 152, rfl⟩
abbrev main_call0_call5_v0 : Ref sig .tc := ⟨.hbm, 153, rfl⟩
abbrev main_call0_call5_v1 : Ref sig .tc := ⟨.hbm, 154, rfl⟩
abbrev main_call0_call5_c_0 : Ref sig .tc := ⟨.hbm, 155, rfl⟩
abbrev main_call0_call5_v2 : Ref sig .tc := ⟨.hbm, 156, rfl⟩
abbrev main_call0_call5_v3 : Ref sig .tc := ⟨.hbm, 157, rfl⟩
abbrev main_call0_call5_v4 : Ref sig .tc := ⟨.hbm, 158, rfl⟩
abbrev main_call0_call5_v5 : Ref sig .tc := ⟨.hbm, 159, rfl⟩
abbrev main_call0_call5_c_1 : Ref sig .tc := ⟨.hbm, 160, rfl⟩
abbrev main_call0_call5_c_2 : Ref sig .tc := ⟨.hbm, 161, rfl⟩
abbrev main_call0_call5_v6 : Ref sig .tc := ⟨.hbm, 162, rfl⟩
abbrev main_call0_call5_v7 : Ref sig .tc := ⟨.hbm, 163, rfl⟩
abbrev main_call0_call5_v8 : Ref sig .tc := ⟨.hbm, 164, rfl⟩
abbrev main_call0_call5_v9 : Ref sig .tc := ⟨.hbm, 165, rfl⟩
abbrev main_call0_call5_v10 : Ref sig .tc := ⟨.hbm, 166, rfl⟩
abbrev main_call0_call5_v11 : Ref sig .tc := ⟨.hbm, 167, rfl⟩
abbrev main_call0_call5_c_3 : Ref sig .tc := ⟨.hbm, 168, rfl⟩
abbrev main_call0_call5_v12 : Ref sig .tc := ⟨.hbm, 169, rfl⟩
abbrev main_call0_call5_v13 : Ref sig .tc := ⟨.hbm, 170, rfl⟩
abbrev main_call0_call5_v14 : Ref sig .tc := ⟨.hbm, 171, rfl⟩
abbrev main_call0_call5_cst : Ref sig .tc := ⟨.hbm, 172, rfl⟩
abbrev main_call0_call5_v15 : Ref sig .tc := ⟨.hbm, 173, rfl⟩
abbrev main_call0_v74 : Ref sig .tc := ⟨.hbm, 174, rfl⟩
abbrev main_call0_v75 : Ref sig .tc := ⟨.hbm, 175, rfl⟩
abbrev main_call0_call6_c : Ref sig .tc := ⟨.hbm, 176, rfl⟩
abbrev main_call0_call6_v0 : Ref sig .tc := ⟨.hbm, 177, rfl⟩
abbrev main_call0_call6_v1 : Ref sig .tc := ⟨.hbm, 178, rfl⟩
abbrev main_call0_call6_c_0 : Ref sig .tc := ⟨.hbm, 179, rfl⟩
abbrev main_call0_call6_v2 : Ref sig .tc := ⟨.hbm, 180, rfl⟩
abbrev main_call0_call6_v3 : Ref sig .tc := ⟨.hbm, 181, rfl⟩
abbrev main_call0_call6_v4 : Ref sig .tc := ⟨.hbm, 182, rfl⟩
abbrev main_call0_call6_v5 : Ref sig .tc := ⟨.hbm, 183, rfl⟩
abbrev main_call0_call6_c_1 : Ref sig .tc := ⟨.hbm, 184, rfl⟩
abbrev main_call0_call6_c_2 : Ref sig .tc := ⟨.hbm, 185, rfl⟩
abbrev main_call0_call6_v6 : Ref sig .tc := ⟨.hbm, 186, rfl⟩
abbrev main_call0_call6_v7 : Ref sig .tc := ⟨.hbm, 187, rfl⟩
abbrev main_call0_call6_v8 : Ref sig .tc := ⟨.hbm, 188, rfl⟩
abbrev main_call0_call6_v9 : Ref sig .tc := ⟨.hbm, 189, rfl⟩
abbrev main_call0_call6_v10 : Ref sig .tc := ⟨.hbm, 190, rfl⟩
abbrev main_call0_call6_v11 : Ref sig .tc := ⟨.hbm, 191, rfl⟩
abbrev main_call0_call6_c_3 : Ref sig .tc := ⟨.hbm, 192, rfl⟩
abbrev main_call0_call6_v12 : Ref sig .tc := ⟨.hbm, 193, rfl⟩
abbrev main_call0_call6_v13 : Ref sig .tc := ⟨.hbm, 194, rfl⟩
abbrev main_call0_call6_cst : Ref sig .tc := ⟨.hbm, 195, rfl⟩
abbrev main_call0_call6_v14 : Ref sig .tc := ⟨.hbm, 196, rfl⟩
abbrev main_call0_v76 : Ref sig .tc := ⟨.hbm, 197, rfl⟩
abbrev main_call0_v77 : Ref sig .tc := ⟨.hbm, 198, rfl⟩
abbrev main_call0_v78 : Ref sig .tc := ⟨.hbm, 199, rfl⟩
abbrev main_call0_v79 : Ref sig .tc := ⟨.hbm, 200, rfl⟩
abbrev main_call0_v80 : Ref sig .tc := ⟨.hbm, 201, rfl⟩
abbrev main_call0_v81 : Ref sig .tc := ⟨.hbm, 202, rfl⟩
abbrev main_call0_v82 : Ref sig .tc := ⟨.hbm, 203, rfl⟩
abbrev main_call0_v83 : Ref sig .tc := ⟨.hbm, 204, rfl⟩
abbrev main_call0_call7_c : Ref sig .tc := ⟨.hbm, 205, rfl⟩
abbrev main_call0_call7_v0 : Ref sig .tc := ⟨.hbm, 206, rfl⟩
abbrev main_call0_call7_v1 : Ref sig .tc := ⟨.hbm, 207, rfl⟩
abbrev main_call0_call7_c_0 : Ref sig .tc := ⟨.hbm, 208, rfl⟩
abbrev main_call0_call7_v2 : Ref sig .tc := ⟨.hbm, 209, rfl⟩
abbrev main_call0_call7_v3 : Ref sig .tc := ⟨.hbm, 210, rfl⟩
abbrev main_call0_call7_v4 : Ref sig .tc := ⟨.hbm, 211, rfl⟩
abbrev main_call0_call7_v5 : Ref sig .tc := ⟨.hbm, 212, rfl⟩
abbrev main_call0_call7_c_1 : Ref sig .tc := ⟨.hbm, 213, rfl⟩
abbrev main_call0_call7_c_2 : Ref sig .tc := ⟨.hbm, 214, rfl⟩
abbrev main_call0_call7_v6 : Ref sig .tc := ⟨.hbm, 215, rfl⟩
abbrev main_call0_call7_v7 : Ref sig .tc := ⟨.hbm, 216, rfl⟩
abbrev main_call0_call7_v8 : Ref sig .tc := ⟨.hbm, 217, rfl⟩
abbrev main_call0_call7_v9 : Ref sig .tc := ⟨.hbm, 218, rfl⟩
abbrev main_call0_call7_v10 : Ref sig .tc := ⟨.hbm, 219, rfl⟩
abbrev main_call0_call7_v11 : Ref sig .tc := ⟨.hbm, 220, rfl⟩
abbrev main_call0_call7_c_3 : Ref sig .tc := ⟨.hbm, 221, rfl⟩
abbrev main_call0_call7_v12 : Ref sig .tc := ⟨.hbm, 222, rfl⟩
abbrev main_call0_call7_v13 : Ref sig .tc := ⟨.hbm, 223, rfl⟩
abbrev main_call0_call7_c_4 : Ref sig .tc := ⟨.hbm, 224, rfl⟩
abbrev main_call0_call7_v14 : Ref sig .tc := ⟨.hbm, 225, rfl⟩
abbrev main_call0_v84 : Ref sig .tc := ⟨.hbm, 226, rfl⟩
abbrev main_call0_c_18 : Ref sig .tc := ⟨.hbm, 227, rfl⟩
abbrev main_call0_v85 : Ref sig .tc := ⟨.hbm, 228, rfl⟩
abbrev main_call0_v86 : Ref sig .tc := ⟨.hbm, 229, rfl⟩
abbrev main_call0_v87 : Ref sig .tc := ⟨.hbm, 230, rfl⟩
abbrev main_call0_v88 : Ref sig .tc := ⟨.hbm, 231, rfl⟩
abbrev main_call0_c_19 : Ref sig .tc := ⟨.hbm, 232, rfl⟩
abbrev main_call0_v89 : Ref sig .tc := ⟨.hbm, 233, rfl⟩
abbrev main_call0_v90 : Ref sig .tc := ⟨.hbm, 234, rfl⟩
abbrev main_call0_v91 : Ref sig .tc := ⟨.hbm, 235, rfl⟩
abbrev main_call0_v92 : Ref sig .tc := ⟨.hbm, 236, rfl⟩
abbrev main_call0_c_20 : Ref sig .tc := ⟨.hbm, 237, rfl⟩
abbrev main_call0_v93 : Ref sig .tc := ⟨.hbm, 238, rfl⟩
abbrev main_call0_v94 : Ref sig .tc := ⟨.hbm, 239, rfl⟩
abbrev main_call0_v95 : Ref sig .tc := ⟨.hbm, 240, rfl⟩
abbrev main_call0_v96 : Ref sig .tc := ⟨.hbm, 241, rfl⟩
abbrev main_call0_v97 : Ref sig .tc := ⟨.hbm, 242, rfl⟩
abbrev main_call0_c_21 : Ref sig .tc := ⟨.hbm, 243, rfl⟩
abbrev main_call0_v98 : Ref sig .tc := ⟨.hbm, 244, rfl⟩
abbrev main_call0_v99 : Ref sig .tc := ⟨.hbm, 245, rfl⟩
abbrev main_call0_c_22 : Ref sig .tc := ⟨.hbm, 246, rfl⟩
abbrev main_call0_v100 : Ref sig .tc := ⟨.hbm, 247, rfl⟩
abbrev main_call0_v101 : Ref sig .tc := ⟨.hbm, 248, rfl⟩
abbrev main_call0_v102 : Ref sig .tc := ⟨.hbm, 249, rfl⟩
abbrev main_call0_v103 : Ref sig .tc := ⟨.hbm, 250, rfl⟩
abbrev main_call0_v104 : Ref sig .tc := ⟨.hbm, 251, rfl⟩
abbrev main_call0_v105 : Ref sig .tc := ⟨.hbm, 252, rfl⟩
abbrev main_call0_cst_23 : Ref sig .tc := ⟨.hbm, 253, rfl⟩
abbrev main_call0_v106 : Ref sig .tc := ⟨.hbm, 254, rfl⟩
abbrev main_call0_v107 : Ref sig .tc := ⟨.hbm, 255, rfl⟩
abbrev main_call0_v108 : Ref sig .tc := ⟨.hbm, 256, rfl⟩
abbrev main_call0_v109 : Ref sig .tc := ⟨.hbm, 257, rfl⟩
abbrev main_call0_v110 : Ref sig .tc := ⟨.hbm, 258, rfl⟩
abbrev main_call0_v111 : Ref sig .tc := ⟨.hbm, 259, rfl⟩
abbrev main_v0_0 : Ref sig .tc := ⟨.hbm, 260, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

@[reducible] def k0_t1_loop (v92 : BitVec 32) : Scf.Loop 32 :=
  let c0_i32_54 : BitVec 32 := 0#32
  let c128_i32 : BitVec 32 := 128#32
  let v93 : BitVec 32 := Scalar.addi v92 c128_i32
  let c1_i32 : BitVec 32 := 1#32
  let v94 : BitVec 32 := Scalar.subi v93 c1_i32
  let c0_i32 : BitVec 32 := 0#32
  let v96 : BitVec 1 := Scalar.cmpi .sgt v94 c0_i32
  let v97 : BitVec 32 := Scalar.extui v96
  let c0_i32_48 : BitVec 32 := 0#32
  let v98 : BitVec 1 := Scalar.cmpi .slt v94 c0_i32_48
  let v99 : BitVec 32 := Scalar.extui v98
  let v100 : BitVec 32 := Scalar.subi v97 v99
  let c128_i32_47 : BitVec 32 := 128#32
  let c0_i32_49 : BitVec 32 := 0#32
  let v101 : BitVec 1 := Scalar.cmpi .sgt c128_i32_47 c0_i32_49
  let v102 : BitVec 32 := Scalar.extui v101
  let c0_i32_50 : BitVec 32 := 0#32
  let v103 : BitVec 1 := Scalar.cmpi .slt c128_i32_47 c0_i32_50
  let v104 : BitVec 32 := Scalar.extui v103
  let v105 : BitVec 32 := Scalar.subi v102 v104
  let v106 : BitVec 1 := Scalar.cmpi .ne v100 v105
  let v107 : BitVec 32 := Scalar.remsi v94 c128_i32_47
  let c0_i32_51 : BitVec 32 := 0#32
  let v108 : BitVec 1 := Scalar.cmpi .ne v107 c0_i32_51
  let v109 : BitVec 1 := Scalar.andi v106 v108
  let v95 : BitVec 32 := Scalar.divsi v94 c128_i32_47
  let c1_i32_52 : BitVec 32 := 1#32
  let v110 : BitVec 32 := Scalar.subi v95 c1_i32_52
  let v111 : BitVec 32 := Scalar.select v109 v110 v95
  let v113 : BitVec 32 := Scalar.subi v111 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_56 : BitVec 32 := 1#32
  ⟨c0_i32_54, v117, c1_i32_56⟩

def k0_off1 (v92 : BitVec 32) (k0_t1 : Fin (k0_t1_loop v92).trips) : Fin 2 → Nat :=
  let c0_i32_54 : BitVec 32 := 0#32
  let c1_i32_56 : BitVec 32 := 1#32
  let arg20 : BitVec 32 := Scf.iv c0_i32_54 c1_i32_56 k0_t1
  let c128_i32_75 : BitVec 32 := 128#32
  let v140 : BitVec 32 := Scalar.muli arg20 c128_i32_75
  let v141 : Index := Scalar.indexCast v140
  let c0_76 : Index := 0#32
  ![v141.toNat, 0]
def k0_off2 (v92 : BitVec 32) (k0_t1 : Fin (k0_t1_loop v92).trips) : Fin 2 → Nat :=
  let c0_i32_54 : BitVec 32 := 0#32
  let c1_i32_56 : BitVec 32 := 1#32
  let arg20 : BitVec 32 := Scf.iv c0_i32_54 c1_i32_56 k0_t1
  let c128_i32_75 : BitVec 32 := 128#32
  let v140 : BitVec 32 := Scalar.muli arg20 c128_i32_75
  let v145 : Index := Scalar.indexCast v140
  let c0_78 : Index := 0#32
  ![v145.toNat, 0]
@[reducible] def k0_t2_loop (v92 : BitVec 32) : Scf.Loop 32 :=
  let c0_i32_54 : BitVec 32 := 0#32
  let c128_i32 : BitVec 32 := 128#32
  let v93 : BitVec 32 := Scalar.addi v92 c128_i32
  let c1_i32 : BitVec 32 := 1#32
  let v94 : BitVec 32 := Scalar.subi v93 c1_i32
  let c0_i32 : BitVec 32 := 0#32
  let v96 : BitVec 1 := Scalar.cmpi .sgt v94 c0_i32
  let v97 : BitVec 32 := Scalar.extui v96
  let c0_i32_48 : BitVec 32 := 0#32
  let v98 : BitVec 1 := Scalar.cmpi .slt v94 c0_i32_48
  let v99 : BitVec 32 := Scalar.extui v98
  let v100 : BitVec 32 := Scalar.subi v97 v99
  let c128_i32_47 : BitVec 32 := 128#32
  let c0_i32_49 : BitVec 32 := 0#32
  let v101 : BitVec 1 := Scalar.cmpi .sgt c128_i32_47 c0_i32_49
  let v102 : BitVec 32 := Scalar.extui v101
  let c0_i32_50 : BitVec 32 := 0#32
  let v103 : BitVec 1 := Scalar.cmpi .slt c128_i32_47 c0_i32_50
  let v104 : BitVec 32 := Scalar.extui v103
  let v105 : BitVec 32 := Scalar.subi v102 v104
  let v106 : BitVec 1 := Scalar.cmpi .ne v100 v105
  let v107 : BitVec 32 := Scalar.remsi v94 c128_i32_47
  let c0_i32_51 : BitVec 32 := 0#32
  let v108 : BitVec 1 := Scalar.cmpi .ne v107 c0_i32_51
  let v109 : BitVec 1 := Scalar.andi v106 v108
  let v95 : BitVec 32 := Scalar.divsi v94 c128_i32_47
  let c1_i32_52 : BitVec 32 := 1#32
  let v110 : BitVec 32 := Scalar.subi v95 c1_i32_52
  let v111 : BitVec 32 := Scalar.select v109 v110 v95
  let v113 : BitVec 32 := Scalar.subi v111 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let v114 : BitVec 32 := Scalar.addi c0_i32_54 v113
  let c1_i32_57 : BitVec 32 := 1#32
  ⟨v117, v114, c1_i32_57⟩
def k0_off3 (v92 : BitVec 32) (k0_t2 : Fin (k0_t2_loop v92).trips) : Fin 2 → Nat :=
  let c0_i32_54 : BitVec 32 := 0#32
  let c128_i32 : BitVec 32 := 128#32
  let v93 : BitVec 32 := Scalar.addi v92 c128_i32
  let c1_i32 : BitVec 32 := 1#32
  let v94 : BitVec 32 := Scalar.subi v93 c1_i32
  let c0_i32 : BitVec 32 := 0#32
  let v96 : BitVec 1 := Scalar.cmpi .sgt v94 c0_i32
  let v97 : BitVec 32 := Scalar.extui v96
  let c0_i32_48 : BitVec 32 := 0#32
  let v98 : BitVec 1 := Scalar.cmpi .slt v94 c0_i32_48
  let v99 : BitVec 32 := Scalar.extui v98
  let v100 : BitVec 32 := Scalar.subi v97 v99
  let c128_i32_47 : BitVec 32 := 128#32
  let c0_i32_49 : BitVec 32 := 0#32
  let v101 : BitVec 1 := Scalar.cmpi .sgt c128_i32_47 c0_i32_49
  let v102 : BitVec 32 := Scalar.extui v101
  let c0_i32_50 : BitVec 32 := 0#32
  let v103 : BitVec 1 := Scalar.cmpi .slt c128_i32_47 c0_i32_50
  let v104 : BitVec 32 := Scalar.extui v103
  let v105 : BitVec 32 := Scalar.subi v102 v104
  let v106 : BitVec 1 := Scalar.cmpi .ne v100 v105
  let v107 : BitVec 32 := Scalar.remsi v94 c128_i32_47
  let c0_i32_51 : BitVec 32 := 0#32
  let v108 : BitVec 1 := Scalar.cmpi .ne v107 c0_i32_51
  let v109 : BitVec 1 := Scalar.andi v106 v108
  let v95 : BitVec 32 := Scalar.divsi v94 c128_i32_47
  let c1_i32_52 : BitVec 32 := 1#32
  let v110 : BitVec 32 := Scalar.subi v95 c1_i32_52
  let v111 : BitVec 32 := Scalar.select v109 v110 v95
  let v113 : BitVec 32 := Scalar.subi v111 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg20 : BitVec 32 := Scf.iv v117 c1_i32_57 k0_t2
  let c128_i32_75 : BitVec 32 := 128#32
  let v140 : BitVec 32 := Scalar.muli arg20 c128_i32_75
  let v141 : Index := Scalar.indexCast v140
  let c0_76 : Index := 0#32
  ![v141.toNat, 0]
def k0_off4 (v92 : BitVec 32) (k0_t2 : Fin (k0_t2_loop v92).trips) : Fin 2 → Nat :=
  let c0_i32_54 : BitVec 32 := 0#32
  let c128_i32 : BitVec 32 := 128#32
  let v93 : BitVec 32 := Scalar.addi v92 c128_i32
  let c1_i32 : BitVec 32 := 1#32
  let v94 : BitVec 32 := Scalar.subi v93 c1_i32
  let c0_i32 : BitVec 32 := 0#32
  let v96 : BitVec 1 := Scalar.cmpi .sgt v94 c0_i32
  let v97 : BitVec 32 := Scalar.extui v96
  let c0_i32_48 : BitVec 32 := 0#32
  let v98 : BitVec 1 := Scalar.cmpi .slt v94 c0_i32_48
  let v99 : BitVec 32 := Scalar.extui v98
  let v100 : BitVec 32 := Scalar.subi v97 v99
  let c128_i32_47 : BitVec 32 := 128#32
  let c0_i32_49 : BitVec 32 := 0#32
  let v101 : BitVec 1 := Scalar.cmpi .sgt c128_i32_47 c0_i32_49
  let v102 : BitVec 32 := Scalar.extui v101
  let c0_i32_50 : BitVec 32 := 0#32
  let v103 : BitVec 1 := Scalar.cmpi .slt c128_i32_47 c0_i32_50
  let v104 : BitVec 32 := Scalar.extui v103
  let v105 : BitVec 32 := Scalar.subi v102 v104
  let v106 : BitVec 1 := Scalar.cmpi .ne v100 v105
  let v107 : BitVec 32 := Scalar.remsi v94 c128_i32_47
  let c0_i32_51 : BitVec 32 := 0#32
  let v108 : BitVec 1 := Scalar.cmpi .ne v107 c0_i32_51
  let v109 : BitVec 1 := Scalar.andi v106 v108
  let v95 : BitVec 32 := Scalar.divsi v94 c128_i32_47
  let c1_i32_52 : BitVec 32 := 1#32
  let v110 : BitVec 32 := Scalar.subi v95 c1_i32_52
  let v111 : BitVec 32 := Scalar.select v109 v110 v95
  let v113 : BitVec 32 := Scalar.subi v111 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg20 : BitVec 32 := Scf.iv v117 c1_i32_57 k0_t2
  let c128_i32_75 : BitVec 32 := 128#32
  let v140 : BitVec 32 := Scalar.muli arg20 c128_i32_75
  let v145 : Index := Scalar.indexCast v140
  let c0_78 : Index := 0#32
  ![v145.toNat, 0]

def k0_chk1 (v92 : BitVec 32) : Prop :=
  ((k0_t1_loop v92).OK) ∧
  (∀ k0_t1 : Fin (k0_t1_loop v92).trips, ∀ a, (k0_off1 v92 k0_t1) a + S128x384.size a ≤ S2048x384.size a) ∧
  (∀ k0_t1 : Fin (k0_t1_loop v92).trips, ∀ a, (k0_off2 v92 k0_t1) a + S128x16.size a ≤ S2048x16.size a) ∧
  ((k0_t2_loop v92).OK) ∧
  (∀ k0_t2 : Fin (k0_t2_loop v92).trips, ∀ a, (k0_off3 v92 k0_t2) a + S128x384.size a ≤ S2048x384.size a) ∧
  (∀ k0_t2 : Fin (k0_t2_loop v92).trips, ∀ a, (k0_off4 v92 k0_t2) a + S128x16.size a ≤ S2048x16.size a)
theorem k0_t1_ok : ∀ (v92 : BitVec 32) (k0_hw1 : k0_chk1 v92), (k0_t1_loop v92).OK := fun v92 k0_hw1 => k0_hw1.1
theorem k0_off1_inb : ∀ (v92 : BitVec 32) (k0_hw1 : k0_chk1 v92) (k0_t1 : Fin (k0_t1_loop v92).trips), ∀ a, (k0_off1 v92 k0_t1) a + S128x384.size a ≤ S2048x384.size a := fun v92 k0_hw1 k0_t1 => k0_hw1.2.1 k0_t1
theorem k0_off2_inb : ∀ (v92 : BitVec 32) (k0_hw1 : k0_chk1 v92) (k0_t1 : Fin (k0_t1_loop v92).trips), ∀ a, (k0_off2 v92 k0_t1) a + S128x16.size a ≤ S2048x16.size a := fun v92 k0_hw1 k0_t1 => k0_hw1.2.2.1 k0_t1
theorem k0_t2_ok : ∀ (v92 : BitVec 32) (k0_hw1 : k0_chk1 v92), (k0_t2_loop v92).OK := fun v92 k0_hw1 => k0_hw1.2.2.2.1
theorem k0_off3_inb : ∀ (v92 : BitVec 32) (k0_hw1 : k0_chk1 v92) (k0_t2 : Fin (k0_t2_loop v92).trips), ∀ a, (k0_off3 v92 k0_t2) a + S128x384.size a ≤ S2048x384.size a := fun v92 k0_hw1 k0_t2 => k0_hw1.2.2.2.2.1 k0_t2
theorem k0_off4_inb : ∀ (v92 : BitVec 32) (k0_hw1 : k0_chk1 v92) (k0_t2 : Fin (k0_t2_loop v92).trips), ∀ a, (k0_off4 v92 k0_t2) a + S128x16.size a ≤ S2048x16.size a := fun v92 k0_hw1 k0_t2 => k0_hw1.2.2.2.2.2 k0_t2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x384x44 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x12x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x384x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x384x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x2048x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "softplus_cut" => some ⊤
  | _ => none
-- ==== ReferenceIdeal.lean ====
abbrev S2x192x16x16x8 : Shape := ⟨5, ![2, 192, 16, 16, 8]⟩
abbrev S192 : Shape := ⟨1, ![192]⟩
abbrev S192x8 : Shape := ⟨2, ![192, 8]⟩
abbrev S8x192x768 : Shape := ⟨3, ![8, 192, 768]⟩
abbrev S8x384x4 : Shape := ⟨3, ![8, 384, 4]⟩
abbrev S8x384 : Shape := ⟨2, ![8, 384]⟩
abbrev S8x384x44 : Shape := ⟨3, ![8, 384, 44]⟩
abbrev S8x12x384 : Shape := ⟨3, ![8, 12, 384]⟩
abbrev S8x384x16 : Shape := ⟨3, ![8, 384, 16]⟩
abbrev S8x384x192 : Shape := ⟨3, ![8, 384, 192]⟩
abbrev S2x192x2048 : Shape := ⟨3, ![2, 192, 2048]⟩
abbrev S2x2048x192 : Shape := ⟨3, ![2, 2048, 192]⟩
abbrev S_ : Shape := ⟨0, ![]⟩
abbrev S2x2048 : Shape := ⟨2, ![2, 2048]⟩
abbrev S2x2048x1 : Shape := ⟨3, ![2, 2048, 1]⟩
abbrev S1x1x192 : Shape := ⟨3, ![1, 1, 192]⟩
abbrev S2x2048x8 : Shape := ⟨3, ![2, 2048, 8]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S8 : Shape := ⟨1, ![8]⟩
abbrev S2x8x2048 : Shape := ⟨3, ![2, 8, 2048]⟩
abbrev S2048 : Shape := ⟨1, ![2048]⟩
abbrev S8x2048 : Shape := ⟨2, ![8, 2048]⟩
abbrev S2x8x2048x1 : Shape := ⟨4, ![2, 8, 2048, 1]⟩
abbrev S2x8x2048x192 : Shape := ⟨4, ![2, 8, 2048, 192]⟩
abbrev S8x2x2048x768 : Shape := ⟨4, ![8, 2, 2048, 768]⟩
abbrev S8x2x2048x384 : Shape := ⟨4, ![8, 2, 2048, 384]⟩
abbrev S8x2x2051x384 : Shape := ⟨4, ![8, 2, 2051, 384]⟩
abbrev S8x1x384 : Shape := ⟨3, ![8, 1, 384]⟩
abbrev S8x2048x384 : Shape := ⟨3, ![8, 2048, 384]⟩
abbrev S8x384x1 : Shape := ⟨3, ![8, 384, 1]⟩
abbrev S2x8x2048x384 : Shape := ⟨4, ![2, 8, 2048, 384]⟩
abbrev S1x8x1x384 : Shape := ⟨4, ![1, 8, 1, 384]⟩
abbrev S1x8x2048x384 : Shape := ⟨4, ![1, 8, 2048, 384]⟩
abbrev S8x2x2048x44 : Shape := ⟨4, ![8, 2, 2048, 44]⟩
abbrev S8x2x2048x12 : Shape := ⟨4, ![8, 2, 2048, 12]⟩
abbrev S8x2x2048x16 : Shape := ⟨4, ![8, 2, 2048, 16]⟩
abbrev S2x8x2048x384x1 : Shape := ⟨5, ![2, 8, 2048, 384, 1]⟩
abbrev S8x1x384x16 : Shape := ⟨4, ![8, 1, 384, 16]⟩
abbrev S1x8x1x384x16 : Shape := ⟨5, ![1, 8, 1, 384, 16]⟩
abbrev S2x8x2048x384x16 : Shape := ⟨5, ![2, 8, 2048, 384, 16]⟩
abbrev S2x8x2048x16 : Shape := ⟨4, ![2, 8, 2048, 16]⟩
abbrev S2x8x2048x1x16 : Shape := ⟨5, ![2, 8, 2048, 1, 16]⟩
abbrev S384x16 : Shape := ⟨2, ![384, 16]⟩
abbrev S2x2048x8x384x16 : Shape := ⟨5, ![2, 2048, 8, 384, 16]⟩
abbrev S2x2048x8x16 : Shape := ⟨4, ![2, 2048, 8, 16]⟩
abbrev S2x8x384x16 : Shape := ⟨4, ![2, 8, 384, 16]⟩
abbrev S2048x2x8x384x16 : Shape := ⟨5, ![2048, 2, 8, 384, 16]⟩
abbrev S2048x2x8x16 : Shape := ⟨4, ![2048, 2, 8, 16]⟩
abbrev S2048x2x8x384 : Shape := ⟨4, ![2048, 2, 8, 384]⟩
abbrev S1x2x8x384x16 : Shape := ⟨5, ![1, 2, 8, 384, 16]⟩
abbrev S1x2x8x16 : Shape := ⟨4, ![1, 2, 8, 16]⟩
abbrev S2x8x16 : Shape := ⟨3, ![2, 8, 16]⟩
abbrev S2x8x1x16 : Shape := ⟨4, ![2, 8, 1, 16]⟩
abbrev S2x8x384 : Shape := ⟨3, ![2, 8, 384]⟩
abbrev S1x2x8x384 : Shape := ⟨4, ![1, 2, 8, 384]⟩
abbrev S8x2x2048x192 : Shape := ⟨4, ![8, 2, 2048, 192]⟩
abbrev S2x16x16x8x192 : Shape := ⟨5, ![2, 16, 16, 8, 192]⟩

abbrev nBuf : Space → Nat
  | .hbm => 298
  | .vmem => 0
  | .smem => 0
  | _ => 0

abbrev hbmTy0_0 (i : Nat) : BufTy := match i % 128 with
  | 0 => ⟨S2x192x16x16x8, .f32⟩
  | 1 => ⟨S192, .f32⟩
  | 2 => ⟨S192, .f32⟩
  | 3 => ⟨S192, .f32⟩
  | 4 => ⟨S192x8, .f32⟩
  | 5 => ⟨S8x192x768, .f32⟩
  | 6 => ⟨S8x384x4, .f32⟩
  | 7 => ⟨S8x384, .f32⟩
  | 8 => ⟨S8x384x44, .f32⟩
  | 9 => ⟨S8x12x384, .f32⟩
  | 10 => ⟨S8x384, .f32⟩
  | 11 => ⟨S8x384x16, .f32⟩
  | 12 => ⟨S8x384, .f32⟩
  | 13 => ⟨S8x384x192, .f32⟩
  | 14 => ⟨S2x192x2048, .f32⟩
  | 15 => ⟨S2x2048x192, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S2x2048x192, .f32⟩
  | 23 => ⟨S2x2048x192, .f32⟩
  | 24 => ⟨S2x2048x192, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S2x2048x192, .f32⟩
  | 32 => ⟨S2x2048x192, .f32⟩
  | 33 => ⟨S_, .f32⟩
  | 34 => ⟨S2x2048x1, .f32⟩
  | 35 => ⟨S2x2048x1, .f32⟩
  | 36 => ⟨S2x2048x1, .f32⟩
  | 37 => ⟨S2x2048x192, .f32⟩
  | 38 => ⟨S2x2048x192, .f32⟩
  | 39 => ⟨S1x1x192, .f32⟩
  | 40 => ⟨S2x2048x192, .f32⟩
  | 41 => ⟨S2x2048x192, .f32⟩
  | 42 => ⟨S1x1x192, .f32⟩
  | 43 => ⟨S2x2048x192, .f32⟩
  | 44 => ⟨S2x2048x192, .f32⟩
  | 45 => ⟨S2x2048x8, .f32⟩
  | 46 => ⟨S_, .f32⟩
  | 47 => ⟨S2x2048, .f32⟩
  | 48 => ⟨S_, .f32⟩
  | 49 => ⟨S2x2048, .f32⟩
  | 50 => ⟨S2x2048, .f32⟩
  | 51 => ⟨S2x2048x1, .f32⟩
  | 52 => ⟨S2x2048x8, .f32⟩
  | 53 => ⟨S2x2048x8, .f32⟩
  | 54 => ⟨S2x2048x8, .f32⟩
  | 55 => ⟨S_, .f32⟩
  | 56 => ⟨S2x2048, .f32⟩
  | 57 => ⟨S2x2048x1, .f32⟩
  | 58 => ⟨S2x2048x8, .f32⟩
  | 59 => ⟨S2x2048x8, .f32⟩
  | 60 => ⟨S2x2048x2, .f32⟩
  | 61 => ⟨S2x2048x2, .i32⟩
  | 62 => ⟨S2x2048x2x1, .i32⟩
  | 63 => ⟨S1x1x1x8, .i32⟩
  | 64 => ⟨S2x2048x2x8, .i32⟩
  | 65 => ⟨S2x2048x2x8, .i32⟩
  | 66 => ⟨S2x2048x2x8, .i1⟩
  | 67 => ⟨S2x2048x2x8, .f32⟩
  | 68 => ⟨S_, .f32⟩
  | 69 => ⟨S2x2048x8, .f32⟩
  | 70 => ⟨S2x2048x8, .f32⟩
  | 71 => ⟨S_, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S_, .f32⟩
  | 79 => ⟨S8, .f32⟩
  | 80 => ⟨S8, .f32⟩
  | 81 => ⟨S8, .f32⟩
  | 82 => ⟨S_, .f32⟩
  | 83 => ⟨S_, .f32⟩
  | 84 => ⟨S_, .f32⟩
  | 85 => ⟨S_, .f32⟩
  | 86 => ⟨S2x8x2048, .f32⟩
  | 87 => ⟨S2x8x2048, .f32⟩
  | 88 => ⟨S_, .f32⟩
  | 89 => ⟨S2x8x2048, .f32⟩
  | 90 => ⟨S2x8x2048, .f32⟩
  | 91 => ⟨S2048, .i32⟩
  | 92 => ⟨S8x2048, .i32⟩
  | 93 => ⟨S2x8x2048, .i32⟩
  | 94 => ⟨S2x8x2048, .f32⟩
  | 95 => ⟨S2x8x2048, .i32⟩
  | 96 => ⟨S_, .i32⟩
  | 97 => ⟨S2x8x2048, .i32⟩
  | 98 => ⟨S2x8x2048, .i1⟩
  | 99 => ⟨S_, .i32⟩
  | 100 => ⟨S2x8x2048, .i32⟩
  | 101 => ⟨S2x8x2048, .i32⟩
  | 102 => ⟨S2x8x2048, .i32⟩
  | 103 => ⟨S2x8x2048x1, .i32⟩
  | 104 => ⟨S2x8x2048x192, .f32⟩
  | 105 => ⟨S8x2x2048x768, .f32⟩
  | 106 => ⟨S8x2x2048x384, .f32⟩
  | 107 => ⟨S8x2x2048x384, .f32⟩
  | 108 => ⟨S_, .i32⟩
  | 109 => ⟨S_, .f32⟩
  | 110 => ⟨S8x2x2051x384, .f32⟩
  | 111 => ⟨S8x1x384, .f32⟩
  | 112 => ⟨S8x2048x384, .f32⟩
  | 113 => ⟨S8x2x2048x384, .f32⟩
  | 114 => ⟨S8x384x1, .f32⟩
  | 115 => ⟨S8x384, .f32⟩
  | 116 => ⟨S8x1x384, .f32⟩
  | 117 => ⟨S2x8x2048x384, .f32⟩
  | 118 => ⟨S1x8x1x384, .f32⟩
  | 119 => ⟨S2x8x2048x384, .f32⟩
  | 120 => ⟨S2x8x2048x384, .f32⟩
  | 121 => ⟨S1x8x2048x384, .f32⟩
  | 122 => ⟨S2x8x2048x384, .f32⟩
  | 123 => ⟨S2x8x2048x384, .f32⟩
  | 124 => ⟨S8x2x2048x384, .f32⟩
  | 125 => ⟨S8x384x1, .f32⟩
  | 126 => ⟨S8x384, .f32⟩
  | 127 => ⟨S8x1x384, .f32⟩
  | _ => ⟨S2x192x16x16x8, .f32⟩

abbrev hbmTy0_1 (i : Nat) : BufTy := match i % 128 with
  | 0 => ⟨S2x8x2048x384, .f32⟩
  | 1 => ⟨S1x8x1x384, .f32⟩
  | 2 => ⟨S2x8x2048x384, .f32⟩
  | 3 => ⟨S2x8x2048x384, .f32⟩
  | 4 => ⟨S2x8x2048x384, .f32⟩
  | 5 => ⟨S8x2x2048x384, .f32⟩
  | 6 => ⟨S8x384x1, .f32⟩
  | 7 => ⟨S8x384, .f32⟩
  | 8 => ⟨S8x1x384, .f32⟩
  | 9 => ⟨S2x8x2048x384, .f32⟩
  | 10 => ⟨S1x8x1x384, .f32⟩
  | 11 => ⟨S2x8x2048x384, .f32⟩
  | 12 => ⟨S2x8x2048x384, .f32⟩
  | 13 => ⟨S2x8x2048x384, .f32⟩
  | 14 => ⟨S8x2x2048x384, .f32⟩
  | 15 => ⟨S8x384x1, .f32⟩
  | 16 => ⟨S8x384, .f32⟩
  | 17 => ⟨S8x1x384, .f32⟩
  | 18 => ⟨S2x8x2048x384, .f32⟩
  | 19 => ⟨S1x8x1x384, .f32⟩
  | 20 => ⟨S2x8x2048x384, .f32⟩
  | 21 => ⟨S2x8x2048x384, .f32⟩
  | 22 => ⟨S2x8x2048x384, .f32⟩
  | 23 => ⟨S2x8x2048x384, .f32⟩
  | 24 => ⟨S2x8x2048x384, .f32⟩
  | 25 => ⟨S_, .f32⟩
  | 26 => ⟨S2x8x2048x384, .f32⟩
  | 27 => ⟨S2x8x2048x384, .f32⟩
  | 28 => ⟨S_, .f32⟩
  | 29 => ⟨S2x8x2048x384, .f32⟩
  | 30 => ⟨S2x8x2048x384, .f32⟩
  | 31 => ⟨S2x8x2048x384, .f32⟩
  | 32 => ⟨S8x2x2048x44, .f32⟩
  | 33 => ⟨S8x2x2048x12, .f32⟩
  | 34 => ⟨S8x2x2048x384, .f32⟩
  | 35 => ⟨S8x1x384, .f32⟩
  | 36 => ⟨S2x8x2048x384, .f32⟩
  | 37 => ⟨S1x8x1x384, .f32⟩
  | 38 => ⟨S2x8x2048x384, .f32⟩
  | 39 => ⟨S2x8x2048x384, .f32⟩
  | 40 => ⟨S_, .f32⟩
  | 41 => ⟨S2x8x2048x384, .f32⟩
  | 42 => ⟨S2x8x2048x384, .f32⟩
  | 43 => ⟨S2x8x2048x384, .f32⟩
  | 44 => ⟨S2x8x2048x384, .f32⟩
  | 45 => ⟨S2x8x2048x384, .i1⟩
  | 46 => ⟨S2x8x2048x384, .f32⟩
  | 47 => ⟨S2x8x2048x384, .f32⟩
  | 48 => ⟨S2x8x2048x384, .f32⟩
  | 49 => ⟨S2x8x2048x384, .f32⟩
  | 50 => ⟨S2x8x2048x384, .f32⟩
  | 51 => ⟨S2x8x2048x384, .f32⟩
  | 52 => ⟨S2x8x2048x384, .f32⟩
  | 53 => ⟨S2x8x2048x384, .f32⟩
  | 54 => ⟨S8x2x2048x16, .f32⟩
  | 55 => ⟨S8x2x2048x16, .f32⟩
  | 56 => ⟨S8x384x16, .f32⟩
  | 57 => ⟨S8x384x16, .f32⟩
  | 58 => ⟨S2x8x2048x384x1, .f32⟩
  | 59 => ⟨S8x1x384x16, .f32⟩
  | 60 => ⟨S1x8x1x384x16, .f32⟩
  | 61 => ⟨S2x8x2048x384x16, .f32⟩
  | 62 => ⟨S2x8x2048x384x16, .f32⟩
  | 63 => ⟨S2x8x2048x384x16, .f32⟩
  | 64 => ⟨S2x8x2048x384x16, .f32⟩
  | 65 => ⟨S2x8x2048x384x1, .f32⟩
  | 66 => ⟨S2x8x2048x16, .f32⟩
  | 67 => ⟨S2x8x2048x1x16, .f32⟩
  | 68 => ⟨S2x8x2048x384x16, .f32⟩
  | 69 => ⟨S2x8x2048x384x16, .f32⟩
  | 70 => ⟨S2x8x2048x384x16, .f32⟩
  | 71 => ⟨S2x8x2048x384x1, .f32⟩
  | 72 => ⟨S2x8x2048x384x16, .f32⟩
  | 73 => ⟨S2x8x2048x384x16, .f32⟩
  | 74 => ⟨S_, .f32⟩
  | 75 => ⟨S384x16, .f32⟩
  | 76 => ⟨S8x384x16, .f32⟩
  | 77 => ⟨S2x2048x8x384x16, .f32⟩
  | 78 => ⟨S2x2048x8x384x16, .f32⟩
  | 79 => ⟨S2x2048x8x16, .f32⟩
  | 80 => ⟨S2x8x384x16, .f32⟩
  | 81 => ⟨S2048x2x8x384x16, .f32⟩
  | 82 => ⟨S2048x2x8x384x16, .f32⟩
  | 83 => ⟨S2048x2x8x16, .f32⟩
  | 84 => ⟨S_, .f32⟩
  | 85 => ⟨S2048x2x8x384, .f32⟩
  | 86 => ⟨S_, .i32⟩
  | 87 => ⟨S2048x2x8x384x16, .f32⟩
  | 88 => ⟨S2048x2x8x384x16, .f32⟩
  | 89 => ⟨S2048x2x8x16, .f32⟩
  | 90 => ⟨S_, .i32⟩
  | 91 => ⟨S2x8x384x16, .f32⟩
  | 92 => ⟨S2048x2x8x384, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x2x8x384x16, .f32⟩
  | 100 => ⟨S2x8x384x16, .f32⟩
  | 101 => ⟨S_, .i32⟩
  | 102 => ⟨S_, .i32⟩
  | 103 => ⟨S_, .i32⟩
  | 104 => ⟨S_, .i32⟩
  | 105 => ⟨S1x2x8x384x16, .f32⟩
  | 106 => ⟨S2x8x384x16, .f32⟩
  | 107 => ⟨S_, .i32⟩
  | 108 => ⟨S_, .i32⟩
  | 109 => ⟨S_, .i32⟩
  | 110 => ⟨S1x2x8x16, .f32⟩
  | 111 => ⟨S2x8x16, .f32⟩
  | 112 => ⟨S2x8x384x16, .f32⟩
  | 113 => ⟨S2x8x384x16, .f32⟩
  | 114 => ⟨S2x8x1x16, .f32⟩
  | 115 => ⟨S2x8x384x16, .f32⟩
  | 116 => ⟨S2x8x384x16, .f32⟩
  | 117 => ⟨S_, .f32⟩
  | 118 => ⟨S2x8x384, .f32⟩
  | 119 => ⟨S1x2x8x384, .f32⟩
  | 120 => ⟨S_, .i32⟩
  | 121 => ⟨S_, .i32⟩
  | 122 => ⟨S_, .i32⟩
  | 123 => ⟨S2048x2x8x384, .f32⟩
  | 124 => ⟨S_, .i32⟩
  | 125 => ⟨S_, .i32⟩
  | 126 => ⟨S8x1x384, .f32⟩
  | 127 => ⟨S1x8x1x384, .f32⟩
  | _ => ⟨S2x192x16x16x8, .f32⟩

abbrev hbmTy0_2 (i : Nat) : BufTy := match i % 128 with
  | 0 => ⟨S2x8x2048x384, .f32⟩
  | 1 => ⟨S2x8x2048x384, .f32⟩
  | 2 => ⟨S2x8x2048x384, .f32⟩
  | 3 => ⟨S2x8x2048x384, .f32⟩
  | 4 => ⟨S8x2x2048x384, .f32⟩
  | 5 => ⟨S8x2x2048x384, .f32⟩
  | 6 => ⟨S_, .f32⟩
  | 7 => ⟨S8x2x2048x384, .f32⟩
  | 8 => ⟨S8x2x2048x384, .f32⟩
  | 9 => ⟨S_, .f32⟩
  | 10 => ⟨S8x2x2048x384, .f32⟩
  | 11 => ⟨S8x2x2048x384, .f32⟩
  | 12 => ⟨S8x2x2048x384, .f32⟩
  | 13 => ⟨S2x8x2048x384, .f32⟩
  | 14 => ⟨S2x8x2048x384, .f32⟩
  | 15 => ⟨S8x2x2048x192, .f32⟩
  | 16 => ⟨S2048, .i32⟩
  | 17 => ⟨S8x2048, .i32⟩
  | 18 => ⟨S2x8x2048, .i32⟩
  | 19 => ⟨S2x8x2048, .i32⟩
  | 20 => ⟨S2x8x2048, .i32⟩
  | 21 => ⟨S2x8x2048x1, .f32⟩
  | 22 => ⟨S_, .i32⟩
  | 23 => ⟨S2x8x2048, .i32⟩
  | 24 => ⟨S2x8x2048, .i1⟩
  | 25 => ⟨S_, .i32⟩
  | 26 => ⟨S2x8x2048, .i32⟩
  | 27 => ⟨S2x8x2048, .i32⟩
  | 28 => ⟨S2x8x2048, .i32⟩
  | 29 => ⟨S2x8x2048x1, .i32⟩
  | 30 => ⟨S2x8x2048x192, .f32⟩
  | 31 => ⟨S2x8x2048x192, .f32⟩
  | 32 => ⟨S2x8x2048x192, .f32⟩
  | 33 => ⟨S2x8x2048x192, .f32⟩
  | 34 => ⟨S_, .f32⟩
  | 35 => ⟨S2x2048x192, .f32⟩
  | 36 => ⟨S1x1x192, .f32⟩
  | 37 => ⟨S2x2048x192, .f32⟩
  | 38 => ⟨S2x2048x192, .f32⟩
  | 39 => ⟨S2x2048x192, .f32⟩
  | 40 => ⟨S2x16x16x8x192, .f32⟩
  | 41 => ⟨S2x192x16x16x8, .f32⟩
  | _ => ⟨S2x192x16x16x8, .f32⟩

abbrev hbmTy (i : Nat) : BufTy := match i / 128 with
  | 0 => hbmTy0_0 i
  | 1 => hbmTy0_1 i
  | 2 => hbmTy0_2 i
  | _ => ⟨S2x192x16x16x8, .f32⟩

abbrev bufTy : (tb : Table) → Fin (tcTables nBuf tb) → BufTy
  | .hbm, ⟨i, _⟩ => hbmTy i
  | _, _ => ⟨S2x192x16x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_values : Ref sig .tc := ⟨.hbm, 60, rfl⟩
abbrev main_indices : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_cst_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_cst_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3_0 : Ref sig .tc := ⟨.hbm, 94, rfl⟩
abbrev main_v54 : Ref sig .tc := ⟨.hbm, 95, rfl⟩
abbrev main_c : Ref sig .tc := ⟨.hbm, 96, rfl⟩
abbrev main_v55 : Ref sig .tc := ⟨.hbm, 97, rfl⟩
abbrev main_v56 : Ref sig .tc := ⟨.hbm, 98, rfl⟩
abbrev main_c_15 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_16 : Ref sig .tc := ⟨.hbm, 108, rfl⟩
abbrev main_call2_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_17 : Ref sig .tc := ⟨.hbm, 153, rfl⟩
abbrev main_v108 : Ref sig .tc := ⟨.hbm, 154, rfl⟩
abbrev main_v109 : Ref sig .tc := ⟨.hbm, 155, rfl⟩
abbrev main_cst_18 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call3_cst : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_19 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_20 : Ref sig .tc := ⟨.hbm, 212, rfl⟩
abbrev main_v151 : Ref sig .tc := ⟨.hbm, 213, rfl⟩
abbrev main_c_21 : Ref sig .tc := ⟨.hbm, 214, rfl⟩
abbrev main_v152_0 : Ref sig .tc := ⟨.hbm, 215, rfl⟩
abbrev main_v152_1 : Ref sig .tc := ⟨.hbm, 216, rfl⟩
abbrev main_v152_2 : Ref sig .tc := ⟨.hbm, 217, rfl⟩
abbrev main_v152_3 : Ref sig .tc := ⟨.hbm, 218, rfl⟩
abbrev main_v152_4 : Ref sig .tc := ⟨.hbm, 219, rfl⟩
abbrev main_v152_5 : Ref sig .tc := ⟨.hbm, 220, rfl⟩
abbrev main_while0c_c_32 : Ref sig .tc := ⟨.hbm, 221, rfl⟩
abbrev main_while0c_v188 : Ref sig .tc := ⟨.hbm, 222, rfl⟩
abbrev main_while0b_call4_c : Ref sig .tc := ⟨.hbm, 223, rfl⟩
abbrev main_while0b_call4_c_0 : Ref sig .tc := ⟨.hbm, 224, rfl⟩
abbrev main_while0b_call4_c_1 : Ref sig .tc := ⟨.hbm, 225, rfl⟩
abbrev main_while0b_call4_c_2 : Ref sig .tc := ⟨.hbm, 226, rfl⟩
abbrev main_while0b_call4_v0 : Ref sig .tc := ⟨.hbm, 227, rfl⟩
abbrev main_while0b_v188 : Ref sig .tc := ⟨.hbm, 228, rfl⟩
abbrev main_while0b_call5_c : Ref sig .tc := ⟨.hbm, 229, rfl⟩
abbrev main_while0b_call5_c_0 : Ref sig .tc := ⟨.hbm, 230, rfl⟩
abbrev main_while0b_call5_c_1 : Ref sig .tc := ⟨.hbm, 231, rfl⟩
abbrev main_while0b_call5_c_2 : Ref sig .tc := ⟨.hbm, 232, rfl⟩
abbrev main_while0b_call5_v0 : Ref sig .tc := ⟨.hbm, 233, rfl⟩
abbrev main_while0b_v189 : Ref sig .tc := ⟨.hbm, 234, rfl⟩
abbrev main_while0b_call6_c : Ref sig .tc := ⟨.hbm, 235, rfl⟩
abbrev main_while0b_call6_c_0 : Ref sig .tc := ⟨.hbm, 236, rfl⟩
abbrev main_while0b_call6_c_1 : Ref sig .tc := ⟨.hbm, 237, rfl⟩
abbrev main_while0b_call6_v0 : Ref sig .tc := ⟨.hbm, 238, rfl⟩
abbrev main_while0b_v190 : Ref sig .tc := ⟨.hbm, 239, rfl⟩
abbrev main_while0b_v191 : Ref sig .tc := ⟨.hbm, 240, rfl⟩
abbrev main_while0b_v192 : Ref sig .tc := ⟨.hbm, 241, rfl⟩
abbrev main_while0b_v193 : Ref sig .tc := ⟨.hbm, 242, rfl⟩
abbrev main_while0b_v194 : Ref sig .tc := ⟨.hbm, 243, rfl⟩
abbrev main_while0b_v195 : Ref sig .tc := ⟨.hbm, 244, rfl⟩
abbrev main_while0b_cst_32 : Ref sig .tc := ⟨.hbm, 245, rfl⟩
abbrev main_while0b_v196 : Ref sig .tc := ⟨.hbm, 246, rfl⟩
abbrev main_while0b_call7_v0 : Ref sig .tc := ⟨.hbm, 247, rfl⟩
abbrev main_while0b_call7_c : Ref sig .tc := ⟨.hbm, 248, rfl⟩
abbrev main_while0b_call7_c_0 : Ref sig .tc := ⟨.hbm, 249, rfl⟩
abbrev main_while0b_call7_c_1 : Ref sig .tc := ⟨.hbm, 250, rfl⟩
abbrev main_while0b_v197 : Ref sig .tc := ⟨.hbm, 251, rfl⟩
abbrev main_while0b_c_33 : Ref sig .tc := ⟨.hbm, 252, rfl⟩
abbrev main_while0b_v198 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_cst_22 : Ref sig .tc := ⟨.hbm, 262, rfl⟩
abbrev main_v161 : Ref sig .tc := ⟨.hbm, 263, rfl⟩
abbrev main_v162 : Ref sig .tc := ⟨.hbm, 264, rfl⟩
abbrev main_cst_23 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_call8_v0 : Ref sig .tc := ⟨.hbm, 272, rfl⟩
abbrev main_call8_v1 : Ref sig .tc := ⟨.hbm, 273, rfl⟩
abbrev main_call8_v2 : Ref sig .tc := ⟨.hbm, 274, rfl⟩
abbrev main_call8_v3_0 : Ref sig .tc := ⟨.hbm, 275, rfl⟩
abbrev main_v169 : Ref sig .tc := ⟨.hbm, 276, rfl⟩
abbrev main_v170 : Ref sig .tc := ⟨.hbm, 277, rfl⟩
abbrev main_c_24 : Ref sig .tc := ⟨.hbm, 278, rfl⟩
abbrev main_v171 : Ref sig .tc := ⟨.hbm, 279, rfl⟩
abbrev main_v172 : Ref sig .tc := ⟨.hbm, 280, rfl⟩
abbrev main_c_25 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_cst_26 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩

abbrev nD : Nat := 1
abbrev τ : Topo := Topo.v7x

variable {F : FTy → Type} [FloatOps F]

abbrev main_while0_count : Scf.Loop 32 := ⟨0#32, 2048#32, 1#32⟩
-- ==== Proof.CountsTable.lean ====
module

public import proofs.«01_k».proof.Kernel
public import proofs.«01_k».proof.Proof.Gen.Kernel

@[expose] public section

set_option maxRecDepth 16384

namespace Cert.Kernel.Counts

open Cert.Kernel Idealize.ShloMosaic

/-- For a count between 0 and 2048: the facts the body assumes hold, the chunk loop runs once per chunk of 128
    tokens that the count reaches, and the loop over the remainder never runs. -/
theorem counts_ok : ∀ n : Fin 2049, k0_chk1 (BitVec.ofNat 32 n.val) ∧ (k0_t1_loop (BitVec.ofNat 32 n.val)).trips = (n.val + 127) / 128
    ∧ (k0_t2_loop (BitVec.ofNat 32 n.val)).trips = 0 := by
  decide +kernel

end Cert.Kernel.Counts

end
-- ==== Proof.Counts.lean ====
module

public import proofs.«01_k».proof.Defs
public import proofs.«01_k».proof.Proof.Gen.Kernel.Frame
public import proofs.«01_k».proof.Proof.CountsTable
public import Idealize.ShloMosaic.Lib.ReduceAll
public import Idealize.ShloMosaic.Lib.Affine
public import Idealize.ShloMosaic.Lib.StableHlo.RunRead

@[expose] public section

/-! The kernel program at the word level: the counts that its host lines hand to the region are the counts that the
    precondition bounds, so the region's body finds what it assumes of them. -/

set_option maxRecDepth 65536

noncomputable section

instance Cert.Pre_counts.counts_facts : Cert.Pre_counts.Facts where
  shapeCasts_S2x192x16x16x8_S2x192x2048 := @Cert.Kernel.Facts₀.shapeCasts_S2x192x16x16x8_S2x192x2048 _
  transposes_S2x192x2048_S2x2048x192_0_2_1 := @Cert.Kernel.Facts₀.transposes_S2x192x2048_S2x2048x192_0_2_1 _
  reducesTo_S2x2048x192_S2x2048_d2 := @Cert.Kernel.Facts₀.reducesTo_S2x2048x192_S2x2048_d2 _
  h_S_ := @Cert.Kernel.Facts₀.h_S_ _
  bcast_S2x2048_S2x2048x1_0_1 := @Cert.Kernel.Facts₀.bcast_S2x2048_S2x2048x1_0_1 _
  bcast_S_S2x2048x1 := @Cert.Kernel.Facts₀.bcast_S_S2x2048x1 _
  bcast_S2x2048x1_S2x2048x192_0_1_2 := @Cert.Kernel.Facts₀.bcast_S2x2048x1_S2x2048x192_0_1_2 _
  bcast_S192_S1x1x192_2 := @Cert.Kernel.Facts₀.bcast_S192_S1x1x192_2 _
  bcast_S1x1x192_S2x2048x192_0_1_2 := @Cert.Kernel.Facts₀.bcast_S1x1x192_S2x2048x192_0_1_2 _
  reducesTo_S2x2048x8_S2x2048_d2 := @Cert.Kernel.Facts₀.reducesTo_S2x2048x8_S2x2048_d2 _
  bcast_S_S2x2048 := @Cert.Kernel.Facts₀.bcast_S_S2x2048 _
  bcast_S2x2048x1_S2x2048x8_0_1_2 := @Cert.Kernel.Facts₀.bcast_S2x2048x1_S2x2048x8_0_1_2 _
  sliceFits_S2x2048x8_S2x2048x2 := @Cert.Kernel.Facts₀.sliceFits_S2x2048x8_S2x2048x2 _
  bcast_S2x2048x2_S2x2048x2x1_0_1_2 := @Cert.Kernel.Facts₀.bcast_S2x2048x2_S2x2048x2x1_0_1_2 _
  bcast_S2x2048x2x1_S2x2048x2x8_0_1_2_3 := @Cert.Kernel.Facts₀.bcast_S2x2048x2x1_S2x2048x2x8_0_1_2_3 _
  bcast_S1x1x1x8_S2x2048x2x8_0_1_2_3 := @Cert.Kernel.Facts₀.bcast_S1x1x1x8_S2x2048x2x8_0_1_2_3 _
  reducesTo_S2x2048x2x8_S2x2048x8_d2 := @Cert.Kernel.Facts₀.reducesTo_S2x2048x2x8_S2x2048x8_d2 _
  transposes_S2x2048x8_S2x8x2048_0_2_1 := @Cert.Kernel.Facts₀.transposes_S2x2048x8_S2x8x2048_0_2_1 _
  bcast_S_S_ := @Cert.Kernel.Facts₀.bcast_S_S_ _
  reduceWindows_S2x8x2048_S2x8x2048_w1s1p0_0_w1s1p0_0_w2048s1p2047_0 := @Cert.Kernel.Facts₀.reduceWindows_S2x8x2048_S2x8x2048_w1s1p0_0_w1s1p0_0_w2048s1p2047_0 _
  slices_S2x8x2048_S2x8x1_0_0_2047 := @Cert.Kernel.Facts₀.slices_S2x8x2048_S2x8x1_0_0_2047 _
  shapeCasts_S2x8x1_S2x8 := @Cert.Kernel.Facts₀.shapeCasts_S2x8x1_S2x8 _
  bcast_S_S2x8 := by decide
  reducesTo_S2x8_S_d0_1 := by decide
  dot_S2x2048x192_S192x8_S2x2048x8_2_0_01_1_n_n_wf := @Cert.Kernel.Facts₀.dot_S2x2048x192_S192x8_S2x2048x8_2_0_01_1_n_n_wf _

namespace Cert.Kernel.Counts

open Cert.Kernel Cert.Kernel.Gen Idealize.ShloMosaic Idealize.ShloMosaic.TcCoe StableHlo
open Idealize.SL Idealize.SL.Sem

/-- A word between 0 and 2048, read signed, is the word of such a number. -/
theorem word_of_range (w : BitVec 32) (h : IntOp.andi (IntOp.cmpi .sge w 0#32) (IntOp.cmpi .sle w 2048#32) = 1#1) :
    ∃ n : Fin 2049, w = BitVec.ofNat 32 n.val := by
  have hb : w.toNat ≤ 2048 := by
    simp only [IntOp.andi, IntOp.cmpi] at h
    have h1 : (BitVec.sle 0#32 w) = true := by
      cases h1 : BitVec.sle 0#32 w <;> simp_all
    have h2 : (BitVec.sle w 2048#32) = true := by
      cases h2 : BitVec.sle w 2048#32 <;> simp_all
    simp only [BitVec.sle, decide_eq_true_eq, BitVec.toInt, BitVec.toNat_ofNat] at h1 h2
    omega
  exact ⟨⟨w.toNat, by omega⟩, by simp⟩

abbrev front : List (HloOp τ sig (Elt Bits)) := hostOps0.take 86
abbrev back : List (HloOp τ sig (Elt Bits)) := hostOps0.drop 86

abbrev word2 (v : IVec S2x8 32) : IVec S2x8 32 := v

variable (X : Valuation τ sig (Elt Bits))

theorem front_back : after hostOps0 X = after back (after front X) := by
  rw [← after_append]
  rfl

theorem handed : after back X (Proc.devRef .tc main_call0_v78) = shapeCast S2x8x1x1 (X (Proc.devRef .tc main_call0_v57)) (by decide) := by
  after_reads_simp
  rfl

abbrev linesA : List (HloOp τ sig (Elt Bits)) := hostOps0.take 24
abbrev linesB : List (HloOp τ sig (Elt Bits)) := (hostOps0.drop 24).take 24
abbrev linesC : List (HloOp τ sig (Elt Bits)) := (hostOps0.drop 48).take 38

theorem front_lines : after front X = after linesC (after linesB (after linesA X)) := by
  rw [← after_append, ← after_append]
  rfl

theorem bound_A (a3 : FVec Bits S192 .f32) (a5 : FVec Bits S8x192x768 .f32) (a6 : FVec Bits S8x384x4 .f32) (a7 : FVec Bits S8x384 .f32) (a8 : FVec Bits S8x384x44 .f32) (a9 : FVec Bits S8x12x384 .f32) (a10 : FVec Bits S8x384 .f32) (a11 : FVec Bits S8x384x16 .f32) (a12 : FVec Bits S8x384 .f32) (a13 : FVec Bits S8x384x192 .f32) :
    Pre_counts.fn (F := Bits) (X (Proc.devRef .tc main_arg0)) (X (Proc.devRef .tc main_arg1)) (X (Proc.devRef .tc main_arg2)) a3 (X (Proc.devRef .tc main_arg4)) a5 a6 a7 a8 a9 a10 a11 a12 a13
    = Pre_counts.fn_part1 (F := Bits) (X (Proc.devRef .tc main_arg1)) (X (Proc.devRef .tc main_arg2)) (X (Proc.devRef .tc main_arg4))
        (after linesA X (Proc.devRef .tc main_call0_v14)) (after linesA X (Proc.devRef .tc main_call0_v18)) := by
  unfold Pre_counts.fn
  dsimp only
  refine congrArg₂ (fun v w => Pre_counts.fn_part1 (F := Bits) (X (Proc.devRef .tc main_arg1)) (X (Proc.devRef .tc main_arg2)) (X (Proc.devRef .tc main_arg4)) v w) ?_ ?_
  · after_reads_simp
    rfl
  · after_reads_simp
    rfl

theorem bound_B : Pre_counts.fn_part1 (F := Bits) (X (Proc.devRef .tc main_arg1)) (X (Proc.devRef .tc main_arg2)) (X (Proc.devRef .tc main_arg4))
      (X (Proc.devRef .tc main_call0_v14)) (X (Proc.devRef .tc main_call0_v18))
    = Pre_counts.fn_part2 (F := Bits) (after linesB X (Proc.devRef .tc main_call0_indices)) := by
  unfold Pre_counts.fn_part1
  dsimp only
  refine congrArg (fun v => Pre_counts.fn_part2 (F := Bits) v) ?_
  after_reads_simp
  rfl

theorem bound_C : Pre_counts.fn_part2 (F := Bits) (X (Proc.devRef .tc main_call0_indices))
    = Host.reduce IntOp.andi (andi (cmpi .sge (word2 (after linesC X (Proc.devRef .tc main_call0_v57))) (broadcastInDim Pre_counts.S2x8 ![] Pre_counts.Facts.bcast_S_S2x8 (constantI Pre_counts.S_ 32 0#32)))
        (cmpi .sle (word2 (after linesC X (Proc.devRef .tc main_call0_v57))) (broadcastInDim Pre_counts.S2x8 ![] Pre_counts.Facts.bcast_S_S2x8 (constantI Pre_counts.S_ 32 2048#32))))
        (constantI Pre_counts.S_ 1 1#1) Pre_counts.Facts.reducesTo_S2x8_S_d0_1 Pre_counts.Facts.h_S_ := by
  unfold Pre_counts.fn_part2 Pre_counts.fn_one_hot Pre_counts.fn_cumsum Pre_counts.fn_cumsum_0
  dsimp only
  refine congrArg (fun v : IVec S2x8 32 => Host.reduce IntOp.andi (andi (cmpi .sge v (broadcastInDim Pre_counts.S2x8 ![] Pre_counts.Facts.bcast_S_S2x8 (constantI Pre_counts.S_ 32 0#32)))
        (cmpi .sle v (broadcastInDim Pre_counts.S2x8 ![] Pre_counts.Facts.bcast_S_S2x8 (constantI Pre_counts.S_ 32 2048#32))))
        (constantI Pre_counts.S_ 1 1#1) Pre_counts.Facts.reducesTo_S2x8_S_d0_1 Pre_counts.Facts.h_S_) ?_
  after_reads_simp
  simp -implicitDefEqProofs only [TRef.toBuf, TRef.ofBuf, cast_cast, cast_eq]
  rfl

theorem keep_1 : after linesA X (Proc.devRef .tc main_arg1) = X (Proc.devRef .tc main_arg1) := by after_reads_simp
theorem keep_2 : after linesA X (Proc.devRef .tc main_arg2) = X (Proc.devRef .tc main_arg2) := by after_reads_simp
theorem keep_4 : after linesA X (Proc.devRef .tc main_arg4) = X (Proc.devRef .tc main_arg4) := by after_reads_simp

theorem bounded : Pre_counts.fn (F := Bits) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13))
    = Host.reduce IntOp.andi (andi (cmpi .sge (word2 (after front X (Proc.devRef .tc main_call0_v57))) (broadcastInDim Pre_counts.S2x8 ![] Pre_counts.Facts.bcast_S_S2x8 (constantI Pre_counts.S_ 32 0#32)))
        (cmpi .sle (word2 (after front X (Proc.devRef .tc main_call0_v57))) (broadcastInDim Pre_counts.S2x8 ![] Pre_counts.Facts.bcast_S_S2x8 (constantI Pre_counts.S_ 32 2048#32))))
        (constantI Pre_counts.S_ 1 1#1) Pre_counts.Facts.reducesTo_S2x8_S_d0_1 Pre_counts.Facts.h_S_ := by
  rw [front_lines, ← bound_C, ← bound_B, keep_1, keep_2, keep_4]
  exact bound_A X _ _ _ _ _ _ _ _ _ _

variable (m : (ℓ : Loc nD τ sig) → Buf (Elt Bits) ℓ)

/-- The precondition, read at one count: it is the word of a number up to 2048. -/
theorem count_of_pre (h : Cert.Pre_Kernel m) (c : Dev nD) (y : S2x8.Idx) :
    ∃ n : Fin 2049, after front (fun b => m (c, b)) (Proc.devRef .tc main_call0_v57) y = BitVec.ofNat 32 n.val := by
  have e := congrFun ((bounded (fun b => m (c, b))).symm.trans (h c)) (fun a => a.elim0)
  have e' := Host.reduce_andi_all _ _ _ _ _ e y
  exact word_of_range _ e'

/-- The word that the body reads its count from, at a grid point. -/
theorem read_count (c : Dev nD) (t : Fin cfg0.N) (y) :
    ∃ z : S2x8.Idx, iblk m c 0 t y = after front (fun b => m (c, b)) (Proc.devRef .tc main_call0_v57) z := by
  unfold iblk
  rw [View.read_apply, cast_eq]
  exact ⟨_, congrFun ((congrFun (front_back _) _).trans (handed _)) _⟩

/-- The precondition gives the facts that the body assumes of the count it reads, at every grid point. -/
theorem hyps_of_pre (h : Cert.Pre_Kernel m) : Hyps m := by
  intro c t
  simp only [View.readAt_apply, Memref.IsWhole.read_unread]
  obtain ⟨z, hz⟩ := read_count m c t _
  obtain ⟨n, hn⟩ := count_of_pre m h c z
  rw [hz, hn]
  exact (counts_ok n).1

end Cert.Kernel.Counts

end
-- ==== Proof.CountsIdealTable.lean ====
module

public import proofs.«01_k».proof.KernelIdeal
public import proofs.«01_k».proof.Proof.Gen.KernelIdeal

@[expose] public section

set_option maxRecDepth 16384

namespace Cert.KernelIdeal.Counts

open Cert.KernelIdeal Idealize.ShloMosaic

/-- For a count between 0 and 2048: the facts the body assumes hold, the chunk loop runs once per chunk of 128
    tokens that the count reaches, and the loop over the remainder never runs. -/
theorem counts_ok : ∀ n : Fin 2049, k0_chk1 (BitVec.ofNat 32 n.val) ∧ (k0_t1_loop (BitVec.ofNat 32 n.val)).trips = (n.val + 127) / 128
    ∧ (k0_t2_loop (BitVec.ofNat 32 n.val)).trips = 0 := by
  decide +kernel

/-- The `k`-th chunk starts at row `128 k`. -/
theorem off_ok : ∀ n : Fin 2049, ∀ k : Fin (k0_t1_loop (BitVec.ofNat 32 n.val)).trips,
    k0_off1 (BitVec.ofNat 32 n.val) k = ![128 * k.val, 0] ∧ k0_off2 (BitVec.ofNat 32 n.val) k = ![128 * k.val, 0] := by
  decide +kernel

end Cert.KernelIdeal.Counts

end
-- ==== Proof.Trip.lean ====
module

public import proofs.«01_k».proof.Proof.CountsIdealTable
public import proofs.«01_k».proof.Proof.Gen.KernelIdeal.Frame
public import Idealize.ShloMosaic.Lib.Pointwise

@[expose] public section

/-! One chunk of the kernel's loop: the doubling scan of every state, written once over the
chunk's coefficients. -/

set_option maxRecDepth 16384

noncomputable section

namespace Cert.KernelIdeal.Trip

open Cert.KernelIdeal Cert.KernelIdeal.Gen Idealize.ShloMosaic Idealize.ShloMosaic.TcCoe
open Idealize.SL Idealize.SL.Sem

section Defs

variable {F : FTy → Type} [FloatOps F] [Named F]

/-- `arr` moved down by the height of `Sk`, with `fill` in the rows above. -/
def shifted (Sk Sr : Shape) (hs : S128x384.Slices ![0, 0] Sr)
    (hc : Shape.Concatenates [Sk, Sr] S128x384 0) (fill : F .f32) (arr : FVec F S128x384 .f32) :
    FVec F S128x384 .f32 :=
  concatenate S128x384 0 [⟨Sk, broadcast Sk fill⟩, ⟨Sr, extractStridedSlice Sr ![0, 0] arr hs⟩] hc

/-- One doubling step on the products and the partial states. -/
def step (Sk Sr : Shape) (hs : S128x384.Slices ![0, 0] Sr)
    (hc : Shape.Concatenates [Sk, Sr] S128x384 0)
    (p : FVec F S128x384 .f32 × FVec F S128x384 .f32) :
    FVec F S128x384 .f32 × FVec F S128x384 .f32 :=
  (mulf p.1 (shifted Sk Sr hs hc (FloatOps.ofBits .f32 0x3F800000#32) p.1),
   addf (mulf p.1 (shifted Sk Sr hs hc (FloatOps.ofBits .f32 0x00000000#32) p.2)) p.2)

/-- The step that looks back 1 row. -/
def step1 (p : FVec F S128x384 .f32 × FVec F S128x384 .f32) :
    FVec F S128x384 .f32 × FVec F S128x384 .f32 :=
  step S1x384 S127x384 slices_S128x384_o0_0_S127x384
    concatenates_S1x384_S127x384_S128x384_d0 p

/-- The step that looks back 2 rows. -/
def step2 (p : FVec F S128x384 .f32 × FVec F S128x384 .f32) :
    FVec F S128x384 .f32 × FVec F S128x384 .f32 :=
  step S2x384 S126x384 slices_S128x384_o0_0_S126x384
    concatenates_S2x384_S126x384_S128x384_d0 p

/-- The step that looks back 4 rows. -/
def step4 (p : FVec F S128x384 .f32 × FVec F S128x384 .f32) :
    FVec F S128x384 .f32 × FVec F S128x384 .f32 :=
  step S4x384 S124x384 slices_S128x384_o0_0_S124x384
    concatenates_S4x384_S124x384_S128x384_d0 p

/-- The step that looks back 8 rows. -/
def step8 (p : FVec F S128x384 .f32 × FVec F S128x384 .f32) :
    FVec F S128x384 .f32 × FVec F S128x384 .f32 :=
  step S8x384 S120x384 slices_S128x384_o0_0_S120x384
    concatenates_S8x384_S120x384_S128x384_d0 p

/-- The step that looks back 16 rows. -/
def step16 (p : FVec F S128x384 .f32 × FVec F S128x384 .f32) :
    FVec F S128x384 .f32 × FVec F S128x384 .f32 :=
  step S16x384 S112x384 slices_S128x384_o0_0_S112x384
    concatenates_S16x384_S112x384_S128x384_d0 p

/-- The step that looks back 32 rows. -/
def step32 (p : FVec F S128x384 .f32 × FVec F S128x384 .f32) :
    FVec F S128x384 .f32 × FVec F S128x384 .f32 :=
  step S32x384 S96x384 slices_S128x384_o0_0_S96x384
    concatenates_S32x384_S96x384_S128x384_d0 p

/-- The step that looks back 64 rows. -/
def step64 (p : FVec F S128x384 .f32 × FVec F S128x384 .f32) :
    FVec F S128x384 .f32 × FVec F S128x384 .f32 :=
  step S64x384 S64x384 slices_S128x384_o0_0_S64x384
    concatenates_S64x384_S64x384_S128x384_d0 p

/-- The whole scan of a chunk. -/
def scan (p : FVec F S128x384 .f32 × FVec F S128x384 .f32) :
    FVec F S128x384 .f32 × FVec F S128x384 .f32 :=
  step64 (step32 (step16 (step8 (step4 (step2 (step1 p))))))

/-- State `n`'s coefficients. -/
def coefA (n : ℕ) (hs : S384x16.Slices ![0, n] S384x1) (v87 : FVec F S384x16 .f32)
    (dt : FVec F S128x384 .f32) : FVec F S128x384 .f32 :=
  exp (mulf dt (broadcastTo S128x384 (shapeCast S1x384 (shapeCast S384
    (extractStridedSlice S384x1 ![0, n] v87 hs) shapeCasts_S384x1_S384) shapeCasts_S384_S1x384)
    broadcasts_S1x384_S128x384))

/-- Column `n` of a chunk's matrix, along every channel. -/
def column (n : ℕ) (hs : S128x16.Slices ![0, n] S128x1) (bs : FVec F S128x16 .f32) :
    FVec F S128x384 .f32 :=
  broadcastTo S128x384 (shapeCast S128x1 (shapeCast S128
    (extractStridedSlice S128x1 ![0, n] bs hs) shapeCasts_S128x1_S128) shapeCasts_S128_S128x1)
    broadcasts_S128x1_S128x384

/-- Row `n` of the carried states, along every token of the chunk. -/
def carried (n : ℕ) (hs : S16x384.Slices ![n, 0] S1x384) (acc : FVec F S16x384 .f32) :
    FVec F S128x384 .f32 :=
  broadcastTo S128x384 (shapeCast S1x384 (shapeCast S384
    (extractStridedSlice S1x384 ![n, 0] acc hs) shapeCasts_S1x384_S384) shapeCasts_S384_S1x384)
    broadcasts_S1x384_S128x384

/-- State `n` after every token of the chunk. -/
def states (n : ℕ) (h1 : S384x16.Slices ![0, n] S384x1) (h2 : S128x16.Slices ![0, n] S128x1)
    (h3 : S16x384.Slices ![n, 0] S1x384) (v87 : FVec F S384x16 .f32)
    (dt dtx : FVec F S128x384 .f32) (bs : FVec F S128x16 .f32) (acc : FVec F S16x384 .f32) :
    FVec F S128x384 .f32 :=
  addf (mulf (scan (coefA n h1 v87 dt, mulf dtx (column n h2 bs))).1 (carried n h3 acc))
    (scan (coefA n h1 v87 dt, mulf dtx (column n h2 bs))).2

/-- State 0 after every token of the chunk. -/
def states0 (v87 : FVec F S384x16 .f32)
    (dt dtx : FVec F S128x384 .f32) (bs : FVec F S128x16 .f32) (acc : FVec F S16x384 .f32) :
    FVec F S128x384 .f32 :=
  states 0 slices_S384x16_o0_0_S384x1 slices_S128x16_o0_0_S128x1 slices_S16x384_o0_0_S1x384
    v87 dt dtx bs acc

/-- State 1 after every token of the chunk. -/
def states1 (v87 : FVec F S384x16 .f32)
    (dt dtx : FVec F S128x384 .f32) (bs : FVec F S128x16 .f32) (acc : FVec F S16x384 .f32) :
    FVec F S128x384 .f32 :=
  states 1 slices_S384x16_o0_1_S384x1 slices_S128x16_o0_1_S128x1 slices_S16x384_o1_0_S1x384
    v87 dt dtx bs acc

/-- State 2 after every token of the chunk. -/
def states2 (v87 : FVec F S384x16 .f32)
    (dt dtx : FVec F S128x384 .f32) (bs : FVec F S128x16 .f32) (acc : FVec F S16x384 .f32) :
    FVec F S128x384 .f32 :=
  states 2 slices_S384x16_o0_2_S384x1 slices_S128x16_o0_2_S128x1 slices_S16x384_o2_0_S1x384
    v87 dt dtx bs acc

/-- State 3 after every token of the chunk. -/
def states3 (v87 : FVec F S384x16 .f32)
    (dt dtx : FVec F S128x384 .f32) (bs : FVec F S128x16 .f32) (acc : FVec F S16x384 .f32) :
    FVec F S128x384 .f32 :=
  states 3 slices_S384x16_o0_3_S384x1 slices_S128x16_o0_3_S128x1 slices_S16x384_o3_0_S1x384
    v87 dt dtx bs acc

/-- State 4 after every token of the chunk. -/
def states4 (v87 : FVec F S384x16 .f32)
    (dt dtx : FVec F S128x384 .f32) (bs : FVec F S128x16 .f32) (acc : FVec F S16x384 .f32) :
    FVec F S128x384 .f32 :=
  states 4 slices_S384x16_o0_4_S384x1 slices_S128x16_o0_4_S128x1 slices_S16x384_o4_0_S1x384
    v87 dt dtx bs acc

/-- State 5 after every token of the chunk. -/
def states5 (v87 : FVec F S384x16 .f32)
    (dt dtx : FVec F S128x384 .f32) (bs : FVec F S128x16 .f32) (acc : FVec F S16x384 .f32) :
    FVec F S128x384 .f32 :=
  states 5 slices_S384x16_o0_5_S384x1 slices_S128x16_o0_5_S128x1 slices_S16x384_o5_0_S1x384
    v87 dt dtx bs acc

/-- State 6 after every token of the chunk. -/
def states6 (v87 : FVec F S384x16 .f32)
    (dt dtx : FVec F S128x384 .f32) (bs : FVec F S128x16 .f32) (acc : FVec F S16x384 .f32) :
    FVec F S128x384 .f32 :=
  states 6 slices_S384x16_o0_6_S384x1 slices_S128x16_o0_6_S128x1 slices_S16x384_o6_0_S1x384
    v87 dt dtx bs acc

/-- State 7 after every token of the chunk. -/
def states7 (v87 : FVec F S384x16 .f32)
    (dt dtx : FVec F S128x384 .f32) (bs : FVec F S128x16 .f32) (acc : FVec F S16x384 .f32) :
    FVec F S128x384 .f32 :=
  states 7 slices_S384x16_o0_7_S384x1 slices_S128x16_o0_7_S128x1 slices_S16x384_o7_0_S1x384
    v87 dt dtx bs acc

/-- State 8 after every token of the chunk. -/
def states8 (v87 : FVec F S384x16 .f32)
    (dt dtx : FVec F S128x384 .f32) (bs : FVec F S128x16 .f32) (acc : FVec F S16x384 .f32) :
    FVec F S128x384 .f32 :=
  states 8 slices_S384x16_o0_8_S384x1 slices_S128x16_o0_8_S128x1 slices_S16x384_o8_0_S1x384
    v87 dt dtx bs acc

/-- State 9 after every token of the chunk. -/
def states9 (v87 : FVec F S384x16 .f32)
    (dt dtx : FVec F S128x384 .f32) (bs : FVec F S128x16 .f32) (acc : FVec F S16x384 .f32) :
    FVec F S128x384 .f32 :=
  states 9 slices_S384x16_o0_9_S384x1 slices_S128x16_o0_9_S128x1 slices_S16x384_o9_0_S1x384
    v87 dt dtx bs acc

/-- State 10 after every token of the chunk. -/
def states10 (v87 : FVec F S384x16 .f32)
    (dt dtx : FVec F S128x384 .f32) (bs : FVec F S128x16 .f32) (acc : FVec F S16x384 .f32) :
    FVec F S128x384 .f32 :=
  states 10 slices_S384x16_o0_10_S384x1 slices_S128x16_o0_10_S128x1 slices_S16x384_o10_0_S1x384
    v87 dt dtx bs acc

/-- State 11 after every token of the chunk. -/
def states11 (v87 : FVec F S384x16 .f32)
    (dt dtx : FVec F S128x384 .f32) (bs : FVec F S128x16 .f32) (acc : FVec F S16x384 .f32) :
    FVec F S128x384 .f32 :=
  states 11 slices_S384x16_o0_11_S384x1 slices_S128x16_o0_11_S128x1 slices_S16x384_o11_0_S1x384
    v87 dt dtx bs acc

/-- State 12 after every token of the chunk. -/
def states12 (v87 : FVec F S384x16 .f32)
    (dt dtx : FVec F S128x384 .f32) (bs : FVec F S128x16 .f32) (acc : FVec F S16x384 .f32) :
    FVec F S128x384 .f32 :=
  states 12 slices_S384x16_o0_12_S384x1 slices_S128x16_o0_12_S128x1 slices_S16x384_o12_0_S1x384
    v87 dt dtx bs acc

/-- State 13 after every token of the chunk. -/
def states13 (v87 : FVec F S384x16 .f32)
    (dt dtx : FVec F S128x384 .f32) (bs : FVec F S128x16 .f32) (acc : FVec F S16x384 .f32) :
    FVec F S128x384 .f32 :=
  states 13 slices_S384x16_o0_13_S384x1 slices_S128x16_o0_13_S128x1 slices_S16x384_o13_0_S1x384
    v87 dt dtx bs acc

/-- State 14 after every token of the chunk. -/
def states14 (v87 : FVec F S384x16 .f32)
    (dt dtx : FVec F S128x384 .f32) (bs : FVec F S128x16 .f32) (acc : FVec F S16x384 .f32) :
    FVec F S128x384 .f32 :=
  states 14 slices_S384x16_o0_14_S384x1 slices_S128x16_o0_14_S128x1 slices_S16x384_o14_0_S1x384
    v87 dt dtx bs acc

/-- State 15 after every token of the chunk. -/
def states15 (v87 : FVec F S384x16 .f32)
    (dt dtx : FVec F S128x384 .f32) (bs : FVec F S128x16 .f32) (acc : FVec F S16x384 .f32) :
    FVec F S128x384 .f32 :=
  states 15 slices_S384x16_o0_15_S384x1 slices_S128x16_o0_15_S128x1 slices_S16x384_o15_0_S1x384
    v87 dt dtx bs acc

/-- The chunk's outputs. -/
def outs (v87 : FVec F S384x16 .f32)
    (dt dtx : FVec F S128x384 .f32) (bs cs : FVec F S128x16 .f32) (acc : FVec F S16x384 .f32) :
    FVec F S128x384 .f32 :=
  shapeCast S128x384 (addf (addf (addf (addf (addf (addf (addf (addf (addf (addf (addf (addf (addf (addf (addf (addf (broadcast S128x384 (FloatOps.ofBits .f32 0x00000000#32))
    (mulf (states0 v87 dt dtx bs acc) (column 0 slices_S128x16_o0_0_S128x1 cs)))
    (mulf (states1 v87 dt dtx bs acc) (column 1 slices_S128x16_o0_1_S128x1 cs)))
    (mulf (states2 v87 dt dtx bs acc) (column 2 slices_S128x16_o0_2_S128x1 cs)))
    (mulf (states3 v87 dt dtx bs acc) (column 3 slices_S128x16_o0_3_S128x1 cs)))
    (mulf (states4 v87 dt dtx bs acc) (column 4 slices_S128x16_o0_4_S128x1 cs)))
    (mulf (states5 v87 dt dtx bs acc) (column 5 slices_S128x16_o0_5_S128x1 cs)))
    (mulf (states6 v87 dt dtx bs acc) (column 6 slices_S128x16_o0_6_S128x1 cs)))
    (mulf (states7 v87 dt dtx bs acc) (column 7 slices_S128x16_o0_7_S128x1 cs)))
    (mulf (states8 v87 dt dtx bs acc) (column 8 slices_S128x16_o0_8_S128x1 cs)))
    (mulf (states9 v87 dt dtx bs acc) (column 9 slices_S128x16_o0_9_S128x1 cs)))
    (mulf (states10 v87 dt dtx bs acc) (column 10 slices_S128x16_o0_10_S128x1 cs)))
    (mulf (states11 v87 dt dtx bs acc) (column 11 slices_S128x16_o0_11_S128x1 cs)))
    (mulf (states12 v87 dt dtx bs acc) (column 12 slices_S128x16_o0_12_S128x1 cs)))
    (mulf (states13 v87 dt dtx bs acc) (column 13 slices_S128x16_o0_13_S128x1 cs)))
    (mulf (states14 v87 dt dtx bs acc) (column 14 slices_S128x16_o0_14_S128x1 cs)))
    (mulf (states15 v87 dt dtx bs acc) (column 15 slices_S128x16_o0_15_S128x1 cs))) shapeCasts_S128x384_S128x384

/-- The states carried out of the chunk. -/
def carry (v87 : FVec F S384x16 .f32)
    (dt dtx : FVec F S128x384 .f32) (bs : FVec F S128x16 .f32) (acc : FVec F S16x384 .f32) :
    FVec F S16x384 .f32 :=
  concatenate S16x384 0 [
    ⟨S1x384, extractStridedSlice S1x384 ![127, 0] (states0 v87 dt dtx bs acc) slices_S128x384_o127_0_S1x384⟩,
    ⟨S1x384, extractStridedSlice S1x384 ![127, 0] (states1 v87 dt dtx bs acc) slices_S128x384_o127_0_S1x384⟩,
    ⟨S1x384, extractStridedSlice S1x384 ![127, 0] (states2 v87 dt dtx bs acc) slices_S128x384_o127_0_S1x384⟩,
    ⟨S1x384, extractStridedSlice S1x384 ![127, 0] (states3 v87 dt dtx bs acc) slices_S128x384_o127_0_S1x384⟩,
    ⟨S1x384, extractStridedSlice S1x384 ![127, 0] (states4 v87 dt dtx bs acc) slices_S128x384_o127_0_S1x384⟩,
    ⟨S1x384, extractStridedSlice S1x384 ![127, 0] (states5 v87 dt dtx bs acc) slices_S128x384_o127_0_S1x384⟩,
    ⟨S1x384, extractStridedSlice S1x384 ![127, 0] (states6 v87 dt dtx bs acc) slices_S128x384_o127_0_S1x384⟩,
    ⟨S1x384, extractStridedSlice S1x384 ![127, 0] (states7 v87 dt dtx bs acc) slices_S128x384_o127_0_S1x384⟩,
    ⟨S1x384, extractStridedSlice S1x384 ![127, 0] (states8 v87 dt dtx bs acc) slices_S128x384_o127_0_S1x384⟩,
    ⟨S1x384, extractStridedSlice S1x384 ![127, 0] (states9 v87 dt dtx bs acc) slices_S128x384_o127_0_S1x384⟩,
    ⟨S1x384, extractStridedSlice S1x384 ![127, 0] (states10 v87 dt dtx bs acc) slices_S128x384_o127_0_S1x384⟩,
    ⟨S1x384, extractStridedSlice S1x384 ![127, 0] (states11 v87 dt dtx bs acc) slices_S128x384_o127_0_S1x384⟩,
    ⟨S1x384, extractStridedSlice S1x384 ![127, 0] (states12 v87 dt dtx bs acc) slices_S128x384_o127_0_S1x384⟩,
    ⟨S1x384, extractStridedSlice S1x384 ![127, 0] (states13 v87 dt dtx bs acc) slices_S128x384_o127_0_S1x384⟩,
    ⟨S1x384, extractStridedSlice S1x384 ![127, 0] (states14 v87 dt dtx bs acc) slices_S128x384_o127_0_S1x384⟩,
    ⟨S1x384, extractStridedSlice S1x384 ![127, 0] (states15 v87 dt dtx bs acc) slices_S128x384_o127_0_S1x384⟩]
    concatenates_S1x384_S1x384_S1x384_S1x384_S1x384_S1x384_S1x384_S1x384_S1x384_S1x384_S1x384_S1x384_S1x384_S1x384_S1x384_S1x384_S16x384_d0

end Defs

section Read

variable {F : FTy → Type} [FloatOps F] [Named F]

theorem read0 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v229 arg15 arg16 arg17 v87 v92 k0_hw1 X_arg15 X_arg16 X_arg17 k acc =
    states0 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read1 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v316 arg15 arg16 arg17 v87 v92 k0_hw1 X_arg15 X_arg16 X_arg17 k acc =
    states1 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read2 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v403 arg15 arg16 arg17 v87 v92 k0_hw1 X_arg15 X_arg16 X_arg17 k acc =
    states2 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read3 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v490 arg15 arg16 arg17 v87 v92 k0_hw1 X_arg15 X_arg16 X_arg17 k acc =
    states3 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read4 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v577 arg15 arg16 arg17 v87 v92 k0_hw1 X_arg15 X_arg16 X_arg17 k acc =
    states4 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read5 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v664 arg15 arg16 arg17 v87 v92 k0_hw1 X_arg15 X_arg16 X_arg17 k acc =
    states5 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read6 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v751 arg15 arg16 arg17 v87 v92 k0_hw1 X_arg15 X_arg16 X_arg17 k acc =
    states6 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read7 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v838 arg15 arg16 arg17 v87 v92 k0_hw1 X_arg15 X_arg16 X_arg17 k acc =
    states7 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read8 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v925 arg15 arg16 arg17 v87 v92 k0_hw1 X_arg15 X_arg16 X_arg17 k acc =
    states8 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read9 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1012 arg15 arg16 arg17 v87 v92 k0_hw1 X_arg15 X_arg16 X_arg17 k acc =
    states9 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read10 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1099 arg15 arg16 arg17 v87 v92 k0_hw1 X_arg15 X_arg16 X_arg17 k acc =
    states10 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read11 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1186 arg15 arg16 arg17 v87 v92 k0_hw1 X_arg15 X_arg16 X_arg17 k acc =
    states11 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read12 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1273 arg15 arg16 arg17 v87 v92 k0_hw1 X_arg15 X_arg16 X_arg17 k acc =
    states12 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read13 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1360 arg15 arg16 arg17 v87 v92 k0_hw1 X_arg15 X_arg16 X_arg17 k acc =
    states13 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read14 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1447 arg15 arg16 arg17 v87 v92 k0_hw1 X_arg15 X_arg16 X_arg17 k acc =
    states14 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem read15 (arg15 arg16 : Memref sig .tc .vmem S2048x384 .f32) (arg17 : Memref sig .tc .vmem S2048x16 .f32) (v87 : FVec F S384x16 .f32)
    (v92 : Elt F .i32) (k0_hw1 : k0_chk1 v92) (X_arg15 : BufTy.Contents (Elt F) arg15.view.ty)
    (X_arg16 : BufTy.Contents (Elt F) arg16.view.ty) (X_arg17 : BufTy.Contents (Elt F) arg17.view.ty)
    (k : Fin (k0_t1_loop v92).trips) (acc : FVec F S16x384 .f32) :
    trip_k0_t1.sl.v1534 arg15 arg16 arg17 v87 v92 k0_hw1 X_arg15 X_arg16 X_arg17 k acc =
    states15 v87 (trip_k0_t1.sl.r arg15 v92 k0_hw1 X_arg15 k) (trip_k0_t1.sl.r_1 arg16 v92 k0_hw1 X_arg16 k)
      (trip_k0_t1.sl.r_2 arg17 v92 k0_hw1 X_arg17 k) acc := rfl

theorem tripR_eq (𝒱 : Variants) (c : Dev nD) (bd : Option 𝒱.V) (i : grid0.Coords)
    (arg2 : Memref sig .tc .smem S1x1x1x1 .i32) (harg2 : arg2.IsWhole)
    (arg3 : Memref sig .tc .vmem S1x1x2048x192 .f32) (harg3 : arg3.IsWhole)
    (arg4 : Memref sig .tc .vmem S1x1x2048x1 .f32) (harg4 : arg4.IsWhole)
    (arg5 : Memref sig .tc .vmem S1x192x768 .f32) (harg5 : arg5.IsWhole)
    (arg6 : Memref sig .tc .vmem S1x384x4 .f32) (harg6 : arg6.IsWhole)
    (arg7 : Memref sig .tc .vmem S1x1x384 .f32) (harg7 : arg7.IsWhole)
    (arg8 : Memref sig .tc .vmem S1x384x44 .f32) (harg8 : arg8.IsWhole)
    (arg9 : Memref sig .tc .vmem S1x12x384 .f32) (harg9 : arg9.IsWhole)
    (arg10 : Memref sig .tc .vmem S1x1x384 .f32) (harg10 : arg10.IsWhole)
    (arg11 : Memref sig .tc .vmem S1x384x16 .f32) (harg11 : arg11.IsWhole)
    (arg12 : Memref sig .tc .vmem S1x1x384 .f32) (harg12 : arg12.IsWhole)
    (arg13 : Memref sig .tc .vmem S1x384x192 .f32) (harg13 : arg13.IsWhole)
    (arg14 : Memref sig .tc .vmem S1x1x2048x192 .f32) (harg14 : arg14.IsWhole)
    (arg15 : Memref sig .tc .vmem S2048x384 .f32) (harg15 : arg15.IsWhole)
    (arg16 : Memref sig .tc .vmem S2048x384 .f32) (harg16 : arg16.IsWhole)
    (arg17 : Memref sig .tc .vmem S2048x16 .f32) (harg17 : arg17.IsWhole)
    (arg18 : Memref sig .tc .vmem S2048x16 .f32) (harg18 : arg18.IsWhole)
    (arg19 : Memref sig .tc .vmem S2048x384 .f32) (harg19 : arg19.IsWhole)
    (v87 : FVec F S384x16 .f32) (v92 : Elt F .i32) (k0_hw1 : k0_chk1 v92)
    (X_arg15 : BufTy.Contents (Elt F) arg15.view.ty) (X_arg16 : BufTy.Contents (Elt F) arg16.view.ty) (X_arg17 : BufTy.Contents (Elt F) arg17.view.ty) (X_arg18 : BufTy.Contents (Elt F) arg18.view.ty)
    (k : Fin (k0_t1_loop v92).trips) (acc : FVec F S16x384 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 k0_hw1 X_arg15 X_arg16 X_arg17 X_arg18 k acc
      = carry v87 (trip_k0_t1.sl.r arg15 v92 k0_hw1 X_arg15 k) (trip_k0_t1.sl.r_1 arg16 v92 k0_hw1 X_arg16 k)
      (trip_k0_t1.sl.r_2 arg17 v92 k0_hw1 X_arg17 k) acc := by
  unfold tripR_k0_t1 trip_k0_t1
  rfl

theorem tripL_eq (𝒱 : Variants) (c : Dev nD) (bd : Option 𝒱.V) (i : grid0.Coords)
    (arg2 : Memref sig .tc .smem S1x1x1x1 .i32) (harg2 : arg2.IsWhole)
    (arg3 : Memref sig .tc .vmem S1x1x2048x192 .f32) (harg3 : arg3.IsWhole)
    (arg4 : Memref sig .tc .vmem S1x1x2048x1 .f32) (harg4 : arg4.IsWhole)
    (arg5 : Memref sig .tc .vmem S1x192x768 .f32) (harg5 : arg5.IsWhole)
    (arg6 : Memref sig .tc .vmem S1x384x4 .f32) (harg6 : arg6.IsWhole)
    (arg7 : Memref sig .tc .vmem S1x1x384 .f32) (harg7 : arg7.IsWhole)
    (arg8 : Memref sig .tc .vmem S1x384x44 .f32) (harg8 : arg8.IsWhole)
    (arg9 : Memref sig .tc .vmem S1x12x384 .f32) (harg9 : arg9.IsWhole)
    (arg10 : Memref sig .tc .vmem S1x1x384 .f32) (harg10 : arg10.IsWhole)
    (arg11 : Memref sig .tc .vmem S1x384x16 .f32) (harg11 : arg11.IsWhole)
    (arg12 : Memref sig .tc .vmem S1x1x384 .f32) (harg12 : arg12.IsWhole)
    (arg13 : Memref sig .tc .vmem S1x384x192 .f32) (harg13 : arg13.IsWhole)
    (arg14 : Memref sig .tc .vmem S1x1x2048x192 .f32) (harg14 : arg14.IsWhole)
    (arg15 : Memref sig .tc .vmem S2048x384 .f32) (harg15 : arg15.IsWhole)
    (arg16 : Memref sig .tc .vmem S2048x384 .f32) (harg16 : arg16.IsWhole)
    (arg17 : Memref sig .tc .vmem S2048x16 .f32) (harg17 : arg17.IsWhole)
    (arg18 : Memref sig .tc .vmem S2048x16 .f32) (harg18 : arg18.IsWhole)
    (arg19 : Memref sig .tc .vmem S2048x384 .f32) (harg19 : arg19.IsWhole)
    (v87 : FVec F S384x16 .f32) (v92 : Elt F .i32) (k0_hw1 : k0_chk1 v92)
    (X_arg15 : BufTy.Contents (Elt F) arg15.view.ty) (X_arg16 : BufTy.Contents (Elt F) arg16.view.ty) (X_arg17 : BufTy.Contents (Elt F) arg17.view.ty) (X_arg18 : BufTy.Contents (Elt F) arg18.view.ty)
    (k : Fin (k0_t1_loop v92).trips) (acc : FVec F S16x384 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 k0_hw1 X_arg15 X_arg16 X_arg17 X_arg18 k acc
      = [⟨Rect.unit (k0_off1 v92 k) ![128, 384] (k0_off1_inb v92 k0_hw1 k),
          outs v87 (trip_k0_t1.sl.r arg15 v92 k0_hw1 X_arg15 k) (trip_k0_t1.sl.r_1 arg16 v92 k0_hw1 X_arg16 k)
      (trip_k0_t1.sl.r_2 arg17 v92 k0_hw1 X_arg17 k)
            (trip_k0_t1.sl.r_3 arg18 v92 k0_hw1 X_arg18 k) acc⟩] := by
  unfold tripL_k0_t1 trip_k0_t1
  rfl

end Read

end Cert.KernelIdeal.Trip

end
-- ==== Proof.ScanMath.lean ====
module

public import Idealize.ShloMosaic.Lib.Pointwise

@[expose] public section

/-! The linear recurrence `h' = a * h + b` over the extended reals, and the doubling scan that
computes it a chunk at a time.  The coefficients are non-negative and not `⊤`, and then
multiplication by a coefficient distributes over every sum, so the two agree at every input. -/

noncomputable section

namespace Cert.Scan

/-- The states of the recurrence: `rec a b h t` has taken the steps `0, …, t - 1` from `h`. -/
def rec' (a b : ℕ → EReal) (h : EReal) : ℕ → EReal
  | 0 => h
  | t + 1 => a t * rec' a b h t + b t

theorem rec'_succ (a b : ℕ → EReal) (h : EReal) (t : ℕ) :
    rec' a b h (t + 1) = a t * rec' a b h t + b t := rfl

theorem rec'_congr {a a' b b' : ℕ → EReal} (h : EReal) (t : ℕ)
    (ha : ∀ s < t, a s = a' s) (hb : ∀ s < t, b s = b' s) :
    rec' a b h t = rec' a' b' h t := by
  induction t with
  | zero => rfl
  | succ t ih =>
    rw [rec'_succ, rec'_succ, ha t (Nat.lt_succ_self t), hb t (Nat.lt_succ_self t),
      ih (fun s hs => ha s (Nat.lt_succ_of_lt hs)) (fun s hs => hb s (Nat.lt_succ_of_lt hs))]

/-- A run of `s + t` steps is a run of `t` steps from the state after `s`. -/
theorem rec'_add (a b : ℕ → EReal) (h : EReal) (s t : ℕ) :
    rec' (fun i => a (s + i)) (fun i => b (s + i)) (rec' a b h s) t = rec' a b h (s + t) := by
  induction t with
  | zero => rfl
  | succ t ih => rw [rec'_succ, ih, ← Nat.add_assoc, rec'_succ]

/-- The product of the last `w` coefficients ending at `t`. -/
def prod (a : ℕ → EReal) : ℕ → ℕ → EReal
  | 0, _ => 1
  | _ + 1, 0 => a 0 * 1
  | w + 1, t + 1 => a (t + 1) * prod a w t

/-- The state at `t` of the recurrence started from zero `w` steps ago. -/
def part (a b : ℕ → EReal) : ℕ → ℕ → EReal
  | 0, _ => 0
  | _ + 1, 0 => a 0 * 0 + b 0
  | w + 1, t + 1 => a (t + 1) * part a b w t + b (t + 1)

theorem prod_add (a : ℕ → EReal) (u w t : ℕ) :
    prod a (u + w) t = prod a u t * (if t < u then 1 else prod a w (t - u)) := by
  induction u generalizing t with
  | zero => simp [prod]
  | succ u ih =>
    rw [Nat.add_right_comm]
    cases t with
    | zero => simp [prod]
    | succ t =>
      rw [prod, prod, ih, mul_assoc]
      simp only [Nat.add_lt_add_iff_right, Nat.add_sub_add_right]

theorem part_add {a : ℕ → EReal} (b : ℕ → EReal) (h0 : ∀ t, 0 ≤ a t) (h1 : ∀ t, a t ≠ ⊤)
    (u w t : ℕ) :
    part a b (u + w) t
      = prod a u t * (if t < u then 0 else part a b w (t - u)) + part a b u t := by
  induction u generalizing t with
  | zero => simp [prod, part]
  | succ u ih =>
    rw [Nat.add_right_comm]
    cases t with
    | zero => simp [prod, part]
    | succ t =>
      rw [prod, part, part, ih, EReal.left_distrib_of_nonneg_of_ne_top (h0 _) (h1 _), mul_assoc,
        add_assoc]
      simp only [Nat.add_lt_add_iff_right, Nat.add_sub_add_right]

/-- A window at least as long as the past gives the state of the recurrence. -/
theorem rec'_eq {a : ℕ → EReal} (b : ℕ → EReal) (h0 : ∀ t, 0 ≤ a t) (h1 : ∀ t, a t ≠ ⊤)
    (h : EReal) (w t : ℕ) (hw : t < w) :
    prod a w t * h + part a b w t = rec' a b h (t + 1) := by
  induction t generalizing w with
  | zero =>
    obtain ⟨w, rfl⟩ : ∃ v, w = v + 1 := ⟨w - 1, by omega⟩
    simp [prod, part, rec']
  | succ t ih =>
    obtain ⟨w, rfl⟩ : ∃ v, w = v + 1 := ⟨w - 1, by omega⟩
    rw [prod, part, rec'_succ, ← ih w (by omega),
      EReal.left_distrib_of_nonneg_of_ne_top (h0 _) (h1 _), mul_assoc, add_assoc]

end Cert.Scan

end
-- ==== Proof.TripValue.lean ====
module

public import proofs.«01_k».proof.Proof.Trip
public import proofs.«01_k».proof.Proof.ScanMath

@[expose] public section

/-! The values of one chunk, at an index: every state follows the recurrence from the state
carried into the chunk. -/

set_option maxRecDepth 16384

noncomputable section

namespace Cert.KernelIdeal.Trip

open Cert.KernelIdeal Cert.KernelIdeal.Gen Idealize.ShloMosaic Idealize.ShloMosaic.TcCoe
open Cert.Scan

theorem coefA_apply (n : Fin 16) (hs : S384x16.Slices ![0, n.val] S384x1)
    (v87 : FVec Ideal S384x16 .f32) (dt : FVec Ideal S128x384 .f32) (t : Fin 128) (c : Fin 384) :
    coefA n.val hs v87 dt (ix2 t c) = Ideal.exp (dt (ix2 t c) * v87 (ix2 c n)) := by
  pointwise [coefA]

theorem column_apply (n : Fin 16) (hs : S128x16.Slices ![0, n.val] S128x1)
    (bs : FVec Ideal S128x16 .f32) (t : Fin 128) (c : Fin 384) :
    column n.val hs bs (ix2 t c) = bs (ix2 t n) := by
  pointwise [column]

theorem carried_apply (n : Fin 16) (hs : S16x384.Slices ![n.val, 0] S1x384)
    (acc : FVec Ideal S16x384 .f32) (t : Fin 128) (c : Fin 384) :
    carried n.val hs acc (ix2 t c) = acc (ix2 n c) := by
  pointwise [carried]

/-- Column `c` of a pair holds the windows of length `w`. -/
def Window (a b : ℕ → EReal) (c : Fin 384) (w : ℕ)
    (p : FVec Ideal S128x384 .f32 × FVec Ideal S128x384 .f32) : Prop :=
  ∀ t : Fin 128, p.1 (ix2 t c) = prod a w t.val ∧ p.2 (ix2 t c) = part a b w t.val

variable {a b : ℕ → EReal}

/-- What a doubling step does to the windows. -/
theorem window_double (h0 : ∀ t, 0 ≤ a t) (h1 : ∀ t, a t ≠ ⊤) (c : Fin 384) (w : ℕ)
    (p q : FVec Ideal S128x384 .f32 × FVec Ideal S128x384 .f32) (hp : Window a b c w p)
    (hq : ∀ t : Fin 128,
      q.1 (ix2 t c) = p.1 (ix2 t c) *
        (if h : t.val < w then 1 else p.1 (ix2 ⟨t.val - w, by omega⟩ c))
      ∧ q.2 (ix2 t c) = p.1 (ix2 t c) *
        (if h : t.val < w then 0 else p.2 (ix2 ⟨t.val - w, by omega⟩ c)) + p.2 (ix2 t c)) :
    Window a b c (w + w) q := by
  intro t
  rw [(hq t).1, (hq t).2, prod_add, part_add b h0 h1, (hp t).1, (hp t).2]
  by_cases h : t.val < w
  · simp only [h, ↓reduceDIte, ↓reduceIte, and_self]
  · simp only [h, ↓reduceDIte, ↓reduceIte, (hp _).1, (hp _).2, and_self]

theorem step1_apply (p : FVec Ideal S128x384 .f32 × FVec Ideal S128x384 .f32) (c : Fin 384)
    (t : Fin 128) :
    (step1 p).1 (ix2 t c) = p.1 (ix2 t c) *
        (if h : t.val < 1 then 1 else p.1 (ix2 ⟨t.val - 1, by omega⟩ c))
      ∧ (step1 p).2 (ix2 t c) = p.1 (ix2 t c) *
        (if h : t.val < 1 then 0 else p.2 (ix2 ⟨t.val - 1, by omega⟩ c)) + p.2 (ix2 t c) := by
  constructor <;> pointwise [step1, step, shifted]

theorem step2_apply (p : FVec Ideal S128x384 .f32 × FVec Ideal S128x384 .f32) (c : Fin 384)
    (t : Fin 128) :
    (step2 p).1 (ix2 t c) = p.1 (ix2 t c) *
        (if h : t.val < 2 then 1 else p.1 (ix2 ⟨t.val - 2, by omega⟩ c))
      ∧ (step2 p).2 (ix2 t c) = p.1 (ix2 t c) *
        (if h : t.val < 2 then 0 else p.2 (ix2 ⟨t.val - 2, by omega⟩ c)) + p.2 (ix2 t c) := by
  constructor <;> pointwise [step2, step, shifted]

theorem step4_apply (p : FVec Ideal S128x384 .f32 × FVec Ideal S128x384 .f32) (c : Fin 384)
    (t : Fin 128) :
    (step4 p).1 (ix2 t c) = p.1 (ix2 t c) *
        (if h : t.val < 4 then 1 else p.1 (ix2 ⟨t.val - 4, by omega⟩ c))
      ∧ (step4 p).2 (ix2 t c) = p.1 (ix2 t c) *
        (if h : t.val < 4 then 0 else p.2 (ix2 ⟨t.val - 4, by omega⟩ c)) + p.2 (ix2 t c) := by
  constructor <;> pointwise [step4, step, shifted]

theorem step8_apply (p : FVec Ideal S128x384 .f32 × FVec Ideal S128x384 .f32) (c : Fin 384)
    (t : Fin 128) :
    (step8 p).1 (ix2 t c) = p.1 (ix2 t c) *
        (if h : t.val < 8 then 1 else p.1 (ix2 ⟨t.val - 8, by omega⟩ c))
      ∧ (step8 p).2 (ix2 t c) = p.1 (ix2 t c) *
        (if h : t.val < 8 then 0 else p.2 (ix2 ⟨t.val - 8, by omega⟩ c)) + p.2 (ix2 t c) := by
  constructor <;> pointwise [step8, step, shifted]

theorem step16_apply (p : FVec Ideal S128x384 .f32 × FVec Ideal S128x384 .f32) (c : Fin 384)
    (t : Fin 128) :
    (step16 p).1 (ix2 t c) = p.1 (ix2 t c) *
        (if h : t.val < 16 then 1 else p.1 (ix2 ⟨t.val - 16, by omega⟩ c))
      ∧ (step16 p).2 (ix2 t c) = p.1 (ix2 t c) *
        (if h : t.val < 16 then 0 else p.2 (ix2 ⟨t.val - 16, by omega⟩ c)) + p.2 (ix2 t c) := by
  constructor <;> pointwise [step16, step, shifted]

theorem step32_apply (p : FVec Ideal S128x384 .f32 × FVec Ideal S128x384 .f32) (c : Fin 384)
    (t : Fin 128) :
    (step32 p).1 (ix2 t c) = p.1 (ix2 t c) *
        (if h : t.val < 32 then 1 else p.1 (ix2 ⟨t.val - 32, by omega⟩ c))
      ∧ (step32 p).2 (ix2 t c) = p.1 (ix2 t c) *
        (if h : t.val < 32 then 0 else p.2 (ix2 ⟨t.val - 32, by omega⟩ c)) + p.2 (ix2 t c) := by
  constructor <;> pointwise [step32, step, shifted]

theorem step64_apply (p : FVec Ideal S128x384 .f32 × FVec Ideal S128x384 .f32) (c : Fin 384)
    (t : Fin 128) :
    (step64 p).1 (ix2 t c) = p.1 (ix2 t c) *
        (if h : t.val < 64 then 1 else p.1 (ix2 ⟨t.val - 64, by omega⟩ c))
      ∧ (step64 p).2 (ix2 t c) = p.1 (ix2 t c) *
        (if h : t.val < 64 then 0 else p.2 (ix2 ⟨t.val - 64, by omega⟩ c)) + p.2 (ix2 t c) := by
  constructor <;> pointwise [step64, step, shifted]

theorem window_one (c : Fin 384) (p : FVec Ideal S128x384 .f32 × FVec Ideal S128x384 .f32)
    (hp : ∀ t : Fin 128, p.1 (ix2 t c) = a t.val ∧ p.2 (ix2 t c) = b t.val) :
    Window a b c 1 p := by
  intro t
  rw [(hp t).1, (hp t).2]
  rcases t.val with _ | t <;> simp [prod, part]

theorem window_scan (h0 : ∀ t, 0 ≤ a t) (h1 : ∀ t, a t ≠ ⊤) (c : Fin 384)
    (p : FVec Ideal S128x384 .f32 × FVec Ideal S128x384 .f32)
    (hp : ∀ t : Fin 128, p.1 (ix2 t c) = a t.val ∧ p.2 (ix2 t c) = b t.val) :
    Window a b c 128 (scan p) :=
  window_double h0 h1 c 64 _ _ (window_double h0 h1 c 32 _ _ (window_double h0 h1 c 16 _ _
    (window_double h0 h1 c 8 _ _ (window_double h0 h1 c 4 _ _ (window_double h0 h1 c 2 _ _
      (window_double h0 h1 c 1 _ _ (window_one c p hp) (step1_apply _ c)) (step2_apply _ c))
      (step4_apply _ c)) (step8_apply _ c)) (step16_apply _ c)) (step32_apply _ c))
    (step64_apply _ c)

/-- A state after token `t` of the chunk. -/
theorem states_apply (n : Fin 16) (g1 : S384x16.Slices ![0, n.val] S384x1)
    (g2 : S128x16.Slices ![0, n.val] S128x1) (g3 : S16x384.Slices ![n.val, 0] S1x384)
    (v87 : FVec Ideal S384x16 .f32) (dt dtx : FVec Ideal S128x384 .f32)
    (bs : FVec Ideal S128x16 .f32) (acc : FVec Ideal S16x384 .f32) (c : Fin 384)
    (h0 : ∀ t, 0 ≤ a t) (h1 : ∀ t, a t ≠ ⊤)
    (ha : ∀ t : Fin 128, Ideal.exp (dt (ix2 t c) * v87 (ix2 c n)) = a t.val)
    (hb : ∀ t : Fin 128, dtx (ix2 t c) * bs (ix2 t n) = b t.val) (t : Fin 128) :
    states n.val g1 g2 g3 v87 dt dtx bs acc (ix2 t c) = rec' a b (acc (ix2 n c)) (t.val + 1) := by
  have hw := window_scan (a := a) (b := b) h0 h1 c
    (coefA n.val g1 v87 dt, mulf dtx (column n.val g2 bs)) (fun t => by
      refine ⟨(coefA_apply n g1 v87 dt t c).trans (ha t), ?_⟩
      show mulf dtx (column n.val g2 bs) (ix2 t c) = _
      rw [← hb t, ← column_apply n g2 bs t c]
      rfl) t
  rw [← rec'_eq b h0 h1 _ 128 t.val t.isLt, ← hw.1, ← hw.2, ← carried_apply n g3 acc t c]
  rfl

theorem sum16 (f : Fin 16 → EReal) : ∑ n : Fin 16, f n
    = 0 + f 0 + f 1 + f 2 + f 3 + f 4 + f 5 + f 6 + f 7 + f 8 + f 9 + f 10 + f 11 + f 12 + f 13
      + f 14 + f 15 := by
  simp only [Fin.sum_univ_castSucc, Finset.univ_eq_empty, Finset.sum_empty]
  rfl

/-- The chunk's outputs: the states against the output matrix. -/
theorem outs_apply {a b : Fin 16 → ℕ → EReal} (v87 : FVec Ideal S384x16 .f32) (dt dtx : FVec Ideal S128x384 .f32)
    (bs : FVec Ideal S128x16 .f32) (acc : FVec Ideal S16x384 .f32) (c : Fin 384)
    (h0 : ∀ n t, 0 ≤ a n t) (h1 : ∀ n t, a n t ≠ ⊤)
    (ha : ∀ (n : Fin 16) (t : Fin 128), Ideal.exp (dt (ix2 t c) * v87 (ix2 c n)) = a n t.val)
    (hb : ∀ (n : Fin 16) (t : Fin 128), dtx (ix2 t c) * bs (ix2 t n) = b n t.val)
    (cs : FVec Ideal S128x16 .f32) (t : Fin 128) :
    outs v87 dt dtx bs cs acc (ix2 t c)
      = ∑ n : Fin 16, rec' (a n) (b n) (acc (ix2 n c)) (t.val + 1) * cs (ix2 t n) := by
  have key : ∀ (n : Fin 16) g1 g2 g3, states n.val g1 g2 g3 v87 dt dtx bs acc (ix2 t c)
      = rec' (a n) (b n) (acc (ix2 n c)) (t.val + 1) := fun n g1 g2 g3 =>
    states_apply n g1 g2 g3 v87 dt dtx bs acc c (h0 n) (h1 n) (ha n) (hb n) t
  pointwise [outs]
  have e0 : states0 v87 dt dtx bs acc (ix2 t c) = _ := key 0 _ _ _
  have f0 : column 0 slices_S128x16_o0_0_S128x1 cs (ix2 t c) = _ := column_apply 0 _ cs t c
  have e1 : states1 v87 dt dtx bs acc (ix2 t c) = _ := key 1 _ _ _
  have f1 : column 1 slices_S128x16_o0_1_S128x1 cs (ix2 t c) = _ := column_apply 1 _ cs t c
  have e2 : states2 v87 dt dtx bs acc (ix2 t c) = _ := key 2 _ _ _
  have f2 : column 2 slices_S128x16_o0_2_S128x1 cs (ix2 t c) = _ := column_apply 2 _ cs t c
  have e3 : states3 v87 dt dtx bs acc (ix2 t c) = _ := key 3 _ _ _
  have f3 : column 3 slices_S128x16_o0_3_S128x1 cs (ix2 t c) = _ := column_apply 3 _ cs t c
  have e4 : states4 v87 dt dtx bs acc (ix2 t c) = _ := key 4 _ _ _
  have f4 : column 4 slices_S128x16_o0_4_S128x1 cs (ix2 t c) = _ := column_apply 4 _ cs t c
  have e5 : states5 v87 dt dtx bs acc (ix2 t c) = _ := key 5 _ _ _
  have f5 : column 5 slices_S128x16_o0_5_S128x1 cs (ix2 t c) = _ := column_apply 5 _ cs t c
  have e6 : states6 v87 dt dtx bs acc (ix2 t c) = _ := key 6 _ _ _
  have f6 : column 6 slices_S128x16_o0_6_S128x1 cs (ix2 t c) = _ := column_apply 6 _ cs t c
  have e7 : states7 v87 dt dtx bs acc (ix2 t c) = _ := key 7 _ _ _
  have f7 : column 7 slices_S128x16_o0_7_S128x1 cs (ix2 t c) = _ := column_apply 7 _ cs t c
  have e8 : states8 v87 dt dtx bs acc (ix2 t c) = _ := key 8 _ _ _
  have f8 : column 8 slices_S128x16_o0_8_S128x1 cs (ix2 t c) = _ := column_apply 8 _ cs t c
  have e9 : states9 v87 dt dtx bs acc (ix2 t c) = _ := key 9 _ _ _
  have f9 : column 9 slices_S128x16_o0_9_S128x1 cs (ix2 t c) = _ := column_apply 9 _ cs t c
  have e10 : states10 v87 dt dtx bs acc (ix2 t c) = _ := key 10 _ _ _
  have f10 : column 10 slices_S128x16_o0_10_S128x1 cs (ix2 t c) = _ := column_apply 10 _ cs t c
  have e11 : states11 v87 dt dtx bs acc (ix2 t c) = _ := key 11 _ _ _
  have f11 : column 11 slices_S128x16_o0_11_S128x1 cs (ix2 t c) = _ := column_apply 11 _ cs t c
  have e12 : states12 v87 dt dtx bs acc (ix2 t c) = _ := key 12 _ _ _
  have f12 : column 12 slices_S128x16_o0_12_S128x1 cs (ix2 t c) = _ := column_apply 12 _ cs t c
  have e13 : states13 v87 dt dtx bs acc (ix2 t c) = _ := key 13 _ _ _
  have f13 : column 13 slices_S128x16_o0_13_S128x1 cs (ix2 t c) = _ := column_apply 13 _ cs t c
  have e14 : states14 v87 dt dtx bs acc (ix2 t c) = _ := key 14 _ _ _
  have f14 : column 14 slices_S128x16_o0_14_S128x1 cs (ix2 t c) = _ := column_apply 14 _ cs t c
  have e15 : states15 v87 dt dtx bs acc (ix2 t c) = _ := key 15 _ _ _
  have f15 : column 15 slices_S128x16_o0_15_S128x1 cs (ix2 t c) = _ := column_apply 15 _ cs t c
  rw [e0, f0, e1, f1, e2, f2, e3, f3, e4, f4, e5, f5, e6, f6, e7, f7, e8, f8, e9, f9, e10, f10, e11, f11, e12, f12, e13, f13, e14, f14, e15, f15]
  rw [sum16, zero_add]

theorem slices_A : ∀ n : Fin 16, S384x16.Slices ![0, n.val] S384x1 := by decide
theorem slices_B : ∀ n : Fin 16, S128x16.Slices ![0, n.val] S128x1 := by decide
theorem slices_H : ∀ n : Fin 16, S16x384.Slices ![n.val, 0] S1x384 := by decide

/-- The last row of state `n`. -/
def lastRow (v87 : FVec Ideal S384x16 .f32) (dt dtx : FVec Ideal S128x384 .f32)
    (bs : FVec Ideal S128x16 .f32) (acc : FVec Ideal S16x384 .f32) (n : Fin 16) :
    FVec Ideal S1x384 .f32 :=
  extractStridedSlice S1x384 ![127, 0]
    (states n.val (slices_A n) (slices_B n) (slices_H n) v87 dt dtx bs acc)
    slices_S128x384_o127_0_S1x384

theorem lastRow_apply (v87 : FVec Ideal S384x16 .f32) (dt dtx : FVec Ideal S128x384 .f32)
    (bs : FVec Ideal S128x16 .f32) (acc : FVec Ideal S16x384 .f32) (n : Fin 16) (c : Fin 384) :
    lastRow v87 dt dtx bs acc n (ix2 0 c)
      = states n.val (slices_A n) (slices_B n) (slices_H n) v87 dt dtx bs acc (ix2 (127 : Fin 128) c) := by
  pointwise [lastRow]

theorem carry_rows (v87 : FVec Ideal S384x16 .f32) (dt dtx : FVec Ideal S128x384 .f32)
    (bs : FVec Ideal S128x16 .f32) (acc : FVec Ideal S16x384 .f32) (n : Fin 16) (c : Fin 384) :
    carry v87 dt dtx bs acc (ix2 n c) = lastRow v87 dt dtx bs acc n (ix2 0 c) := by
  have h := concatenate_ofFn_unit_apply' (t := S16x384) (s₁ := S1x384) 0
    (lastRow v87 dt dtx bs acc)
    (show Shape.Concatenates (List.replicate 16 S1x384) S16x384 0 by decide) rfl (ix2 n c)
  refine Eq.trans ?_ (h.trans ?_)
  · rfl
  · congr 1
    funext b
    fin_cases b <;> rfl

/-- The carried states: those after the chunk's last token. -/
theorem carry_apply {a b : Fin 16 → ℕ → EReal} (v87 : FVec Ideal S384x16 .f32) (dt dtx : FVec Ideal S128x384 .f32)
    (bs : FVec Ideal S128x16 .f32) (acc : FVec Ideal S16x384 .f32) (c : Fin 384)
    (h0 : ∀ n t, 0 ≤ a n t) (h1 : ∀ n t, a n t ≠ ⊤)
    (ha : ∀ (n : Fin 16) (t : Fin 128), Ideal.exp (dt (ix2 t c) * v87 (ix2 c n)) = a n t.val)
    (hb : ∀ (n : Fin 16) (t : Fin 128), dtx (ix2 t c) * bs (ix2 t n) = b n t.val)
    (n : Fin 16) :
    carry v87 dt dtx bs acc (ix2 n c) = rec' (a n) (b n) (acc (ix2 n c)) 128 := by
  have key : ∀ (n : Fin 16) g1 g2 g3, states n.val g1 g2 g3 v87 dt dtx bs acc (ix2 (127 : Fin 128) c)
      = rec' (a n) (b n) (acc (ix2 n c)) 128 := fun n g1 g2 g3 =>
    states_apply n g1 g2 g3 v87 dt dtx bs acc c (h0 n) (h1 n) (ha n) (hb n) 127
  rw [carry_rows, lastRow_apply, key]

end Cert.KernelIdeal.Trip

end
-- ==== Proof.LoopValue.lean ====
module

public import proofs.«01_k».proof.Proof.TripValue
public import Idealize.ShloMosaic.Lib.WritesUnit

@[expose] public section

/-! The kernel's loop over the chunks: before chunk `k` the carried states are those after
`128 * k` tokens, and the rows below `128 * k` hold their tokens' outputs. -/

set_option maxRecDepth 16384

noncomputable section

namespace Cert.KernelIdeal.Trip

open Cert.KernelIdeal Cert.KernelIdeal.Gen Idealize.ShloMosaic Idealize.ShloMosaic.TcCoe
open Idealize.SL Idealize.SL.Sem
open Cert.Scan

/-- Row `t` of a matrix over the tokens. -/
def row {m : ℕ} (X : (⟨2, ![2048, m]⟩ : Shape).Idx → EReal) (t : ℕ) (c : Fin m) : EReal :=
  X (ix2 ⟨t % 2048, Nat.mod_lt _ (by decide)⟩ c)

theorem row_val {m : ℕ} (X : (⟨2, ![2048, m]⟩ : Shape).Idx → EReal) (t : Fin 2048) (c : Fin m) :
    row X t.val c = X (ix2 t c) := by
  unfold row
  congr 2
  exact Fin.ext (Nat.mod_eq_of_lt t.isLt)

/-- How much of state `n` of channel `c` token `t` keeps. -/
def keep (A : FVec Ideal S384x16 .f32) (DT : FVec Ideal S2048x384 .f32) (c : Fin 384) (n : Fin 16)
    (t : ℕ) : EReal :=
  Ideal.exp (row DT t c * A (ix2 c n))

/-- What token `t` adds to state `n` of channel `c`. -/
def gain (DX : FVec Ideal S2048x384 .f32) (BS : FVec Ideal S2048x16 .f32) (c : Fin 384) (n : Fin 16)
    (t : ℕ) : EReal :=
  row DX t c * row BS t n

/-- State `n` of channel `c` after `t` tokens. -/
def state (A : FVec Ideal S384x16 .f32) (DT DX : FVec Ideal S2048x384 .f32)
    (BS : FVec Ideal S2048x16 .f32) (c : Fin 384) (n : Fin 16) (t : ℕ) : EReal :=
  rec' (keep A DT c n) (gain DX BS c n) 0 t

/-- Token `t`'s output in channel `c`. -/
def output (A : FVec Ideal S384x16 .f32) (DT DX : FVec Ideal S2048x384 .f32)
    (BS CS : FVec Ideal S2048x16 .f32) (c : Fin 384) (t : ℕ) : EReal :=
  ∑ n : Fin 16, state A DT DX BS c n (t + 1) * row CS t n

theorem r_apply (arg15 : Memref sig .tc .vmem S2048x384 .f32) (v92 : BitVec 32)
    (hw : k0_chk1 v92) (X : BufTy.Contents (Elt Ideal) arg15.view.ty)
    (D : FVec Ideal S2048x384 .f32) (hX : arg15.view.read (Elt Ideal) X = D)
    (k : Fin (k0_t1_loop v92).trips) (hk : k.val < 16)
    (hoff : k0_off1 v92 k = ![128 * k.val, 0]) (t : Fin 128) (c : Fin 384) :
    trip_k0_t1.sl.r arg15 v92 hw X k (ix2 t c) = row D (128 * k.val + t.val) c := by
  unfold trip_k0_t1.sl.r
  rw [View.readAt_apply, hX]
  unfold row
  congr 1
  funext a
  refine Fin.ext ?_
  fin_cases a
  · show k0_off1 v92 k 0 + 1 * t.val = (128 * k.val + t.val) % 2048
    rw [hoff]
    show 128 * k.val + 1 * t.val = (128 * k.val + t.val) % 2048
    omega
  · show k0_off1 v92 k 1 + 1 * c.val = c.val
    rw [hoff]
    show 0 + 1 * c.val = c.val
    omega

theorem r_1_apply (arg16 : Memref sig .tc .vmem S2048x384 .f32) (v92 : BitVec 32)
    (hw : k0_chk1 v92) (X : BufTy.Contents (Elt Ideal) arg16.view.ty)
    (D : FVec Ideal S2048x384 .f32) (hX : arg16.view.read (Elt Ideal) X = D)
    (k : Fin (k0_t1_loop v92).trips) (hk : k.val < 16)
    (hoff : k0_off1 v92 k = ![128 * k.val, 0]) (t : Fin 128) (c : Fin 384) :
    trip_k0_t1.sl.r_1 arg16 v92 hw X k (ix2 t c) = row D (128 * k.val + t.val) c := by
  unfold trip_k0_t1.sl.r_1
  rw [View.readAt_apply, hX]
  unfold row
  congr 1
  funext a
  refine Fin.ext ?_
  fin_cases a
  · show k0_off1 v92 k 0 + 1 * t.val = (128 * k.val + t.val) % 2048
    rw [hoff]
    show 128 * k.val + 1 * t.val = (128 * k.val + t.val) % 2048
    omega
  · show k0_off1 v92 k 1 + 1 * c.val = c.val
    rw [hoff]
    show 0 + 1 * c.val = c.val
    omega

theorem r_2_apply (arg17 : Memref sig .tc .vmem S2048x16 .f32) (v92 : BitVec 32)
    (hw : k0_chk1 v92) (X : BufTy.Contents (Elt Ideal) arg17.view.ty)
    (D : FVec Ideal S2048x16 .f32) (hX : arg17.view.read (Elt Ideal) X = D)
    (k : Fin (k0_t1_loop v92).trips) (hk : k.val < 16)
    (hoff : k0_off2 v92 k = ![128 * k.val, 0]) (t : Fin 128) (c : Fin 16) :
    trip_k0_t1.sl.r_2 arg17 v92 hw X k (ix2 t c) = row D (128 * k.val + t.val) c := by
  unfold trip_k0_t1.sl.r_2
  rw [View.readAt_apply, hX]
  unfold row
  congr 1
  funext a
  refine Fin.ext ?_
  fin_cases a
  · show k0_off2 v92 k 0 + 1 * t.val = (128 * k.val + t.val) % 2048
    rw [hoff]
    show 128 * k.val + 1 * t.val = (128 * k.val + t.val) % 2048
    omega
  · show k0_off2 v92 k 1 + 1 * c.val = c.val
    rw [hoff]
    show 0 + 1 * c.val = c.val
    omega

theorem r_3_apply (arg18 : Memref sig .tc .vmem S2048x16 .f32) (v92 : BitVec 32)
    (hw : k0_chk1 v92) (X : BufTy.Contents (Elt Ideal) arg18.view.ty)
    (D : FVec Ideal S2048x16 .f32) (hX : arg18.view.read (Elt Ideal) X = D)
    (k : Fin (k0_t1_loop v92).trips) (hk : k.val < 16)
    (hoff : k0_off2 v92 k = ![128 * k.val, 0]) (t : Fin 128) (c : Fin 16) :
    trip_k0_t1.sl.r_3 arg18 v92 hw X k (ix2 t c) = row D (128 * k.val + t.val) c := by
  unfold trip_k0_t1.sl.r_3
  rw [View.readAt_apply, hX]
  unfold row
  congr 1
  funext a
  refine Fin.ext ?_
  fin_cases a
  · show k0_off2 v92 k 0 + 1 * t.val = (128 * k.val + t.val) % 2048
    rw [hoff]
    show 128 * k.val + 1 * t.val = (128 * k.val + t.val) % 2048
    omega
  · show k0_off2 v92 k 1 + 1 * c.val = c.val
    rw [hoff]
    show 0 + 1 * c.val = c.val
    omega

theorem loop_value (𝒱 : Variants) (c : Dev nD) (bd : Option 𝒱.V) (i : grid0.Coords)
    (arg2 : Memref sig .tc .smem S1x1x1x1 .i32) (harg2 : arg2.IsWhole)
    (arg3 : Memref sig .tc .vmem S1x1x2048x192 .f32) (harg3 : arg3.IsWhole)
    (arg4 : Memref sig .tc .vmem S1x1x2048x1 .f32) (harg4 : arg4.IsWhole)
    (arg5 : Memref sig .tc .vmem S1x192x768 .f32) (harg5 : arg5.IsWhole)
    (arg6 : Memref sig .tc .vmem S1x384x4 .f32) (harg6 : arg6.IsWhole)
    (arg7 : Memref sig .tc .vmem S1x1x384 .f32) (harg7 : arg7.IsWhole)
    (arg8 : Memref sig .tc .vmem S1x384x44 .f32) (harg8 : arg8.IsWhole)
    (arg9 : Memref sig .tc .vmem S1x12x384 .f32) (harg9 : arg9.IsWhole)
    (arg10 : Memref sig .tc .vmem S1x1x384 .f32) (harg10 : arg10.IsWhole)
    (arg11 : Memref sig .tc .vmem S1x384x16 .f32) (harg11 : arg11.IsWhole)
    (arg12 : Memref sig .tc .vmem S1x1x384 .f32) (harg12 : arg12.IsWhole)
    (arg13 : Memref sig .tc .vmem S1x384x192 .f32) (harg13 : arg13.IsWhole)
    (arg14 : Memref sig .tc .vmem S1x1x2048x192 .f32) (harg14 : arg14.IsWhole)
    (arg15 : Memref sig .tc .vmem S2048x384 .f32) (harg15 : arg15.IsWhole)
    (arg16 : Memref sig .tc .vmem S2048x384 .f32) (harg16 : arg16.IsWhole)
    (arg17 : Memref sig .tc .vmem S2048x16 .f32) (harg17 : arg17.IsWhole)
    (arg18 : Memref sig .tc .vmem S2048x16 .f32) (harg18 : arg18.IsWhole)
    (arg19 : Memref sig .tc .vmem S2048x384 .f32) (harg19 : arg19.IsWhole)
    (v87 : FVec Ideal S384x16 .f32) (v92 : BitVec 32) (hw : k0_chk1 v92)
    (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty)
    (init : FVec Ideal S16x384 .f32) (hinit : ∀ n c, init (ix2 n c) = 0)
    (DT DX : FVec Ideal S2048x384 .f32) (BS CS : FVec Ideal S2048x16 .f32)
    (h15 : arg15.view.read (Elt Ideal) X_arg15 = DT) (h16 : arg16.view.read (Elt Ideal) X_arg16 = DX)
    (h17 : arg17.view.read (Elt Ideal) X_arg17 = BS) (h18 : arg18.view.read (Elt Ideal) X_arg18 = CS)
    (hexp : ∀ c n t, keep v87 DT c n t ≠ ⊤) (hexp0 : ∀ c n t, 0 ≤ keep v87 DT c n t)
    (htr : (k0_t1_loop v92).trips ≤ 16)
    (hoff : ∀ k, k0_off1 v92 k = ![128 * k.val, 0] ∧ k0_off2 v92 k = ![128 * k.val, 0])
    (L0 : List (View.Piece (Elt Ideal) S2048x384 .f32)) (f : arg19.view.ty.Contents (Elt Ideal))
    (k : ℕ) (hk : k ≤ (k0_t1_loop v92).trips) :
    (∀ n ch, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 hw X_arg15 X_arg16 X_arg17 X_arg18 init k).1 (ix2 n ch) = state v87 DT DX BS ch n (128 * k)) ∧
    ∀ (r : Fin 2048) (ch : Fin 384), r.val < 128 * k →
      arg19.view.read (Elt Ideal) (arg19.view.writes (Elt Ideal) f ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 hw X_arg15 X_arg16 X_arg17 X_arg18 init k).2 ++ L0)) (ix2 r ch)
        = output v87 DT DX BS CS ch r.val := by
  induction k with
  | zero =>
    rw [st_k0_t1_zero]
    exact ⟨fun n ch => hinit n ch, fun r ch h => absurd h (by omega)⟩
  | succ k ih =>
    obtain ⟨ih1, ih2⟩ := ih (by omega)
    have hk' : k < (k0_t1_loop v92).trips := by omega
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 hw X_arg15 X_arg16 X_arg17 X_arg18 init ⟨k, hk'⟩]
    rw [tripR_eq, tripL_eq]
    have h16' : k < 16 := by omega
    have ha : ∀ (ch : Fin 384) (n : Fin 16) (t : Fin 128),
        Ideal.exp (trip_k0_t1.sl.r arg15 v92 hw X_arg15 ⟨k, hk'⟩ (ix2 t ch) * v87 (ix2 ch n))
          = (fun s => keep v87 DT ch n (128 * k + s)) t.val := fun ch n t => by
      rw [r_apply arg15 v92 hw X_arg15 DT h15 ⟨k, hk'⟩ h16' (hoff _).1]; rfl
    have hb : ∀ (ch : Fin 384) (n : Fin 16) (t : Fin 128),
        trip_k0_t1.sl.r_1 arg16 v92 hw X_arg16 ⟨k, hk'⟩ (ix2 t ch)
            * trip_k0_t1.sl.r_2 arg17 v92 hw X_arg17 ⟨k, hk'⟩ (ix2 t n)
          = (fun s => gain DX BS ch n (128 * k + s)) t.val := fun ch n t => by
      rw [r_1_apply arg16 v92 hw X_arg16 DX h16 ⟨k, hk'⟩ h16' (hoff _).1,
        r_2_apply arg17 v92 hw X_arg17 BS h17 ⟨k, hk'⟩ h16' (hoff _).2]; rfl
    have hstate : ∀ (ch : Fin 384) (n : Fin 16) (t : ℕ),
        rec' (fun s => keep v87 DT ch n (128 * k + s)) (fun s => gain DX BS ch n (128 * k + s))
          ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v87 v92 hw X_arg15 X_arg16 X_arg17 X_arg18 init k).1 (ix2 n ch)) t = state v87 DT DX BS ch n (128 * k + t) := fun ch n t => by
      rw [ih1]; exact rec'_add _ _ _ _ _
    refine ⟨fun n ch => ?_, fun r ch hr => ?_⟩
    · dsimp only
      rw [carry_apply (a := fun n s => keep v87 DT ch n (128 * k + s))
        (b := fun n s => gain DX BS ch n (128 * k + s)) v87 _ _ _ _ ch (fun n t => hexp0 ch n _)
        (fun n t => hexp ch n _) (ha ch) (hb ch) n, hstate]
      rfl
    · dsimp only
      rw [List.cons_append, List.nil_append]
      by_cases h : r.val < 128 * k
      · refine Eq.trans ?_ (ih2 r ch h)
        exact View.read_writes_cons_rows_of_not_mem arg19.view f _ _ _ (ix2 r ch) (hoff ⟨k, hk'⟩).1
          (W := 128) rfl (Or.inl h)
      · have hr' : r.val < 128 * k + 128 := by omega
        refine Eq.trans (View.read_writes_cons_rows_of_mem arg19.view f _ _ _ (ix2 r ch)
          (ix2 (⟨r.val - 128 * k, by omega⟩ : Fin 128) ch) (hoff ⟨k, hk'⟩).1
          (show r.val = 128 * k + (r.val - 128 * k) by omega) rfl) ?_
        rw [outs_apply (a := fun n s => keep v87 DT ch n (128 * k + s))
          (b := fun n s => gain DX BS ch n (128 * k + s)) v87 _ _ _ _ ch (fun n t => hexp0 ch n _)
          (fun n t => hexp ch n _) (ha ch) (hb ch)]
        unfold output
        refine Finset.sum_congr rfl fun n _ => ?_
        rw [hstate, r_3_apply arg18 v92 hw X_arg18 CS h18 ⟨k, hk'⟩ h16' (hoff _).2]
        show state v87 DT DX BS ch n (128 * k + (r.val - 128 * k + 1))
          * row CS (128 * k + (r.val - 128 * k)) n = _
        rw [show 128 * k + (r.val - 128 * k + 1) = r.val + 1 by omega,
          show 128 * k + (r.val - 128 * k) = r.val by omega]

end Cert.KernelIdeal.Trip

end
-- ==== Proof.Spec.lean ====
module

public import proofs.«01_k».proof.Proof.ScanMath

@[expose] public section

/-! The Mamba block of one expert on one sequence, as a function of its arrays over the extended
reals. -/

noncomputable section

namespace Cert.Spec

open Idealize.ShloMosaic

/-- The block's arrays: the tokens, the gate and the expert's weights. -/
structure Block where
  xg : Fin 2048 → Fin 192 → EReal
  gg : Fin 2048 → EReal
  iw : Fin 192 → Fin 768 → EReal
  cw : Fin 384 → Fin 4 → EReal
  cb : Fin 384 → EReal
  xw : Fin 384 → Fin 44 → EReal
  dw : Fin 12 → Fin 384 → EReal
  db : Fin 384 → EReal
  al : Fin 384 → Fin 16 → EReal
  dp : Fin 384 → EReal
  ow : Fin 384 → Fin 192 → EReal

namespace Block

variable (B : Block)

/-- The input projection. -/
def proj (t : Fin 2048) (j : Fin 768) : EReal := ∑ k : Fin 192, B.xg t k * B.iw k j

/-- Its first half, the channels. -/
def xin (t : Fin 2048) (c : Fin 384) : EReal := B.proj t ⟨c.val, by omega⟩

/-- Its second half, the gate's channels. -/
def zin (t : Fin 2048) (c : Fin 384) : EReal := B.proj t ⟨384 + c.val, by omega⟩

/-- The channels `k` tokens earlier, zero before the first token. -/
def lag (k : ℕ) (t : Fin 2048) (c : Fin 384) : EReal :=
  if h : t.val < k then 0 else B.xin ⟨t.val - k, by omega⟩ c

/-- The causal convolution. -/
def conv (t : Fin 2048) (c : Fin 384) : EReal :=
  B.cb c + B.lag 3 t c * B.cw c 0 + B.lag 2 t c * B.cw c 1 + B.lag 1 t c * B.cw c 2
    + B.xin t c * B.cw c 3

/-- `v * sigmoid v`. -/
def silu (v : EReal) : EReal := v * Ideal.logistic v

/-- The activated channels. -/
def xc (t : Fin 2048) (c : Fin 384) : EReal := silu (B.conv t c)

/-- The projection onto the step sizes and the two state matrices. -/
def dbl (t : Fin 2048) (j : Fin 44) : EReal := ∑ c : Fin 384, B.xc t c * B.xw c j

/-- The step sizes before the softplus. -/
def dtin (t : Fin 2048) (c : Fin 384) : EReal :=
  ∑ r : Fin 12, B.dbl t ⟨r.val, by omega⟩ * B.dw r c + B.db c

/-- The step sizes. -/
def dt (t : Fin 2048) (c : Fin 384) : EReal := Ideal.log1p (Ideal.exp (B.dtin t c))

/-- The input matrix. -/
def bs (t : Fin 2048) (n : Fin 16) : EReal := B.dbl t ⟨12 + n.val, by omega⟩

/-- The output matrix. -/
def cs (t : Fin 2048) (n : Fin 16) : EReal := B.dbl t ⟨28 + n.val, by omega⟩

/-- The states' decay rates. -/
def A (c : Fin 384) (n : Fin 16) : EReal := -Ideal.exp (B.al c n)

/-- The token of a step of the recurrence. -/
def tok (t : ℕ) : Fin 2048 := ⟨t % 2048, Nat.mod_lt _ (by decide)⟩

theorem tok_val (t : Fin 2048) : tok t.val = t := Fin.ext (Nat.mod_eq_of_lt t.isLt)

/-- How much of state `n` of channel `c` token `t` keeps. -/
def keep (c : Fin 384) (n : Fin 16) (t : ℕ) : EReal := Ideal.exp (B.dt (tok t) c * B.A c n)

/-- What token `t` adds to state `n` of channel `c`. -/
def gain (c : Fin 384) (n : Fin 16) (t : ℕ) : EReal :=
  B.dt (tok t) c * B.xc (tok t) c * B.bs (tok t) n

/-- State `n` of channel `c` after `t` tokens. -/
def state (c : Fin 384) (n : Fin 16) (t : ℕ) : EReal :=
  Scan.rec' (B.keep c n) (B.gain c n) 0 t

/-- The scan's output. -/
def y (t : Fin 2048) (c : Fin 384) : EReal :=
  ∑ n : Fin 16, B.state c n (t.val + 1) * B.cs t n

/-- The scan's output with the skip connection, gated. -/
def gated (t : Fin 2048) (c : Fin 384) : EReal :=
  (B.y t c + B.dp c * B.xc t c) * silu (B.zin t c)

/-- The block's result. -/
def out (t : Fin 2048) (d : Fin 192) : EReal :=
  (∑ c : Fin 384, B.gated t c * B.ow c d) * B.gg t

end Block

/-- The block of sequence `b` and expert `e`, read off the program's arrays. -/
def blockAt (xg : (⟨4, ![2, 8, 2048, 192]⟩ : Shape).Idx → EReal)
    (gg : (⟨4, ![2, 8, 2048, 1]⟩ : Shape).Idx → EReal) (iw : (⟨3, ![8, 192, 768]⟩ : Shape).Idx → EReal)
    (cw : (⟨3, ![8, 384, 4]⟩ : Shape).Idx → EReal) (cb : (⟨2, ![8, 384]⟩ : Shape).Idx → EReal)
    (xw : (⟨3, ![8, 384, 44]⟩ : Shape).Idx → EReal) (dw : (⟨3, ![8, 12, 384]⟩ : Shape).Idx → EReal)
    (db : (⟨2, ![8, 384]⟩ : Shape).Idx → EReal) (al : (⟨3, ![8, 384, 16]⟩ : Shape).Idx → EReal)
    (dp : (⟨2, ![8, 384]⟩ : Shape).Idx → EReal) (ow : (⟨3, ![8, 384, 192]⟩ : Shape).Idx → EReal)
    (b : Fin 2) (e : Fin 8) : Block where
  xg t k := xg (ix4 b e t k)
  gg t := gg (ix4 b e t (0 : Fin 1))
  iw k j := iw (ix3 e k j)
  cw c k := cw (ix3 e c k)
  cb c := cb (ix2 e c)
  xw c j := xw (ix3 e c j)
  dw r c := dw (ix3 e r c)
  db c := db (ix2 e c)
  al c n := al (ix3 e c n)
  dp c := dp (ix2 e c)
  ow c d := ow (ix3 e c d)

end Cert.Spec

end
-- ==== Proof.BodyValue.lean ====
module

public import proofs.«01_k».proof.Proof.LoopValue
public import proofs.«01_k».proof.Proof.Spec

@[expose] public section

/-! The values of the kernel's body around its loop, at an index. -/

set_option maxRecDepth 16384

noncomputable section

namespace Cert.KernelIdeal.Trip

open Cert.KernelIdeal Cert.KernelIdeal.Gen Idealize.ShloMosaic Idealize.ShloMosaic.TcCoe
open Cert.Spec

variable (x1 : FVec Ideal S1x1x2048x192 .f32) (x2 : FVec Ideal S1x1x2048x1 .f32)
  (x3 : FVec Ideal S1x192x768 .f32) (x4 : FVec Ideal S1x384x4 .f32) (x5 : FVec Ideal S1x1x384 .f32)
  (x6 : FVec Ideal S1x384x44 .f32) (x7 : FVec Ideal S1x12x384 .f32) (x8 : FVec Ideal S1x1x384 .f32)
  (x9 : FVec Ideal S1x384x16 .f32) (x10 : FVec Ideal S1x1x384 .f32) (x11 : FVec Ideal S1x384x192 .f32)

/-- The block a grid point works on. -/
def blockOf : Block where
  xg t k := x1 (ix4 (0 : Fin 1) (0 : Fin 1) t k)
  gg t := x2 (ix4 (0 : Fin 1) (0 : Fin 1) t (0 : Fin 1))
  iw k j := x3 (ix3 (0 : Fin 1) k j)
  cw c k := x4 (ix3 (0 : Fin 1) c k)
  cb c := x5 (ix3 (0 : Fin 1) (0 : Fin 1) c)
  xw c j := x6 (ix3 (0 : Fin 1) c j)
  dw r c := x7 (ix3 (0 : Fin 1) r c)
  db c := x8 (ix3 (0 : Fin 1) (0 : Fin 1) c)
  al c n := x9 (ix3 (0 : Fin 1) c n)
  dp c := x10 (ix3 (0 : Fin 1) (0 : Fin 1) c)
  ow c d := x11 (ix3 (0 : Fin 1) c d)

theorem proj_apply (t : Fin 2048) (j : Fin 768) : k0_pay376 (F := Ideal) x1 x3 (ix2 t j) = (blockOf x1 x2 x3 x4 x5 x6 x7 x8 x9 x10 x11).proj t j := by
  pointwise [k0_pay376, Block.proj, blockOf]

theorem xin_apply (t : Fin 2048) (c : Fin 384) : k0_pay377 (F := Ideal) x1 x3 (ix2 t c) = (blockOf x1 x2 x3 x4 x5 x6 x7 x8 x9 x10 x11).xin t c := by
  unfold Block.xin
  rw [← proj_apply x1 x2 x3 x4 x5 x6 x7 x8 x9 x10 x11]
  pointwise [k0_pay377]

theorem zin_apply (t : Fin 2048) (c : Fin 384) : k0_pay378 (F := Ideal) x1 x3 (ix2 t c) = (blockOf x1 x2 x3 x4 x5 x6 x7 x8 x9 x10 x11).zin t c := by
  unfold Block.zin
  rw [← proj_apply x1 x2 x3 x4 x5 x6 x7 x8 x9 x10 x11]
  pointwise [k0_pay378]

theorem xc_apply (t : Fin 2048) (c : Fin 384) :
    k0_pay381 (F := Ideal) (k0_pay377 (F := Ideal) x1 x3) (k0_pay379 (F := Ideal) x4) (k0_pay380 (F := Ideal) x1 x3 x4 x5) (ix2 t c) = (blockOf x1 x2 x3 x4 x5 x6 x7 x8 x9 x10 x11).xc t c := by
  unfold Block.xc Block.conv Block.lag
  simp only [← xin_apply x1 x2 x3 x4 x5 x6 x7 x8 x9 x10 x11]
  pointwise [k0_pay381, k0_pay379, k0_pay380, Block.silu, blockOf]

theorem A_apply (c : Fin 384) (n : Fin 16) : k0_pay388 (F := Ideal) x9 (ix2 c n) = (blockOf x1 x2 x3 x4 x5 x6 x7 x8 x9 x10 x11).A c n := by
  pointwise [k0_pay388, Block.A, blockOf]
  rw [sub_eq_add_neg, zero_add]

theorem dbl_apply (t : Fin 2048) (j : Fin 44) :
    k0_pay382 (F := Ideal) (k0_pay377 (F := Ideal) x1 x3) (k0_pay379 (F := Ideal) x4) (k0_pay380 (F := Ideal) x1 x3 x4 x5) x6 (ix2 t j)
      = (blockOf x1 x2 x3 x4 x5 x6 x7 x8 x9 x10 x11).dbl t j := by
  unfold Block.dbl
  simp only [← xc_apply x1 x2 x3 x4 x5 x6 x7 x8 x9 x10 x11]
  pointwise [k0_pay382, blockOf]

theorem bs_apply (t : Fin 2048) (n : Fin 16) :
    k0_pay386 (F := Ideal) (k0_pay377 (F := Ideal) x1 x3) (k0_pay379 (F := Ideal) x4) (k0_pay380 (F := Ideal) x1 x3 x4 x5) x6 (ix2 t n)
      = (blockOf x1 x2 x3 x4 x5 x6 x7 x8 x9 x10 x11).bs t n := by
  unfold Block.bs
  simp only [← dbl_apply x1 x2 x3 x4 x5 x6 x7 x8 x9 x10 x11]
  pointwise [k0_pay386]

theorem cs_apply (t : Fin 2048) (n : Fin 16) :
    k0_pay387 (F := Ideal) (k0_pay382 (F := Ideal) (k0_pay377 (F := Ideal) x1 x3) (k0_pay379 (F := Ideal) x4) (k0_pay380 (F := Ideal) x1 x3 x4 x5) x6) (ix2 t n)
      = (blockOf x1 x2 x3 x4 x5 x6 x7 x8 x9 x10 x11).cs t n := by
  unfold Block.cs
  simp only [← dbl_apply x1 x2 x3 x4 x5 x6 x7 x8 x9 x10 x11]
  pointwise [k0_pay387]

/-- The cut-off of the softplus is read as plus infinity. -/
theorem cut_top : Named.named (F := Ideal) (φ := .f32) Cert.KernelIdeal.κ "softplus_cut" 1101004800#32
    = (⊤ : EReal) := by
  rfl

theorem dt_apply (t : Fin 2048) (c : Fin 384) :
    k0_pay383 (F := Ideal) (k0_pay377 (F := Ideal) x1 x3) (k0_pay379 (F := Ideal) x4) (k0_pay380 (F := Ideal) x1 x3 x4 x5) x6 x7 x8 (ix2 t c)
      = (blockOf x1 x2 x3 x4 x5 x6 x7 x8 x9 x10 x11).dt t c := by
  unfold Block.dt Block.dtin
  simp only [← dbl_apply x1 x2 x3 x4 x5 x6 x7 x8 x9 x10 x11]
  pointwise [k0_pay383, blockOf]
  simp only [cut_top]
  rw [if_neg not_top_lt, min_top_right]

theorem dt_store (t : Fin 2048) (c : Fin 384) :
    k0_pay384 (F := Ideal) (k0_pay377 (F := Ideal) x1 x3) (k0_pay379 (F := Ideal) x4) (k0_pay380 (F := Ideal) x1 x3 x4 x5) x6 x7 x8 (ix2 t c)
      = (blockOf x1 x2 x3 x4 x5 x6 x7 x8 x9 x10 x11).dt t c := by
  rw [← dt_apply x1 x2 x3 x4 x5 x6 x7 x8 x9 x10 x11]
  pointwise [k0_pay384]

theorem dtx_store (t : Fin 2048) (c : Fin 384) :
    k0_pay385 (F := Ideal) (k0_pay377 (F := Ideal) x1 x3) (k0_pay379 (F := Ideal) x4) (k0_pay380 (F := Ideal) x1 x3 x4 x5) x6 x7 x8 (ix2 t c)
      = (blockOf x1 x2 x3 x4 x5 x6 x7 x8 x9 x10 x11).dt t c * (blockOf x1 x2 x3 x4 x5 x6 x7 x8 x9 x10 x11).xc t c := by
  rw [← dt_apply x1 x2 x3 x4 x5 x6 x7 x8 x9 x10 x11, ← xc_apply x1 x2 x3 x4 x5 x6 x7 x8 x9 x10 x11]
  pointwise [k0_pay385]

theorem init_apply (n : Fin 16) (c : Fin 384) : k0_pay390 (F := Ideal) (ix2 n c) = (0 : EReal) := by
  pointwise [k0_pay390]

theorem out_apply (ys : FVec Ideal S2048x384 .f32) (t : Fin 2048) (d : Fin 192)
    (hy : ∀ c, ys (ix2 t c) = (blockOf x1 x2 x3 x4 x5 x6 x7 x8 x9 x10 x11).y t c) :
    k0_pay7 (F := Ideal) (k0_pay378 (F := Ideal) x1 x3)
      (k0_pay381 (F := Ideal) (k0_pay377 (F := Ideal) x1 x3) (k0_pay379 (F := Ideal) x4) (k0_pay380 (F := Ideal) x1 x3 x4 x5))
      x10 ys x11 x2 (ix4 (0 : Fin 1) (0 : Fin 1) t d) = (blockOf x1 x2 x3 x4 x5 x6 x7 x8 x9 x10 x11).out t d := by
  unfold Block.out Block.gated
  simp only [← zin_apply x1 x2 x3 x4 x5 x6 x7 x8 x9 x10 x11,
    ← xc_apply x1 x2 x3 x4 x5 x6 x7 x8 x9 x10 x11, ← hy]
  pointwise [k0_pay7, blockOf, Block.silu]

end Cert.KernelIdeal.Trip

end
-- ==== Proof.SpecFacts.lean ====
module

public import proofs.«01_k».proof.Proof.Spec

@[expose] public section

/-! The step sizes are not negative and the decay rates not positive, so that what a token keeps of
a state lies between zero and one; and the softplus in the form that never overflows. -/

noncomputable section

namespace Cert.Spec

open Idealize.ShloMosaic

theorem exp_nonneg (x : EReal) : 0 ≤ Ideal.exp x := by
  induction x with
  | bot => simp
  | top => simp
  | coe r =>
    rw [Ideal.exp_coe]
    exact_mod_cast (Real.exp_pos r).le

theorem exp_ne_top (x : EReal) (h : x ≤ 0) : Ideal.exp x ≠ ⊤ := by
  induction x with
  | bot => simp
  | top => exact absurd h (by simp)
  | coe r =>
    rw [Ideal.exp_coe]
    exact EReal.coe_ne_top _

theorem log1p_exp_coe (r : ℝ) :
    Ideal.log1p (Ideal.exp (r : EReal)) = ((Real.log (1 + Real.exp r) : ℝ) : EReal) := by
  rw [Ideal.exp_coe, Ideal.log1p, ← EReal.coe_one, ← EReal.coe_add]
  have : ¬ (1 + Real.exp r) ≤ 0 := by
    have := Real.exp_pos r
    linarith
  exact if_neg this

theorem log1p_zero : Ideal.log1p 0 = 0 := by
  rw [Ideal.log1p, add_zero, ← EReal.coe_one]
  show (if (1 : ℝ) ≤ 0 then (⊥ : EReal) else ((Real.log 1 : ℝ) : EReal)) = 0
  simp

theorem log1p_top : Ideal.log1p ⊤ = ⊤ := by
  rw [Ideal.log1p, EReal.add_top_of_ne_bot (show (1 : EReal) ≠ ⊥ from EReal.coe_ne_bot 1)]
  rfl

theorem softplus_nonneg (x : EReal) : 0 ≤ Ideal.log1p (Ideal.exp x) := by
  induction x with
  | bot => rw [Ideal.exp_bot, log1p_zero]
  | top => rw [Ideal.exp_top, log1p_top]; exact le_top
  | coe r =>
    rw [log1p_exp_coe]
    have := Real.log_nonneg (x := 1 + Real.exp r) (by have := Real.exp_pos r; linarith)
    exact_mod_cast this

/-- The softplus of `x` by the larger of `x` and zero. -/
theorem softplus_max (x : EReal) :
    max x 0 + Ideal.log1p (Ideal.exp (-(max x (-x)))) = Ideal.log1p (Ideal.exp x) := by
  induction x with
  | bot => simp [log1p_zero]
  | top => simp [log1p_zero, log1p_top]
  | coe r =>
    have e : -(max (r : EReal) (-(r : EReal))) = ((-|r| : ℝ) : EReal) := by
      rw [← EReal.coe_neg, abs, EReal.coe_neg]
      exact congrArg (-·) (EReal.coe_strictMono.monotone.map_max (a := r) (b := -r)).symm
    have e0 : max (r : EReal) 0 = ((max r 0 : ℝ) : EReal) := by
      rw [← EReal.coe_zero]
      exact (EReal.coe_strictMono.monotone.map_max (a := r) (b := 0)).symm
    rw [e, e0, log1p_exp_coe, log1p_exp_coe, ← EReal.coe_add]
    congr 1
    rcases le_total 0 r with h | h
    · rw [max_eq_left h, abs_of_nonneg h]
      have h1 : 1 + Real.exp r = Real.exp r * (1 + Real.exp (-r)) := by
        rw [mul_add, ← Real.exp_add]
        simp [add_comm]
      rw [h1, Real.log_mul (Real.exp_pos r).ne' (by have := Real.exp_pos (-r); linarith), Real.log_exp]
    · rw [max_eq_right h, abs_of_nonpos h, neg_neg, zero_add]

theorem keep_arg (x y : EReal) : Ideal.log1p (Ideal.exp x) * -Ideal.exp y ≤ 0 := by
  rw [mul_neg]
  have := mul_nonneg (softplus_nonneg x) (exp_nonneg y)
  exact EReal.neg_le_zero.2 this

theorem Block.keep_ne_top (B : Block) (c : Fin 384) (n : Fin 16) (t : ℕ) : B.keep c n t ≠ ⊤ :=
  exp_ne_top _ (keep_arg _ _)

theorem Block.keep_nonneg (B : Block) (c : Fin 384) (n : Fin 16) (t : ℕ) : 0 ≤ B.keep c n t :=
  exp_nonneg _

end Cert.Spec

end
-- ==== Proof.OutValue.lean ====
module

public import proofs.«01_k».proof.Proof.BodyValue
public import proofs.«01_k».proof.Proof.SpecFacts
public import proofs.«01_k».proof.Proof.CountsIdealTable
public import proofs.«01_k».proof.Proof.Gen.KernelIdeal.Frame
public import Idealize.ShloMosaic.Lib.VecWindow

@[expose] public section

/-! What a grid point leaves in its output block: the Mamba block's rows, at the rows below the
point's count. -/

set_option maxRecDepth 16384

noncomputable section

namespace Cert.KernelIdeal.Trip

open Cert.KernelIdeal Cert.KernelIdeal.Gen Idealize.ShloMosaic Idealize.ShloMosaic.TcCoe
open Idealize.SL Idealize.SL.Sem
open Cert.Spec

section Generic

variable (B : Block) (A : FVec Ideal S384x16 .f32) (DT DX : FVec Ideal S2048x384 .f32)
  (BS CS : FVec Ideal S2048x16 .f32)
  (hA : ∀ c n, A (ix2 c n) = B.A c n) (hDT : ∀ t c, DT (ix2 t c) = B.dt t c)
  (hDX : ∀ t c, DX (ix2 t c) = B.dt t c * B.xc t c)
  (hBS : ∀ t n, BS (ix2 t n) = B.bs t n) (hCS : ∀ t n, CS (ix2 t n) = B.cs t n)

include hA hDT in
theorem keep_eq (c : Fin 384) (n : Fin 16) (t : ℕ) : keep A DT c n t = B.keep c n t := by
  unfold keep Block.keep
  rw [hA]
  exact congrArg (fun v => Ideal.exp (v * _)) (hDT (Block.tok t) c)

include hDX hBS in
theorem gain_eq (c : Fin 384) (n : Fin 16) (t : ℕ) : gain DX BS c n t = B.gain c n t :=
  congrArg₂ (· * ·) (hDX (Block.tok t) c) (hBS (Block.tok t) n)

include hA hDT hDX hBS in
theorem state_eq (c : Fin 384) (n : Fin 16) (t : ℕ) :
    state A DT DX BS c n t = B.state c n t := by
  unfold state Block.state
  have h1 : keep A DT c n = B.keep c n := funext (keep_eq B A DT hA hDT c n)
  have h2 : gain DX BS c n = B.gain c n := funext (gain_eq B DX BS hDX hBS c n)
  rw [h1, h2]

include hA hDT hDX hBS hCS in
theorem output_eq (c : Fin 384) (t : Fin 2048) :
    output A DT DX BS CS c t.val = B.y t c := by
  unfold output Block.y
  refine Finset.sum_congr rfl fun n _ => ?_
  rw [state_eq B A DT DX BS hA hDT hDX hBS, row_val, hCS]

end Generic

/-- A load of a whole buffer reads what the buffer holds. -/
theorem whole_read {sp : Space} {s : Shape} {e : EltTy} (a : Memref sig .tc sp s e) (h : a.IsWhole)
    (x : s.Idx → Elt Ideal e) {off : Fin s.rank → ℕ} (inb : ∀ a, off a + s.size a ≤ s.size a) :
    View.readAt (Elt Ideal) a.view (Rect.unit off s.size inb).toLoadRect (h.unread x) = x := by
  rw [View.readAt_full, Memref.IsWhole.read_unread]

theorem read_nil {sp : Space} {s : Shape} {e : EltTy} (v : View sig .tc sp s e)
    (f : v.ty.Contents (Elt Ideal)) (P Q : List (View.Piece (Elt Ideal) s e)) (h : P = []) (y : s.Idx) :
    v.read (Elt Ideal) (v.writes (Elt Ideal) f (P ++ Q)) y
      = v.read (Elt Ideal) (v.writes (Elt Ideal) f Q) y := by
  rw [h, List.nil_append]

variable (c : Dev nD) (i : grid0.Coords)
  (arg2 : Memref sig .tc .smem S1x1x1x1 .i32) (harg2 : arg2.IsWhole)
  (arg3 : Memref sig .tc .vmem S1x1x2048x192 .f32) (harg3 : arg3.IsWhole)
  (arg4 : Memref sig .tc .vmem S1x1x2048x1 .f32) (harg4 : arg4.IsWhole)
  (arg5 : Memref sig .tc .vmem S1x192x768 .f32) (harg5 : arg5.IsWhole)
  (arg6 : Memref sig .tc .vmem S1x384x4 .f32) (harg6 : arg6.IsWhole)
  (arg7 : Memref sig .tc .vmem S1x1x384 .f32) (harg7 : arg7.IsWhole)
  (arg8 : Memref sig .tc .vmem S1x384x44 .f32) (harg8 : arg8.IsWhole)
  (arg9 : Memref sig .tc .vmem S1x12x384 .f32) (harg9 : arg9.IsWhole)
  (arg10 : Memref sig .tc .vmem S1x1x384 .f32) (harg10 : arg10.IsWhole)
  (arg11 : Memref sig .tc .vmem S1x384x16 .f32) (harg11 : arg11.IsWhole)
  (arg12 : Memref sig .tc .vmem S1x1x384 .f32) (harg12 : arg12.IsWhole)
  (arg13 : Memref sig .tc .vmem S1x384x192 .f32) (harg13 : arg13.IsWhole)
  (arg14 : Memref sig .tc .vmem S1x1x2048x192 .f32) (harg14 : arg14.IsWhole)
  (arg15 : Memref sig .tc .vmem S2048x384 .f32) (harg15 : arg15.IsWhole)
  (arg16 : Memref sig .tc .vmem S2048x384 .f32) (harg16 : arg16.IsWhole)
  (arg17 : Memref sig .tc .vmem S2048x16 .f32) (harg17 : arg17.IsWhole)
  (arg18 : Memref sig .tc .vmem S2048x16 .f32) (harg18 : arg18.IsWhole)
  (arg19 : Memref sig .tc .vmem S2048x384 .f32) (harg19 : arg19.IsWhole)
  (x0 : IVec S1x1x1x1 32)
  (x1 : FVec Ideal S1x1x2048x192 .f32) (x2 : FVec Ideal S1x1x2048x1 .f32)
  (x3 : FVec Ideal S1x192x768 .f32) (x4 : FVec Ideal S1x384x4 .f32) (x5 : FVec Ideal S1x1x384 .f32)
  (x6 : FVec Ideal S1x384x44 .f32) (x7 : FVec Ideal S1x12x384 .f32) (x8 : FVec Ideal S1x1x384 .f32)
  (x9 : FVec Ideal S1x384x16 .f32) (x10 : FVec Ideal S1x1x384 .f32) (x11 : FVec Ideal S1x384x192 .f32)

theorem read_1x384x44 (a : Memref sig .tc .vmem S1x384x44 .f32) (h : a.IsWhole) (x : FVec Ideal S1x384x44 .f32) :
    View.readAt (Elt Ideal) a.view (Rect.unit ![0, 0, 0] ![1, 384, 44] inb_S1x384x44_S1x384x44_0_0_0).toLoadRect
      (h.unread x) = x :=
  whole_read a h x _

theorem read_1x12x384 (a : Memref sig .tc .vmem S1x12x384 .f32) (h : a.IsWhole) (x : FVec Ideal S1x12x384 .f32) :
    View.readAt (Elt Ideal) a.view (Rect.unit ![0, 0, 0] ![1, 12, 384] inb_S1x12x384_S1x12x384_0_0_0).toLoadRect
      (h.unread x) = x :=
  whole_read a h x _

theorem read_1x1x384 (a : Memref sig .tc .vmem S1x1x384 .f32) (h : a.IsWhole) (x : FVec Ideal S1x1x384 .f32) :
    View.readAt (Elt Ideal) a.view (Rect.unit ![0, 0, 0] ![1, 1, 384] inb_S1x1x384_S1x1x384_0_0_0).toLoadRect
      (h.unread x) = x :=
  whole_read a h x _

theorem read_1x384x16 (a : Memref sig .tc .vmem S1x384x16 .f32) (h : a.IsWhole) (x : FVec Ideal S1x384x16 .f32) :
    View.readAt (Elt Ideal) a.view (Rect.unit ![0, 0, 0] ![1, 384, 16] inb_S1x384x16_S1x384x16_0_0_0).toLoadRect
      (h.unread x) = x :=
  whole_read a h x _

theorem read_1x1x2048x1 (a : Memref sig .tc .vmem S1x1x2048x1 .f32) (h : a.IsWhole) (x : FVec Ideal S1x1x2048x1 .f32) :
    View.readAt (Elt Ideal) a.view (Rect.unit ![0, 0, 0, 0] ![1, 1, 2048, 1] inb_S1x1x2048x1_S1x1x2048x1_0_0_0_0).toLoadRect
      (h.unread x) = x :=
  whole_read a h x _

theorem read_1x1x2048x192 (a : Memref sig .tc .vmem S1x1x2048x192 .f32) (h : a.IsWhole) (x : FVec Ideal S1x1x2048x192 .f32) :
    View.readAt (Elt Ideal) a.view (Rect.unit ![0, 0, 0, 0] ![1, 1, 2048, 192] inb_S1x1x2048x192_S1x1x2048x192_0_0_0_0).toLoadRect
      (h.unread x) = x :=
  whole_read a h x _

theorem read_1x192x768 (a : Memref sig .tc .vmem S1x192x768 .f32) (h : a.IsWhole) (x : FVec Ideal S1x192x768 .f32) :
    View.readAt (Elt Ideal) a.view (Rect.unit ![0, 0, 0] ![1, 192, 768] inb_S1x192x768_S1x192x768_0_0_0).toLoadRect
      (h.unread x) = x :=
  whole_read a h x _

theorem read_1x384x4 (a : Memref sig .tc .vmem S1x384x4 .f32) (h : a.IsWhole) (x : FVec Ideal S1x384x4 .f32) :
    View.readAt (Elt Ideal) a.view (Rect.unit ![0, 0, 0] ![1, 384, 4] inb_S1x384x4_S1x384x4_0_0_0).toLoadRect
      (h.unread x) = x :=
  whole_read a h x _

theorem r_eq : kernelRun0_A.sl.r (F := Ideal) c arg3 harg3 arg5 harg5 x1 x3 = k0_pay377 (F := Ideal) x1 x3 := by
  unfold kernelRun0_A.sl.r
  simp only [read_1x384x44, read_1x12x384, read_1x1x384, read_1x384x16, read_1x1x2048x1, read_1x1x2048x192, read_1x192x768, read_1x384x4]

theorem r_1_eq : kernelRun0_A.sl.r_1 (F := Ideal) c arg3 harg3 arg5 harg5 x1 x3 = k0_pay378 (F := Ideal) x1 x3 := by
  unfold kernelRun0_A.sl.r_1
  simp only [read_1x384x44, read_1x12x384, read_1x1x384, read_1x384x16, read_1x1x2048x1, read_1x1x2048x192, read_1x192x768, read_1x384x4]

theorem r_2_eq : kernelRun0_A.sl.r_2 (F := Ideal) c arg6 harg6 x4 = k0_pay379 (F := Ideal) x4 := by
  unfold kernelRun0_A.sl.r_2
  simp only [read_1x384x44, read_1x12x384, read_1x1x384, read_1x384x16, read_1x1x2048x1, read_1x1x2048x192, read_1x192x768, read_1x384x4]

theorem r_3_eq : kernelRun0_A.sl.r_3 (F := Ideal) c arg3 harg3 arg5 harg5 arg6 harg6 arg7 harg7 x1 x3 x4 x5 = k0_pay380 (F := Ideal) x1 x3 x4 x5 := by
  unfold kernelRun0_A.sl.r_3
  simp only [read_1x384x44, read_1x12x384, read_1x1x384, read_1x384x16, read_1x1x2048x1, read_1x1x2048x192, read_1x192x768, read_1x384x4]

theorem r_4_eq : kernelRun0_A.sl.r_4 (F := Ideal) c arg3 harg3 arg5 harg5 arg6 harg6 arg7 harg7 x1 x3 x4 x5 = k0_pay381 (F := Ideal) (k0_pay377 (F := Ideal) x1 x3) (k0_pay379 (F := Ideal) x4) (k0_pay380 (F := Ideal) x1 x3 x4 x5) := by
  unfold kernelRun0_A.sl.r_4
  simp only [read_1x384x44, read_1x12x384, read_1x1x384, read_1x384x16, read_1x1x2048x1, read_1x1x2048x192, read_1x192x768, read_1x384x4, r_eq, r_2_eq, r_3_eq]

theorem r_5_eq : kernelRun0_A.sl.r_5 (F := Ideal) c arg3 harg3 arg5 harg5 arg6 harg6 arg7 harg7 arg8 harg8 x1 x3 x4 x5 x6 = k0_pay382 (F := Ideal) (k0_pay377 (F := Ideal) x1 x3) (k0_pay379 (F := Ideal) x4) (k0_pay380 (F := Ideal) x1 x3 x4 x5) x6 := by
  unfold kernelRun0_A.sl.r_5
  simp only [read_1x384x44, read_1x12x384, read_1x1x384, read_1x384x16, read_1x1x2048x1, read_1x1x2048x192, read_1x192x768, read_1x384x4, r_eq, r_2_eq, r_3_eq]

theorem r_7_eq : kernelRun0_A.sl.r_7 (F := Ideal) c arg11 harg11 x9 = k0_pay388 (F := Ideal) x9 := by
  unfold kernelRun0_A.sl.r_7
  simp only [read_1x384x44, read_1x12x384, read_1x1x384, read_1x384x16, read_1x1x2048x1, read_1x1x2048x192, read_1x192x768, read_1x384x4]

theorem v132_eq : kernelRun0_A.sl.v132 (F := Ideal) c arg4 harg4 x2 = x2 := by
  unfold kernelRun0_A.sl.v132
  simp only [read_1x384x44, read_1x12x384, read_1x1x384, read_1x384x16, read_1x1x2048x1, read_1x1x2048x192, read_1x192x768, read_1x384x4]

theorem r_6_eq (w : BitVec 32) (h : ∀ y, x0 y = w) :
    kernelRun0_A.sl.r_6 (F := Ideal) c arg2 harg2 x0 = w := by
  unfold kernelRun0_A.sl.r_6
  rw [whole_read]
  exact h _

theorem HS0_read (f : BufTy.Contents (Elt Ideal) arg15.view.ty) :
    arg15.view.read (Elt Ideal) (arg15.view.writes (Elt Ideal) f
      (kernelRun0_A.sl.HS0_1 (F := Ideal) c arg3 harg3 arg5 harg5 arg6 harg6 arg7 harg7 arg8 harg8 arg9 harg9 arg10 harg10 x1 x3 x4 x5 x6 x7 x8))
      = k0_pay384 (F := Ideal) (k0_pay377 (F := Ideal) x1 x3) (k0_pay379 (F := Ideal) x4) (k0_pay380 (F := Ideal) x1 x3 x4 x5) x6 x7 x8 := by
  unfold kernelRun0_A.sl.HS0_1
  refine (View.read_writes_full _ _ _ _ _).trans ?_
  simp only [read_1x384x44, read_1x12x384, read_1x1x384, read_1x384x16, read_1x1x2048x1, read_1x1x2048x192, read_1x192x768, read_1x384x4, r_eq, r_2_eq, r_3_eq, r_5_eq]

theorem HS1_read (f : BufTy.Contents (Elt Ideal) arg16.view.ty) :
    arg16.view.read (Elt Ideal) (arg16.view.writes (Elt Ideal) f
      (kernelRun0_A.sl.HS1_1 (F := Ideal) c arg3 harg3 arg5 harg5 arg6 harg6 arg7 harg7 arg8 harg8 arg9 harg9 arg10 harg10 x1 x3 x4 x5 x6 x7 x8))
      = k0_pay385 (F := Ideal) (k0_pay377 (F := Ideal) x1 x3) (k0_pay379 (F := Ideal) x4) (k0_pay380 (F := Ideal) x1 x3 x4 x5) x6 x7 x8 := by
  unfold kernelRun0_A.sl.HS1_1
  refine (View.read_writes_full _ _ _ _ _).trans ?_
  simp only [read_1x384x44, read_1x12x384, read_1x1x384, read_1x384x16, read_1x1x2048x1, read_1x1x2048x192, read_1x192x768, read_1x384x4, r_eq, r_2_eq, r_3_eq, r_5_eq]

theorem HS2_read (f : BufTy.Contents (Elt Ideal) arg17.view.ty) :
    arg17.view.read (Elt Ideal) (arg17.view.writes (Elt Ideal) f
      (kernelRun0_A.sl.HS2_1 (F := Ideal) c arg3 harg3 arg5 harg5 arg6 harg6 arg7 harg7 arg8 harg8 x1 x3 x4 x5 x6))
      = k0_pay386 (F := Ideal) (k0_pay377 (F := Ideal) x1 x3) (k0_pay379 (F := Ideal) x4) (k0_pay380 (F := Ideal) x1 x3 x4 x5) x6 := by
  unfold kernelRun0_A.sl.HS2_1
  refine (View.read_writes_full _ _ _ _ _).trans ?_
  simp only [read_1x384x44, read_1x12x384, read_1x1x384, read_1x384x16, read_1x1x2048x1, read_1x1x2048x192, read_1x192x768, read_1x384x4, r_eq, r_2_eq, r_3_eq, r_5_eq]

theorem HS3_read (f : BufTy.Contents (Elt Ideal) arg18.view.ty) :
    arg18.view.read (Elt Ideal) (arg18.view.writes (Elt Ideal) f
      (kernelRun0_A.sl.HS3_1 (F := Ideal) c arg3 harg3 arg5 harg5 arg6 harg6 arg7 harg7 arg8 harg8 x1 x3 x4 x5 x6))
      = k0_pay387 (F := Ideal) (k0_pay382 (F := Ideal) (k0_pay377 (F := Ideal) x1 x3) (k0_pay379 (F := Ideal) x4) (k0_pay380 (F := Ideal) x1 x3 x4 x5) x6) := by
  unfold kernelRun0_A.sl.HS3_1
  refine (View.read_writes_full _ _ _ _ _).trans ?_
  simp only [read_1x384x44, read_1x12x384, read_1x1x384, read_1x384x16, read_1x1x2048x1, read_1x1x2048x192, read_1x192x768, read_1x384x4, r_eq, r_2_eq, r_3_eq, r_5_eq]

theorem v122_apply (hw : k0_chk1 (arg2.view.readAt (Elt Ideal) (Rect.unit (s := S1x1x1x1) ![0, 0, 0, 0] S1x1x1x1.size inb_S1x1x1x1_S1x1x1x1_0_0_0_0).toLoadRect (harg2.unread x0) (Shape.Idx.first (numel1_S1x1x1x1.symm ▸ Nat.one_pos))))
    (n : Fin 2049) (hx0 : ∀ y, x0 y = BitVec.ofNat 32 n.val) (r : Fin 2048) (hr : r.val < n.val)
    (ch : Fin 384) :
    kernelRun0_A.sl.v122 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x3 x4 x5 x6 x7 x8 x9 hw (ix2 r ch)
      = (blockOf x1 x2 x3 x4 x5 x6 x7 x8 x9 x10 x11).y r ch := by
  have hw6 := r_6_eq c arg2 harg2 x0 _ hx0
  have ht1 : (k0_t1_loop (kernelRun0_A.sl.r_6 (F := Ideal) c arg2 harg2 x0)).trips = (n.val + 127) / 128 := by
    rw [hw6]
    exact (Counts.counts_ok n).2.1
  have ht2 : (k0_t2_loop (kernelRun0_A.sl.r_6 (F := Ideal) c arg2 harg2 x0)).trips = 0 := by
    rw [hw6]
    exact (Counts.counts_ok n).2.2
  have hoff : ∀ k, k0_off1 (kernelRun0_A.sl.r_6 (F := Ideal) c arg2 harg2 x0) k = ![128 * k.val, 0]
      ∧ k0_off2 (kernelRun0_A.sl.r_6 (F := Ideal) c arg2 harg2 x0) k = ![128 * k.val, 0] := by
    rw [hw6]
    exact Counts.off_ok n
  have hA : ∀ c' n', kernelRun0_A.sl.r_7 (F := Ideal) c arg11 harg11 x9 (ix2 c' n') = (blockOf x1 x2 x3 x4 x5 x6 x7 x8 x9 x10 x11).A c' n' := by
    rw [r_7_eq]
    exact A_apply x1 x2 x3 x4 x5 x6 x7 x8 x9 x10 x11
  unfold kernelRun0_A.sl.v122
  refine (congrFun (View.readAt_full _ _ _) _).trans ?_
  refine (read_nil arg19.view _ _ _ ?_ _).trans ?_
  · exact congrArg (fun T => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ T).2) ht2
  refine ((loop_value Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ (init_apply) _ _ _ _
    (HS0_read c arg3 harg3 arg5 harg5 arg6 harg6 arg7 harg7 arg8 harg8 arg9 harg9 arg10 harg10 arg15 x1 x3 x4 x5 x6 x7 x8 _)
    (HS1_read c arg3 harg3 arg5 harg5 arg6 harg6 arg7 harg7 arg8 harg8 arg9 harg9 arg10 harg10 arg16 x1 x3 x4 x5 x6 x7 x8 _)
    (HS2_read c arg3 harg3 arg5 harg5 arg6 harg6 arg7 harg7 arg8 harg8 arg17 x1 x3 x4 x5 x6 _)
    (HS3_read c arg3 harg3 arg5 harg5 arg6 harg6 arg7 harg7 arg8 harg8 arg18 x1 x3 x4 x5 x6 _) ?_ ?_ ?_ hoff _ _ _ (le_refl _)).2 r ch ?_).trans ?_
  · intro c' n' t
    rw [keep_eq (blockOf x1 x2 x3 x4 x5 x6 x7 x8 x9 x10 x11) _ _ hA (dt_store x1 x2 x3 x4 x5 x6 x7 x8 x9 x10 x11)]
    exact Block.keep_ne_top _ _ _ _
  · intro c' n' t
    rw [keep_eq (blockOf x1 x2 x3 x4 x5 x6 x7 x8 x9 x10 x11) _ _ hA (dt_store x1 x2 x3 x4 x5 x6 x7 x8 x9 x10 x11)]
    exact Block.keep_nonneg _ _ _ _
  · omega
  · show r.val < 128 * (k0_t1_loop (kernelRun0_A.sl.r_6 (F := Ideal) c arg2 harg2 x0)).trips
    omega
  · exact output_eq (blockOf x1 x2 x3 x4 x5 x6 x7 x8 x9 x10 x11) _ _ _ _ _ hA (dt_store x1 x2 x3 x4 x5 x6 x7 x8 x9 x10 x11) (dtx_store x1 x2 x3 x4 x5 x6 x7 x8 x9 x10 x11) (bs_apply x1 x2 x3 x4 x5 x6 x7 x8 x9 x10 x11) (cs_apply x1 x2 x3 x4 x5 x6 x7 x8 x9 x10 x11) ch r

theorem out_value (hw : k0_chk1 (arg2.view.readAt (Elt Ideal) (Rect.unit (s := S1x1x1x1) ![0, 0, 0, 0] S1x1x1x1.size inb_S1x1x1x1_S1x1x1x1_0_0_0_0).toLoadRect (harg2.unread x0) (Shape.Idx.first (numel1_S1x1x1x1.symm ▸ Nat.one_pos))))
    (n : Fin 2049) (hx0 : ∀ y, x0 y = BitVec.ofNat 32 n.val) (r : Fin 2048) (hr : r.val < n.val)
    (d : Fin 192) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hw (ix4 (0 : Fin 1) (0 : Fin 1) r d)
      = (blockOf x1 x2 x3 x4 x5 x6 x7 x8 x9 x10 x11).out r d := by
  unfold out0_A_12 kernelRun0_A
  dsimp only
  refine (congrFun (View.read_writes_full _ _ _ _ _) _).trans ?_
  rw [r_1_eq, r_4_eq, v132_eq]
  have e10 := read_1x1x384 arg12 harg12 x10
  have e11 := whole_read arg13 harg13 x11 inb_S1x384x192_S1x384x192_0_0_0
  refine Eq.trans (congrArg₂ (fun u v => k0_pay7 (F := Ideal) _ _ u _ v _ _) e10 e11) ?_
  exact out_apply x1 x2 x3 x4 x5 x6 x7 x8 x9 x10 x11 _ r d (v122_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 hw n hx0 r hr)

end Cert.KernelIdeal.Trip

end
-- ==== Proof.Order.lean ====
module

public import Idealize.ShloMosaic.Lib.SortFacts
public import Mathlib.Data.Nat.Count
public import Mathlib.Order.WellFounded

@[expose] public section

/-! A stable sort by a natural key, and the place of a token when the selected tokens come first. -/

namespace Cert.Order

open Idealize.ShloMosaic

variable {n : ℕ}

/-- In front of `b`: a smaller key, or the same key and an earlier position. -/
def Front (key : Fin n → ℕ) (a b : Fin n) : Prop := key a < key b ∨ (key a = key b ∧ a < b)

theorem Front.trans {key : Fin n → ℕ} {a b c : Fin n} (h : Front key a b) (h' : Front key b c) : Front key a c := by
  unfold Front at *
  rcases h with h | ⟨h, h2⟩ <;> rcases h' with h' | ⟨h', h3⟩
  · exact Or.inl (h.trans h')
  · exact Or.inl (by omega)
  · exact Or.inl (by omega)
  · exact Or.inr ⟨by omega, h2.trans h3⟩

/-- Putting an earlier position into a list that is in order keeps the order. -/
theorem front_insert (key : Fin n → ℕ) (before : Fin n → Fin n → Bool) (hb : ∀ a b, before a b = true ↔ key a < key b)
    (a : Fin n) (l : List (Fin n)) (ha : ∀ b ∈ l, a < b) (hl : l.Pairwise (Front key)) :
    (insertBefore before a l).Pairwise (Front key) := by
  induction l with
  | nil => exact List.pairwise_singleton _ _
  | cons b l ih =>
    obtain ⟨hbl, hl'⟩ := List.pairwise_cons.1 hl
    rw [insertBefore]
    split
    · next h =>
      refine List.pairwise_cons.2 ⟨fun c hc => ?_, ih (fun x hx => ha x (List.mem_cons_of_mem _ hx)) hl'⟩
      rcases List.mem_cons.1 ((perm_insertBefore before a l).mem_iff.1 hc) with rfl | hc
      · exact Or.inl ((hb _ _).1 h)
      · exact hbl c hc
    · next h =>
      have hab : Front key a b := by
        have h1 : ¬ key b < key a := fun q => h ((hb _ _).2 q)
        have h2 := ha b List.mem_cons_self
        unfold Front
        rcases Nat.lt_or_eq_of_le (Nat.le_of_not_lt h1) with q | q
        · exact Or.inl q
        · exact Or.inr ⟨q, h2⟩
      refine List.pairwise_cons.2 ⟨fun c hc => ?_, hl⟩
      rcases List.mem_cons.1 hc with rfl | hc
      · exact hab
      · exact hab.trans (hbl c hc)

theorem front_sort (key : Fin n → ℕ) (before : Fin n → Fin n → Bool) (hb : ∀ a b, before a b = true ↔ key a < key b)
    (l : List (Fin n)) (hl : l.Pairwise (· < ·)) : (stableSort before l).Pairwise (Front key) := by
  induction l with
  | nil => exact List.Pairwise.nil
  | cons a l ih =>
    obtain ⟨h1, h2⟩ := List.pairwise_cons.1 hl
    rw [stableSort]
    exact front_insert key before hb a _ (fun b hb' => h1 b ((perm_stableSort before l).mem_iff.1 hb')) (ih h2)

/-- The stable sort's sources stand in front of each other in order. -/
theorem front_sorted (key : Fin n → ℕ) (before : Fin n → Fin n → Bool) (hb : ∀ a b, before a b = true ↔ key a < key b)
    (i j : Fin n) (hij : i < j) : Front key (sortedFrom before i) (sortedFrom before j) := by
  have hp := List.pairwise_iff_get.1 (front_sort key before hb (List.finRange n) (List.pairwise_lt_finRange n))
  exact hp (i.cast (length_sortPositions n before).symm) (j.cast (length_sortPositions n before).symm) hij

/-- A map of positions that sends what stands in front to what stands earlier undoes the stable sort. -/
theorem place_sorted (key : Fin n → ℕ) (before : Fin n → Fin n → Bool) (hb : ∀ a b, before a b = true ↔ key a < key b)
    (place : Fin n → Fin n) (hp : ∀ a b, Front key a b → place a < place b) (i : Fin n) :
    place (sortedFrom before i) = i := by
  have hm : StrictMono fun i => place (sortedFrom before i) := fun i j hij => hp _ _ (front_sorted key before hb i j hij)
  exact le_antisymm hm.apply_le hm.le_apply

/-! ## The selected tokens first -/

variable (sel : ℕ → Prop) [DecidablePred sel]

/-- The numbers of selected and of other tokens below `t` make up `t`. -/
theorem count_compl (t : ℕ) : Nat.count sel t + Nat.count (fun i => ¬ sel i) t = t := by
  induction t with
  | zero => rfl
  | succ t ih =>
    rw [Nat.count_succ, Nat.count_succ]
    by_cases h : sel t <;> simp [h] <;> omega

/-- The place of token `t`: a selected one stands after the earlier selected ones, another after all selected ones
    and the earlier others. -/
def placeNat (n t : ℕ) : ℕ := if sel t then Nat.count sel t else Nat.count sel n + Nat.count (fun i => ¬ sel i) t

theorem placeNat_lt (t : Fin n) : placeNat sel n t.val < n := by
  have h1 := count_compl sel n
  unfold placeNat
  split
  · next h => exact lt_of_lt_of_le (Nat.count_strict_mono h t.isLt) (by omega)
  · next h =>
    have := Nat.count_strict_mono (p := fun i => ¬ sel i) h t.isLt
    omega

/-- A selected token's place is below the number of selected tokens. -/
theorem placeNat_lt_count (t : Fin n) (h : sel t.val) : placeNat sel n t.val < Nat.count sel n := by
  rw [placeNat, if_pos h]
  exact Nat.count_strict_mono h t.isLt

def place (t : Fin n) : Fin n := ⟨placeNat sel n t.val, placeNat_lt sel t⟩

/-- The key of a token: 0 if it is selected, else 1. -/
def key (t : Fin n) : ℕ := if sel t.val then 0 else 1

theorem place_front (a b : Fin n) (h : Front (key sel) a b) : place sel a < place sel b := by
  have h1 := count_compl sel n
  show placeNat sel n a.val < placeNat sel n b.val
  unfold Front key at h
  by_cases ha : sel a.val <;> by_cases hb : sel b.val <;> simp only [ha, hb, if_true, if_false] at h
  · have hab : a < b := by omega
    simpa only [placeNat, ha, hb, if_true] using Nat.count_strict_mono ha hab
  · have := placeNat_lt_count sel a ha
    have e : placeNat sel n b.val = Nat.count sel n + Nat.count (fun i => ¬ sel i) b.val := if_neg hb
    omega
  · omega
  · have hab : a < b := by omega
    have := Nat.count_strict_mono (p := fun i => ¬ sel i) ha hab
    simp only [placeNat, ha, hb, if_false]
    omega

/-- The stable sort by the key puts every token at its place. -/
theorem place_sorted_key (before : Fin n → Fin n → Bool) (hb : ∀ a b, before a b = true ↔ key sel a < key sel b) (i : Fin n) :
    place sel (sortedFrom before i) = i := place_sorted (key sel) before hb (place sel) (place_front sel) i

theorem place_injective : Function.Injective (place (n := n) sel) := by
  intro a b h
  by_contra hne
  rcases lt_or_gt_of_ne hne with q | q
  · by_cases hk : key sel a ≤ key sel b
    · have : Front (key sel) a b := by unfold Front; omega
      exact absurd h (ne_of_lt (place_front sel a b this))
    · have : Front (key sel) b a := by unfold Front; omega
      exact absurd h.symm (ne_of_lt (place_front sel b a this))
  · by_cases hk : key sel b ≤ key sel a
    · have : Front (key sel) b a := by unfold Front; omega
      exact absurd h.symm (ne_of_lt (place_front sel b a this))
    · have : Front (key sel) a b := by unfold Front; omega
      exact absurd h (ne_of_lt (place_front sel a b this))

/-- The sort of the sorted sources gives the places. -/
theorem sorted_sorted (before before' : Fin n → Fin n → Bool) (hb : ∀ a b, before a b = true ↔ key sel a < key sel b)
    (hb' : ∀ a b, before' a b = true ↔ (sortedFrom before a).val < (sortedFrom before b).val) (t : Fin n) :
    sortedFrom before' t = place sel t := by
  have h := place_sorted (fun a => (sortedFrom before a).val) before' hb' (sortedFrom before) (fun a b hab => by
    rcases hab with q | ⟨q, q'⟩
    · exact q
    · exact absurd (sortedFrom_injective before (Fin.ext q)) (ne_of_lt q')) t
  rw [← place_sorted_key sel before hb (sortedFrom before' t), h]

end Cert.Order

end
-- ==== Proof.HostOps.lean ====
module

public import proofs.«01_k».proof.Proof.Order
public import Idealize.ShloMosaic.Lib.Routing.OpsSet
public import Idealize.ShloMosaic.Lib.Pointwise

@[expose] public section

/-! The orders, gathers, scatters and running sums of the host program, read at an index. -/

set_option maxRecDepth 16384

namespace Cert.HostOps

open Idealize.ShloMosaic

theorem clamp_pos (p : Fin 2048) (w : BitVec 32) (hp : w = BitVec.ofNat 32 p.val) : min w.toInt.toNat 2047 = p.val := by
  have := p.isLt
  rw [hp, StableHlo.Predicate.toInt_ofNat_small _ (by omega)]
  omega

/-- Rows of each sequence taken by index, per expert. -/
theorem take_tokens {α : Type} (h : GatherDims.WF ⟨3, ![2, 2048, 192]⟩ ⟨4, ![2, 8, 2048, 1]⟩ ⟨4, ![2, 8, 2048, 192]⟩ [3] [1] [0] [1] [0] 3 ![1, 1, 192])
    (x : (⟨3, ![2, 2048, 192]⟩ : Shape).Idx → α) (idx : IVec ⟨4, ![2, 8, 2048, 1]⟩ 32) (b : Fin 2) (e : Fin 8) (t : Fin 2048) (k : Fin 192)
    (p : Fin 2048) (hp : idx (ix4 b e t (0 : Fin 1)) = BitVec.ofNat 32 p.val) :
    Host.gather { offsetDims := [3], collapsedSliceDims := [1], operandBatchingDims := [0], startIndicesBatchingDims := [0],
                  startIndexMap := [1], indexVectorDim := 3, sliceSizes := ![1, 1, 192], wf := h } x idx (ix4 b e t k) = x (ix3 b p k) := by
  unfold Host.gather
  refine congrArg x (funext fun a => Fin.ext ?_)
  match a with
  | ⟨0, _⟩ => show 0 + b.val + 0 = b.val; omega
  | ⟨1, _⟩ =>
    refine Eq.trans ?_ (clamp_pos p _ hp)
    refine congrArg (fun i => min (idx i).toInt.toNat 2047) (funext fun a => ?_)
    match a with
    | ⟨0, _⟩ => rfl
    | ⟨1, _⟩ => rfl
    | ⟨2, _⟩ => rfl
    | ⟨3, _⟩ => rfl
  | ⟨2, _⟩ => show 0 + 0 + k.val = k.val; omega

/-- Entries of each expert's column taken by index. -/
theorem take_gates {α : Type} (h : GatherDims.WF ⟨3, ![2, 8, 2048]⟩ ⟨4, ![2, 8, 2048, 1]⟩ ⟨3, ![2, 8, 2048]⟩ [] [2] [0, 1] [2] [0, 1] 3 ![1, 1, 1])
    (x : (⟨3, ![2, 8, 2048]⟩ : Shape).Idx → α) (idx : IVec ⟨4, ![2, 8, 2048, 1]⟩ 32) (b : Fin 2) (e : Fin 8) (t : Fin 2048)
    (p : Fin 2048) (hp : idx (ix4 b e t (0 : Fin 1)) = BitVec.ofNat 32 p.val) :
    Host.gather { offsetDims := [], collapsedSliceDims := [2], operandBatchingDims := [0, 1], startIndicesBatchingDims := [0, 1],
                  startIndexMap := [2], indexVectorDim := 3, sliceSizes := ![1, 1, 1], wf := h } x idx (ix3 b e t) = x (ix3 b e p) := by
  unfold Host.gather
  refine congrArg x (funext fun a => Fin.ext ?_)
  match a with
  | ⟨0, _⟩ => show 0 + b.val + 0 = b.val; omega
  | ⟨1, _⟩ => show 0 + e.val + 0 = e.val; omega
  | ⟨2, _⟩ =>
    refine Eq.trans ?_ (clamp_pos p _ hp)
    refine congrArg (fun i => min (idx i).toInt.toNat 2047) (funext fun a => ?_)
    match a with
    | ⟨0, _⟩ => rfl
    | ⟨1, _⟩ => rfl
    | ⟨2, _⟩ => rfl
    | ⟨3, _⟩ => rfl

/-- Rows of each block taken by index. -/
theorem take_rows {α : Type} (h : GatherDims.WF ⟨4, ![2, 8, 2048, 192]⟩ ⟨4, ![2, 8, 2048, 1]⟩ ⟨4, ![2, 8, 2048, 192]⟩ [3] [2] [0, 1] [2] [0, 1] 3 ![1, 1, 1, 192])
    (x : (⟨4, ![2, 8, 2048, 192]⟩ : Shape).Idx → α) (idx : IVec ⟨4, ![2, 8, 2048, 1]⟩ 32) (b : Fin 2) (e : Fin 8) (t : Fin 2048) (k : Fin 192)
    (p : Fin 2048) (hp : idx (ix4 b e t (0 : Fin 1)) = BitVec.ofNat 32 p.val) :
    Host.gather { offsetDims := [3], collapsedSliceDims := [2], operandBatchingDims := [0, 1], startIndicesBatchingDims := [0, 1],
                  startIndexMap := [2], indexVectorDim := 3, sliceSizes := ![1, 1, 1, 192], wf := h } x idx (ix4 b e t k) = x (ix4 b e p k) := by
  unfold Host.gather
  refine congrArg x (funext fun a => Fin.ext ?_)
  match a with
  | ⟨0, _⟩ => show 0 + b.val + 0 = b.val; omega
  | ⟨1, _⟩ => show 0 + e.val + 0 = e.val; omega
  | ⟨2, _⟩ =>
    refine Eq.trans ?_ (clamp_pos p _ hp)
    refine congrArg (fun i => min (idx i).toInt.toNat 2047) (funext fun a => ?_)
    match a with
    | ⟨0, _⟩ => rfl
    | ⟨1, _⟩ => rfl
    | ⟨2, _⟩ => rfl
    | ⟨3, _⟩ => rfl
  | ⟨3, _⟩ => show 0 + 0 + k.val = k.val; omega

/-- For each token, entries of its row taken by index. -/
theorem take_experts {α : Type} (h : GatherDims.WF ⟨3, ![2, 2048, 8]⟩ ⟨4, ![2, 2048, 2, 1]⟩ ⟨3, ![2, 2048, 2]⟩ [] [2] [0, 1] [2] [0, 1] 3 ![1, 1, 1])
    (x : (⟨3, ![2, 2048, 8]⟩ : Shape).Idx → α) (idx : IVec ⟨4, ![2, 2048, 2, 1]⟩ 32) (b : Fin 2) (t : Fin 2048) (q : Fin 2)
    (p : Fin 8) (hp : idx (ix4 b t q (0 : Fin 1)) = BitVec.ofNat 32 p.val) :
    Host.gather { offsetDims := [], collapsedSliceDims := [2], operandBatchingDims := [0, 1], startIndicesBatchingDims := [0, 1],
                  startIndexMap := [2], indexVectorDim := 3, sliceSizes := ![1, 1, 1], wf := h } x idx (ix3 b t q) = x (ix3 b t p) := by
  have hc : min (idx (ix4 b t q (0 : Fin 1))).toInt.toNat 7 = p.val := by
    have := p.isLt
    rw [hp, StableHlo.Predicate.toInt_ofNat_small _ (by omega)]
    omega
  unfold Host.gather
  refine congrArg x (funext fun a => Fin.ext ?_)
  match a with
  | ⟨0, _⟩ => show 0 + b.val + 0 = b.val; omega
  | ⟨1, _⟩ => show 0 + t.val + 0 = t.val; omega
  | ⟨2, _⟩ =>
    refine Eq.trans ?_ hc
    refine congrArg (fun i => min (idx i).toInt.toNat 7) (funext fun a => ?_)
    match a with
    | ⟨0, _⟩ => rfl
    | ⟨1, _⟩ => rfl
    | ⟨2, _⟩ => rfl
    | ⟨3, _⟩ => rfl

/-- Where an update lands: at the place that its three index words name. -/
theorem lands (h : ScatterDims.WF ⟨3, ![2, 8, 2048]⟩ ⟨4, ![2, 8, 2048, 3]⟩ ⟨3, ![2, 8, 2048]⟩ [] [0, 1, 2] [0, 1, 2] 3)
    (idx : IVec ⟨4, ![2, 8, 2048, 3]⟩ 32) (b b' : Fin 2) (e e' : Fin 8) (t t' : Fin 2048) :
    ScatterDims.resultIdx? { updateWindowDims := [], insertedWindowDims := [0, 1, 2], scatterDimsToOperandDims := [0, 1, 2], indexVectorDim := 3, wf := h }
        (ix3 b' e' t') idx = some (ix3 b e t)
      ↔ (idx (ix4 b' e' t' (0 : Fin 3))).toInt = (b.val : ℤ) ∧ (idx (ix4 b' e' t' (1 : Fin 3))).toInt = (e.val : ℤ)
        ∧ (idx (ix4 b' e' t' (2 : Fin 3))).toInt = (t.val : ℤ) := by
  have hi : ∀ (q : Fin 3) (z : (⟨4, ![2, 8, 2048, 3]⟩ : Shape).Idx), (∀ a, (z a).val = (ix4 b' e' t' q a).val) → idx z = idx (ix4 b' e' t' q) :=
    fun q z hz => congrArg idx (funext fun a => Fin.ext (hz a))
  have s0 : ((ScatterDims.start { updateWindowDims := [], insertedWindowDims := [0, 1, 2], scatterDimsToOperandDims := [0, 1, 2], indexVectorDim := 3, wf := h } (ix3 b' e' t') idx 0
      + ((ScatterDims.window { updateWindowDims := [], insertedWindowDims := [0, 1, 2], scatterDimsToOperandDims := [0, 1, 2], indexVectorDim := 3, wf := h } (ix3 b' e' t') 0 : ℕ) : ℤ)))
      = (idx (ix4 b' e' t' (0 : Fin 3))).toInt :=
    Eq.trans (Int.add_zero _) (congrArg BitVec.toInt (hi 0 _ fun a => by
      match a with
      | ⟨0, _⟩ => rfl
      | ⟨1, _⟩ => rfl
      | ⟨2, _⟩ => rfl
      | ⟨3, _⟩ => rfl))
  have s1 : ((ScatterDims.start { updateWindowDims := [], insertedWindowDims := [0, 1, 2], scatterDimsToOperandDims := [0, 1, 2], indexVectorDim := 3, wf := h } (ix3 b' e' t') idx 1
      + ((ScatterDims.window { updateWindowDims := [], insertedWindowDims := [0, 1, 2], scatterDimsToOperandDims := [0, 1, 2], indexVectorDim := 3, wf := h } (ix3 b' e' t') 1 : ℕ) : ℤ)))
      = (idx (ix4 b' e' t' (1 : Fin 3))).toInt :=
    Eq.trans (Int.add_zero _) (congrArg BitVec.toInt (hi 1 _ fun a => by
      match a with
      | ⟨0, _⟩ => rfl
      | ⟨1, _⟩ => rfl
      | ⟨2, _⟩ => rfl
      | ⟨3, _⟩ => rfl))
  have s2 : ((ScatterDims.start { updateWindowDims := [], insertedWindowDims := [0, 1, 2], scatterDimsToOperandDims := [0, 1, 2], indexVectorDim := 3, wf := h } (ix3 b' e' t') idx 2
      + ((ScatterDims.window { updateWindowDims := [], insertedWindowDims := [0, 1, 2], scatterDimsToOperandDims := [0, 1, 2], indexVectorDim := 3, wf := h } (ix3 b' e' t') 2 : ℕ) : ℤ)))
      = (idx (ix4 b' e' t' (2 : Fin 3))).toInt :=
    Eq.trans (Int.add_zero _) (congrArg BitVec.toInt (hi 2 _ fun a => by
      match a with
      | ⟨0, _⟩ => rfl
      | ⟨1, _⟩ => rfl
      | ⟨2, _⟩ => rfl
      | ⟨3, _⟩ => rfl))
  rw [Routing.resultIdx?_eq_some]
  constructor
  · intro q
    exact ⟨s0.symm.trans (q 0), s1.symm.trans (q 1), s2.symm.trans (q 2)⟩
  · rintro ⟨q0, q1, q2⟩ a
    match a with
    | ⟨0, _⟩ => exact s0.trans q0
    | ⟨1, _⟩ => exact s1.trans q1
    | ⟨2, _⟩ => exact s2.trans q2

/-- The scatter by places: what token `t` writes stands at the place of `t`, where no other token writes. -/
theorem put_places {α : Type} (h : ScatterDims.WF ⟨3, ![2, 8, 2048]⟩ ⟨4, ![2, 8, 2048, 3]⟩ ⟨3, ![2, 8, 2048]⟩ [] [0, 1, 2] [0, 1, 2] 3)
    (x0 upd : (⟨3, ![2, 8, 2048]⟩ : Shape).Idx → α) (idx : IVec ⟨4, ![2, 8, 2048, 3]⟩ 32) (place : Fin 2 → Fin 8 → Fin 2048 → Fin 2048)
    (hinj : ∀ b e, Function.Injective (place b e))
    (h0 : ∀ b e t, idx (ix4 b e t (0 : Fin 3)) = BitVec.ofNat 32 b.val) (h1 : ∀ b e t, idx (ix4 b e t (1 : Fin 3)) = BitVec.ofNat 32 e.val)
    (h2 : ∀ b e t, idx (ix4 b e t (2 : Fin 3)) = BitVec.ofNat 32 (place b e t).val) (b : Fin 2) (e : Fin 8) (t : Fin 2048) :
    Host.scatter { updateWindowDims := [], insertedWindowDims := [0, 1, 2], scatterDimsToOperandDims := [0, 1, 2], indexVectorDim := 3, wf := h }
      (fun _ b => b) x0 idx upd (ix3 b e (place b e t)) = upd (ix3 b e t) := by
  have key : ∀ b' e' t', ScatterDims.resultIdx? { updateWindowDims := [], insertedWindowDims := [0, 1, 2], scatterDimsToOperandDims := [0, 1, 2], indexVectorDim := 3, wf := h }
        (ix3 b' e' t') idx = some (ix3 b e (place b e t)) ↔ b' = b ∧ e' = e ∧ t' = t := by
    intro b' e' t'
    have hb := b'.isLt
    have he := e'.isLt
    have ht := (place b' e' t').isLt
    rw [lands, h0, h1, h2, StableHlo.Predicate.toInt_ofNat_small _ (by omega), StableHlo.Predicate.toInt_ofNat_small _ (by omega),
      StableHlo.Predicate.toInt_ofNat_small _ (by omega)]
    constructor
    · rintro ⟨q0, q1, q2⟩
      obtain rfl : b' = b := Fin.ext (by omega)
      obtain rfl : e' = e := Fin.ext (by omega)
      exact ⟨rfl, rfl, hinj b' e' (Fin.ext (by omega))⟩
    · rintro ⟨rfl, rfl, rfl⟩
      exact ⟨rfl, rfl, rfl⟩
  refine Routing.scatter_set_hit _ x0 idx upd _ (upd (ix3 b e t)) (fun k hk => ?_) (ix3 b e t) ((key b e t).2 ⟨rfl, rfl, rfl⟩)
  obtain ⟨b', e', t', rfl⟩ : ∃ b' e' t', k = ix3 b' e' t' := ⟨k 0, k 1, k 2, by
    funext a
    match a with
    | ⟨0, _⟩ => rfl
    | ⟨1, _⟩ => rfl
    | ⟨2, _⟩ => rfl⟩
  obtain ⟨rfl, rfl, rfl⟩ := (key b' e' t').1 hk
  rfl

end Cert.HostOps

end
-- ==== Proof.HostSorts.lean ====
module

public import proofs.«01_k».proof.Proof.HostOps

@[expose] public section

/-! The running sums, the sorts and the top two, read at an index. -/

set_option maxRecDepth 16384

namespace Cert.HostOps

open Idealize.ShloMosaic

/-- The two axes of extent one of a window do not move it. -/
theorem window_coord (n : Fin (⟨3, ![1, 1, 2048]⟩ : Shape).numel) :
    ((⟨3, ![1, 1, 2048]⟩ : Shape).rowMajor.symm n 0).val = 0 ∧ ((⟨3, ![1, 1, 2048]⟩ : Shape).rowMajor.symm n 1).val = 0
      ∧ ((⟨3, ![1, 1, 2048]⟩ : Shape).rowMajor.symm n 2).val = n.val := by
  have h0 := ((⟨3, ![1, 1, 2048]⟩ : Shape).rowMajor.symm n 0).isLt
  have h1 := ((⟨3, ![1, 1, 2048]⟩ : Shape).rowMajor.symm n 1).isLt
  change _ < 1 at h0
  change _ < 1 at h1
  have e := Shape.rowMajor_val_three ((⟨3, ![1, 1, 2048]⟩ : Shape).rowMajor.symm n)
  rw [Equiv.apply_symm_apply] at e
  generalize (⟨3, ![1, 1, 2048]⟩ : Shape).rowMajor.symm n = z at *
  have e' : n.val = ((z 0).val * 1 + (z 1).val) * 2048 + (z 2).val := e
  omega

/-- The running count of a set bit along the last axis. -/
theorem cumsum_count (h : (⟨3, ![2, 8, 2048]⟩ : Shape).ReduceWindows (![1, 1, 2048] : Fin 3 → ℕ) ![1, 1, 1] ![0, 0, 2047] ![0, 0, 0] ⟨3, ![2, 8, 2048]⟩)
    (x : IVec ⟨3, ![2, 8, 2048]⟩ 32) (init : IVec ⟨0, ![]⟩ 32) (hinit : ∀ i, init i = 0#32) (hu : 0 < (⟨0, ![]⟩ : Shape).numel)
    (b : Fin 2) (e : Fin 8) (sel : ℕ → Prop) [DecidablePred sel]
    (hx : ∀ t : Fin 2048, x (ix3 b e t) = BitVec.ofNat 32 (if sel t.val then 1 else 0)) (j : Fin 2048) :
    Host.reduceWindow IntOp.addi (![1, 1, 2048] : Fin 3 → ℕ) ![1, 1, 1] ![0, 0, 2047] ![0, 0, 0] x init h hu (ix3 b e j)
      = BitVec.ofNat 32 (Nat.count sel (j.val + 1)) := by
  have hj := j.isLt
  unfold Host.reduceWindow
  refine (Routing.foldl_addi_ofNat _ _ (fun n => if 2047 ≤ j.val + n.val then (if sel (j.val + n.val - 2047) then 1 else 0) else 0)
    (fun n _ => ?_) _ 0 (hinit _)).trans ?_
  · obtain ⟨w0, w1, w2⟩ := window_coord n
    have hn : n.val < 2048 := by
      rw [← w2]
      exact ((⟨3, ![1, 1, 2048]⟩ : Shape).rowMajor.symm n 2).isLt
    dsimp only
    split
    · next hin =>
      have h2 := hin 2
      change 2047 ≤ j.val * 1 + ((⟨3, ![1, 1, 2048]⟩ : Shape).rowMajor.symm n 2).val ∧ _ at h2
      rw [w2] at h2
      have hle : 2047 ≤ j.val + n.val := by have := h2.1; omega
      rw [if_pos hle]
      refine (congrArg x (funext fun a => Fin.ext ?_)).trans (hx ⟨j.val + n.val - 2047, by omega⟩)
      match a with
      | ⟨0, _⟩ =>
        show b.val * 1 + ((⟨3, ![1, 1, 2048]⟩ : Shape).rowMajor.symm n 0).val - 0 = b.val
        omega
      | ⟨1, _⟩ =>
        show e.val * 1 + ((⟨3, ![1, 1, 2048]⟩ : Shape).rowMajor.symm n 1).val - 0 = e.val
        omega
      | ⟨2, _⟩ =>
        show j.val * 1 + ((⟨3, ![1, 1, 2048]⟩ : Shape).rowMajor.symm n 2).val - 2047 = j.val + n.val - 2047
        omega
    · next hin =>
      rw [if_neg fun hle => hin fun a => by
        have hb := b.isLt
        have he := e.isLt
        match a with
        | ⟨0, _⟩ =>
          show 0 ≤ b.val * 1 + ((⟨3, ![1, 1, 2048]⟩ : Shape).rowMajor.symm n 0).val
            ∧ b.val * 1 + ((⟨3, ![1, 1, 2048]⟩ : Shape).rowMajor.symm n 0).val - 0 < 2
          omega
        | ⟨1, _⟩ =>
          show 0 ≤ e.val * 1 + ((⟨3, ![1, 1, 2048]⟩ : Shape).rowMajor.symm n 1).val
            ∧ e.val * 1 + ((⟨3, ![1, 1, 2048]⟩ : Shape).rowMajor.symm n 1).val - 0 < 8
          omega
        | ⟨2, _⟩ =>
          show 2047 ≤ j.val * 1 + ((⟨3, ![1, 1, 2048]⟩ : Shape).rowMajor.symm n 2).val
            ∧ j.val * 1 + ((⟨3, ![1, 1, 2048]⟩ : Shape).rowMajor.symm n 2).val - 2047 < 2048
          omega]
      exact hinit _
  · have hN : (⟨3, ![1, 1, 2048]⟩ : Shape).numel = 2047 + 1 := by decide
    rw [Nat.zero_add, Routing.map_finRange_val _ (fun w => if 2047 ≤ j.val + w then (if sel (j.val + w - 2047) then 1 else 0) else 0), hN,
      Routing.sum_window (fun i => if sel i then 1 else 0) 2047 j.val (by omega)]
    refine congrArg (BitVec.ofNat 32) ?_
    generalize j.val + 1 = M
    induction M with
    | zero => rfl
    | succ M ih => rw [List.range_succ, List.map_append, List.sum_append, ih, Nat.count_succ]; simp

/-- The second result of a sort along the last axis, its second operand the positions. -/
theorem argsort_at {α : Type} (cmp : α × BitVec 32 → α × BitVec 32 → BitVec 1) (x : (⟨3, ![2, 8, 2048]⟩ : Shape).Idx → α)
    (y : (⟨3, ![2, 8, 2048]⟩ : Shape).Idx → BitVec 32) (hy : ∀ b e t, y (ix3 b e t) = BitVec.ofNat 32 t.val) (b : Fin 2) (e : Fin 8) (j : Fin 2048) :
    (Host.sort2 ⟨3, ![2, 8, 2048]⟩ 2 cmp x y).2 (ix3 b e j)
      = BitVec.ofNat 32 (sortedFrom (fun k k' : Fin 2048 => cmp (x (ix3 b e k), BitVec.ofNat 32 k.val) (x (ix3 b e k'), BitVec.ofNat 32 k'.val) == 1#1) j).val := by
  have ha : ∀ k : Fin 2048, Shape.Idx.along (ix3 b e j) (2 : Fin 3) k = ix3 b e k := by
    intro k
    funext a
    match a with
    | ⟨0, _⟩ => rfl
    | ⟨1, _⟩ => rfl
    | ⟨2, _⟩ => rfl
  have hx : (Host.sort2 ⟨3, ![2, 8, 2048]⟩ 2 cmp x y).2 (ix3 b e j)
      = y (Shape.Idx.along (ix3 b e j) (2 : Fin 3) (sortedFrom (fun k k' : Fin 2048 =>
          cmp (x (Shape.Idx.along (ix3 b e j) (2 : Fin 3) k), y (Shape.Idx.along (ix3 b e j) (2 : Fin 3) k))
            (x (Shape.Idx.along (ix3 b e j) (2 : Fin 3) k'), y (Shape.Idx.along (ix3 b e j) (2 : Fin 3) k')) == 1#1) j)) := rfl
  rw [hx]
  simp only [ha, hy]
  exact (congrArg y (ha _)).trans (hy _ _ _)

/-- The same along the eight experts. -/
theorem argsort_experts {α : Type} (cmp : α × BitVec 32 → α × BitVec 32 → BitVec 1) (x : (⟨3, ![2, 2048, 8]⟩ : Shape).Idx → α)
    (y : (⟨3, ![2, 2048, 8]⟩ : Shape).Idx → BitVec 32) (hy : ∀ b t e, y (ix3 b t e) = BitVec.ofNat 32 e.val) (b : Fin 2) (t : Fin 2048) (j : Fin 8) :
    (Host.sort2 ⟨3, ![2, 2048, 8]⟩ 2 cmp x y).2 (ix3 b t j)
      = BitVec.ofNat 32 (sortedFrom (fun k k' : Fin 8 => cmp (x (ix3 b t k), BitVec.ofNat 32 k.val) (x (ix3 b t k'), BitVec.ofNat 32 k'.val) == 1#1) j).val := by
  have ha : ∀ k : Fin 8, Shape.Idx.along (ix3 b t j) (2 : Fin 3) k = ix3 b t k := by
    intro k
    funext a
    match a with
    | ⟨0, _⟩ => rfl
    | ⟨1, _⟩ => rfl
    | ⟨2, _⟩ => rfl
  have hx : (Host.sort2 ⟨3, ![2, 2048, 8]⟩ 2 cmp x y).2 (ix3 b t j)
      = y (Shape.Idx.along (ix3 b t j) (2 : Fin 3) (sortedFrom (fun k k' : Fin 8 =>
          cmp (x (Shape.Idx.along (ix3 b t j) (2 : Fin 3) k), y (Shape.Idx.along (ix3 b t j) (2 : Fin 3) k))
            (x (Shape.Idx.along (ix3 b t j) (2 : Fin 3) k'), y (Shape.Idx.along (ix3 b t j) (2 : Fin 3) k')) == 1#1) j)) := rfl
  rw [hx]
  simp only [ha, hy]
  exact (congrArg y (ha _)).trans (hy _ _ _)

/-- The positions of the two greatest of eight are two positions. -/
theorem top_two {α : Type} (gt : α → α → BitVec 1) (x : (⟨3, ![2, 2048, 8]⟩ : Shape).Idx → α)
    (h : (⟨3, ![2, 2048, 8]⟩ : Shape).Slices (fun _ => 0) ⟨3, ![2, 2048, 2]⟩) (b : Fin 2) (t : Fin 2048) :
    ∃ p : Fin 2 → Fin 8, Function.Injective p
      ∧ ∀ q : Fin 2, (Host.topK ⟨3, ![2, 2048, 2]⟩ 2 gt x h).2 (ix3 b t q) = BitVec.ofNat 32 (p q).val := by
  have hle : 2 ≤ 8 := by decide
  refine ⟨fun q => sortedFrom (fun k k' : Fin 8 => gt (x (ix3 b t k)) (x (ix3 b t k')) == 1#1) (q.castLE hle),
    fun q q' hq => Fin.castLE_injective hle (sortedFrom_injective _ hq), fun q => ?_⟩
  unfold Host.topK
  dsimp only
  rw [extractStridedSlice]
  refine Eq.trans (congrArg _ (?_ : _ = ix3 b t (q.castLE hle))) (argsort_experts (fun l r => gt l.1 r.1) x _ (fun b t e => rfl) b t (q.castLE hle))
  funext a
  refine Fin.ext ?_
  match a with
  | ⟨0, _⟩ => exact Nat.zero_add _
  | ⟨1, _⟩ => exact Nat.zero_add _
  | ⟨2, _⟩ => exact Nat.zero_add _

end Cert.HostOps

end
-- ==== Proof.Choice.lean ====
module

public import Mathlib.Data.Nat.Count
public import Mathlib.Data.EReal.Basic
public import proofs.«01_k».proof.Proof.Order

@[expose] public section

/-! The tokens that the router gives to one expert. -/

namespace Cert.Choice

open Cert.Order

/-- The two experts of each token of each sequence. -/
abbrev Pick := Fin 2 → Fin 2048 → Fin 2 → Fin 8

/-- Expert `e` is one of the two experts of token `t` of sequence `b`. -/
def Chosen (p : Pick) (b : Fin 2) (e : Fin 8) (t : ℕ) : Prop := ∃ h : t < 2048, ∃ q : Fin 2, p b ⟨t, h⟩ q = e

instance (p : Pick) (b : Fin 2) (e : Fin 8) : DecidablePred (Chosen p b e) := fun _ => inferInstanceAs (Decidable (∃ _, _))

theorem chosen_iff (p : Pick) (b : Fin 2) (e : Fin 8) (t : Fin 2048) : Chosen p b e t.val ↔ ∃ q, p b t q = e :=
  ⟨fun ⟨_, q, hq⟩ => ⟨q, hq⟩, fun ⟨q, hq⟩ => ⟨t.isLt, q, hq⟩⟩

/-- The position of token `t` in the list of expert `e`: its own tokens first. -/
def spot (p : Pick) (b : Fin 2) (e : Fin 8) (t : Fin 2048) : Fin 2048 := place (Chosen p b e) t

theorem spot_injective (p : Pick) (b : Fin 2) (e : Fin 8) : Function.Injective (spot p b e) := place_injective _

theorem spot_bijective (p : Pick) (b : Fin 2) (e : Fin 8) : Function.Bijective (spot p b e) :=
  Finite.injective_iff_bijective.1 (spot_injective p b e)

/-- The token at a position of the list of expert `e`. -/
noncomputable def tok (p : Pick) (b : Fin 2) (e : Fin 8) (j : Fin 2048) : Fin 2048 :=
  (Equiv.ofBijective _ (spot_bijective p b e)).symm j

theorem spot_tok (p : Pick) (b : Fin 2) (e : Fin 8) (j : Fin 2048) : spot p b e (tok p b e j) = j :=
  (Equiv.ofBijective _ (spot_bijective p b e)).apply_symm_apply j

theorem tok_spot (p : Pick) (b : Fin 2) (e : Fin 8) (t : Fin 2048) : tok p b e (spot p b e t) = t :=
  (Equiv.ofBijective _ (spot_bijective p b e)).symm_apply_apply t

/-- How many tokens expert `e` has. -/
def load (p : Pick) (b : Fin 2) (e : Fin 8) : ℕ := Nat.count (Chosen p b e) 2048

theorem load_le (p : Pick) (b : Fin 2) (e : Fin 8) : load p b e ≤ 2048 := Nat.count_le _

theorem spot_chosen (p : Pick) (b : Fin 2) (e : Fin 8) (t : Fin 2048) (h : Chosen p b e t.val) :
    (spot p b e t).val = Nat.count (Chosen p b e) t.val := if_pos h

theorem spot_lt_load (p : Pick) (b : Fin 2) (e : Fin 8) (t : Fin 2048) (h : Chosen p b e t.val) :
    (spot p b e t).val < load p b e := placeNat_lt_count _ t h

theorem spot_other (p : Pick) (b : Fin 2) (e : Fin 8) (t : Fin 2048) (h : ¬ Chosen p b e t.val) :
    (spot p b e t).val = load p b e + Nat.count (fun i => ¬ Chosen p b e i) t.val := if_neg h

/-- Of the two ones and zeros of a token's experts at `e`, the sum is one or zero: the two experts differ. -/
theorem sum_picks (p : Pick) (hp : ∀ b t, Function.Injective (p b t)) (b : Fin 2) (e : Fin 8) (t : Fin 2048) :
    (∑ q : Fin 2, if p b t q = e then (1 : EReal) else 0) = if Chosen p b e t.val then 1 else 0 := by
  have hne : p b t 0 ≠ p b t 1 := fun h => absurd (hp b t h) (by decide)
  rw [Fin.sum_univ_two]
  by_cases h0 : p b t 0 = e
  · have h1 : p b t 1 ≠ e := fun h => hne (h0.trans h.symm)
    rw [if_pos h0, if_neg h1, if_pos ((chosen_iff p b e t).2 ⟨0, h0⟩), add_zero]
  · by_cases h1 : p b t 1 = e
    · rw [if_neg h0, if_pos h1, if_pos ((chosen_iff p b e t).2 ⟨1, h1⟩), zero_add]
    · rw [if_neg h0, if_neg h1, if_neg, add_zero]
      rw [chosen_iff]
      rintro ⟨q, hq⟩
      match q with
      | 0 => exact h0 hq
      | 1 => exact h1 hq

/-- A sum over all experts of what vanishes away from a token's two is the sum over the two. -/
theorem sum_chosen (p : Pick) (hp : ∀ b t, Function.Injective (p b t)) (b : Fin 2) (t : Fin 2048) (f : Fin 8 → EReal)
    (hf : ∀ e, ¬ Chosen p b e t.val → f e = 0) : ∑ e, f e = ∑ q : Fin 2, f (p b t q) := by
  rw [← Finset.sum_image (s := Finset.univ) (g := p b t) (f := f) (fun _ _ _ _ h => hp b t h)]
  refine (Finset.sum_subset (Finset.subset_univ _) fun e _ he => hf e fun hc => he ?_).symm
  obtain ⟨q, hq⟩ := (chosen_iff p b e t).1 hc
  exact Finset.mem_image.2 ⟨q, Finset.mem_univ _, hq⟩

end Cert.Choice

end
-- ==== Proof.Route.lean ====
module

public import proofs.«01_k».proof.Proof.HostOps
public import proofs.«01_k».proof.Proof.HostSorts
public import proofs.«01_k».proof.Proof.Choice
public import proofs.«01_k».proof.Proof.Gen.KernelIdeal.Launch
public import Idealize.ShloMosaic.Lib.Pointwise
public import Idealize.ShloMosaic.Lib.StableHlo.RunRead

@[expose] public section

/-! What the kernel program's host lines before the region leave: the order of the tokens per expert, the rows and
    gates taken in that order. -/

set_option maxRecDepth 16384

noncomputable section

namespace Cert.KernelIdeal.Route

open Cert.KernelIdeal Cert.KernelIdeal.Gen Idealize.ShloMosaic
open Idealize.ShloMosaic.TcCoe
open Idealize.SL Idealize.SL.Sem StableHlo
open Cert.Choice Cert.HostOps

abbrev opsA : List (HloOp τ sig (Elt Ideal)) := hostOps0.take 48
abbrev opsB : List (HloOp τ sig (Elt Ideal)) := (hostOps0.drop 48).take 24
abbrev opsC : List (HloOp τ sig (Elt Ideal)) := (hostOps0.drop 72).take 13
abbrev opsP : List (HloOp τ sig (Elt Ideal)) := (hostOps0.drop 85).take 17
abbrev opsD : List (HloOp τ sig (Elt Ideal)) := (hostOps0.drop 102).take 32
abbrev opsS : List (HloOp τ sig (Elt Ideal)) := (hostOps0.drop 134).take 2
abbrev opsE : List (HloOp τ sig (Elt Ideal)) := hostOps0.drop 136

abbrev arr (s : Shape) (f : FVec Ideal s .f32) (i : s.Idx) : EReal := f i
abbrev ints (s : Shape) (f : IVec s 32) (i : s.Idx) : BitVec 32 := f i

variable (X : Valuation τ sig (Elt Ideal))

theorem routed (p : Pick) (hp : ∀ b t, Function.Injective (p b t))
    (hi : ∀ b t q, ints S2x2048x2 (X (Proc.devRef .tc main_call0_indices)) (ix3 b t q) = BitVec.ofNat 32 (p b t q).val)
    (b : Fin 2) (t : Fin 2048) (e : Fin 8) :
    arr S2x2048x8 (after opsB X (Proc.devRef .tc main_call0_v39)) (ix3 b t e) = if Chosen p b e t.val then 1 else 0 := by
  rw [← sum_picks p hp]
  after_reads_simp
  simp -implicitDefEqProofs only [TRef.toBuf, TRef.ofBuf, cast_cast, cast_eq, arr, ints] at hi ⊢
  pointwise
  refine Finset.sum_congr rfl fun q _ => ?_
  rw [hi b t q]
  by_cases h : p b t q = e
  · rw [if_pos h, h]
    show ((IntOp.cmpi .eq (BitVec.ofNat 32 e.val) (BitVec.ofNat 32 e.val)).toNat : EReal) = 1
    simp [IntOp.cmpi]
  · rw [if_neg h]
    have hne : BitVec.ofNat 32 (p b t q).val ≠ BitVec.ofNat 32 e.val := fun hw => h (Fin.ext (by
      have := congrArg BitVec.toNat hw
      simp only [BitVec.toNat_ofNat] at this
      omega))
    show ((IntOp.cmpi .eq (BitVec.ofNat 32 (p b t q).val) (BitVec.ofNat 32 e.val)).toNat : EReal) = 0
    simp [IntOp.cmpi, hne]

theorem gates (b : Fin 2) (t : Fin 2048) (e : Fin 8) :
    arr S2x2048x8 (after opsB X (Proc.devRef .tc main_call0_v40)) (ix3 b t e)
      = arr S2x2048x8 (X (Proc.devRef .tc main_call0_v37)) (ix3 b t e)
        * arr S2x2048x8 (after opsB X (Proc.devRef .tc main_call0_v39)) (ix3 b t e) := by
  after_reads_simp
  simp -implicitDefEqProofs only [TRef.toBuf, TRef.ofBuf, cast_cast, cast_eq, arr]
  rfl

theorem int_one : FloatOps.fptosi (F := Ideal) (φ := .f32) 32 (1 : EReal) = 1#32 := by
  show Ideal.fptosi 32 ((1 : ℝ) : EReal) = 1#32
  rw [Ideal.fptosi, Ideal.toIntClamped_coe]
  norm_num

theorem int_zero : FloatOps.fptosi (F := Ideal) (φ := .f32) 32 (0 : EReal) = 0#32 := by
  show Ideal.fptosi 32 ((0 : ℝ) : EReal) = 0#32
  rw [Ideal.fptosi, Ideal.toIntClamped_coe]
  norm_num

section
variable (p : Pick)
  (hr : ∀ b t e, arr S2x2048x8 (X (Proc.devRef .tc main_call0_v39)) (ix3 b t e) = if Chosen p b e t.val then 1 else 0)
  (b : Fin 2) (e : Fin 8) (t : Fin 2048)

include hr

theorem mi : ints S2x8x2048 (after opsC X (Proc.devRef .tc main_call0_v51)) (ix3 b e t) = BitVec.ofNat 32 (if Chosen p b e t.val then 1 else 0) := by
  after_reads_simp
  simp -implicitDefEqProofs only [TRef.toBuf, TRef.ofBuf, cast_cast, cast_eq, arr, ints] at hr ⊢
  pointwise
  rw [hr]
  by_cases h : Chosen p b e t.val
  · rw [if_pos h, if_pos h]
    exact int_one
  · rw [if_neg h, if_neg h]
    exact int_zero

theorem not_mi : ints S2x8x2048 (after opsC X (Proc.devRef .tc main_call0_v54)) (ix3 b e t)
    = BitVec.ofNat 32 (if ¬ Chosen p b e t.val then 1 else 0) := by
  have h := mi X p hr b e t
  revert h
  after_reads_simp
  intro h
  simp -implicitDefEqProofs only [TRef.toBuf, TRef.ofBuf, cast_cast, cast_eq, ints] at h ⊢
  refine (congrArg (IntOp.subi 1#32) h).trans ?_
  by_cases hc : Chosen p b e t.val
  · rw [if_pos hc, if_neg (not_not.2 hc)]; rfl
  · rw [if_neg hc, if_pos hc]; rfl

theorem c1 : ints S2x8x2048 (after opsC X (Proc.devRef .tc main_call0_v52)) (ix3 b e t) = BitVec.ofNat 32 (Nat.count (Chosen p b e) (t.val + 1)) := by
  have h := mi X p hr
  revert h
  after_reads_simp
  intro h
  simp -implicitDefEqProofs only [TRef.toBuf, TRef.ofBuf, cast_cast, cast_eq, ints] at h ⊢
  exact cumsum_count _ _ _ (fun _ => rfl) _ b e _ (h b e) t

theorem c0 : ints S2x8x2048 (after opsC X (Proc.devRef .tc main_call0_v55)) (ix3 b e t)
    = BitVec.ofNat 32 (Nat.count (fun i => ¬ Chosen p b e i) (t.val + 1)) := by
  have h := not_mi X p hr
  revert h
  after_reads_simp
  intro h
  simp -implicitDefEqProofs only [TRef.toBuf, TRef.ofBuf, cast_cast, cast_eq, ints] at h ⊢
  exact cumsum_count _ _ _ (fun _ => rfl) _ b e _ (h b e) t

theorem nsel : ints S2x8 (after opsC X (Proc.devRef .tc main_call0_v57)) (ix2 b e) = BitVec.ofNat 32 (load p b e) := by
  have h := c1 X p hr b e ⟨2047, by decide⟩
  revert h
  after_reads_simp
  intro h
  simp -implicitDefEqProofs only [TRef.toBuf, TRef.ofBuf, cast_cast, cast_eq, ints] at h ⊢
  pointwise
  exact h

end

theorem succ_less (n : ℕ) : BitVec.ofNat 32 (n + 1) - 1#32 = BitVec.ofNat 32 n := by
  rw [BitVec.ofNat_add]
  exact add_sub_cancel_right _ _

/-- The place of a token, from the counts of selected and other tokens up to it. -/
theorem inv (p : Pick) (b : Fin 2) (e : Fin 8) (t : Fin 2048)
    (hm : ints S2x8x2048 (X (Proc.devRef .tc main_call0_v51)) (ix3 b e t) = BitVec.ofNat 32 (if Chosen p b e t.val then 1 else 0))
    (h1 : ints S2x8x2048 (X (Proc.devRef .tc main_call0_v52)) (ix3 b e t) = BitVec.ofNat 32 (Nat.count (Chosen p b e) (t.val + 1)))
    (h0 : ints S2x8x2048 (X (Proc.devRef .tc main_call0_v55)) (ix3 b e t) = BitVec.ofNat 32 (Nat.count (fun i => ¬ Chosen p b e i) (t.val + 1)))
    (hn : ints S2x8 (X (Proc.devRef .tc main_call0_v57)) (ix2 b e) = BitVec.ofNat 32 (load p b e)) :
    ints S2x8x2048 (after opsP X (Proc.devRef .tc main_call0_v67)) (ix3 b e t) = BitVec.ofNat 32 (spot p b e t).val := by
  after_reads_simp
  simp -implicitDefEqProofs only [TRef.toBuf, TRef.ofBuf, cast_cast, cast_eq, ints] at hm h1 h0 hn ⊢
  pointwise
  rw [hm, h1, h0, hn]
  by_cases h : Chosen p b e t.val
  · rw [if_pos h, spot_chosen p b e t h, Nat.count_succ, if_pos h]
    exact succ_less _
  · rw [if_neg h, spot_other p b e t h, Nat.count_succ (p := fun i => ¬ Chosen p b e i), if_pos h]
    show IntOp.subi (IntOp.addi _ _) 1#32 = _
    rw [show IntOp.addi (BitVec.ofNat 32 (load p b e)) (BitVec.ofNat 32 (Nat.count (fun i => ¬ Chosen p b e i) t.val + 1))
      = BitVec.ofNat 32 (load p b e + Nat.count (fun i => ¬ Chosen p b e i) t.val + 1) from (BitVec.ofNat_add _ _).symm]
    exact succ_less _

theorem order (b : Fin 2) (e : Fin 8) (t : Fin 2048) :
    ints S2x8x2048 (after opsP X (Proc.devRef .tc main_call0_v69)) (ix3 b e t) = BitVec.ofNat 32 t.val := by
  after_reads_simp
  simp -implicitDefEqProofs only [TRef.toBuf, TRef.ofBuf, cast_cast, cast_eq, ints]
  pointwise

end Cert.KernelIdeal.Route

end
-- ==== Proof.Taken.lean ====
module

public import proofs.«01_k».proof.Proof.Route

@[expose] public section

/-! The order of the tokens per expert, and what the kernel program takes in that order. -/

set_option maxRecDepth 16384

noncomputable section

namespace Cert.KernelIdeal.Route

open Cert.KernelIdeal Cert.KernelIdeal.Gen Idealize.ShloMosaic
open Idealize.ShloMosaic.TcCoe
open Idealize.SL Idealize.SL.Sem StableHlo
open Cert.Choice Cert.HostOps

variable (X : Valuation τ sig (Elt Ideal))

/-- A number below `n` is no negative word. -/
theorem slt_zero (n : ℕ) (h : n < 4096) : IntOp.cmpi .slt (BitVec.ofNat 32 n) 0#32 = 0#1 := by
  have : (BitVec.ofNat 32 n).toInt = (n : Int) := StableHlo.Predicate.toInt_ofNat_small _ (by omega)
  have h2 : BitVec.slt (BitVec.ofNat 32 n) 0#32 = false := by
    simp only [BitVec.slt, this]
    simp
  simp only [IntOp.cmpi, h2]
  rfl

theorem col0 (b : Fin 2) (e : Fin 8) (t : Fin 2048) :
    ints S2x8x2048x1 (after opsD X (Proc.devRef .tc main_call0_call4_v23)) (ix4 b e t (0 : Fin 1)) = BitVec.ofNat 32 b.val := by
  after_reads_simp
  simp -implicitDefEqProofs only [TRef.toBuf, TRef.ofBuf, cast_cast, cast_eq, ints]
  pointwise
  rw [slt_zero _ (by omega)]
  rfl

theorem col1 (b : Fin 2) (e : Fin 8) (t : Fin 2048) :
    ints S2x8x2048x1 (after opsD X (Proc.devRef .tc main_call0_call4_v24)) (ix4 b e t (0 : Fin 1)) = BitVec.ofNat 32 e.val := by
  after_reads_simp
  simp -implicitDefEqProofs only [TRef.toBuf, TRef.ofBuf, cast_cast, cast_eq, ints]
  pointwise
  rw [slt_zero _ (by omega)]
  rfl

theorem col2 (b : Fin 2) (e : Fin 8) (t j : Fin 2048)
    (hv : ints S2x8x2048 (X (Proc.devRef .tc main_call0_v67)) (ix3 b e t) = BitVec.ofNat 32 j.val) :
    ints S2x8x2048x1 (after opsD X (Proc.devRef .tc main_call0_call4_v25)) (ix4 b e t (0 : Fin 1)) = BitVec.ofNat 32 j.val := by
  after_reads_simp
  simp -implicitDefEqProofs only [TRef.toBuf, TRef.ofBuf, cast_cast, cast_eq, ints] at hv ⊢
  pointwise
  rw [hv, slt_zero _ (by omega)]
  rfl

theorem perm (p : Pick)
    (h0 : ∀ b e t, ints S2x8x2048x1 (X (Proc.devRef .tc main_call0_call4_v23)) (ix4 b e t (0 : Fin 1)) = BitVec.ofNat 32 b.val)
    (h1 : ∀ b e t, ints S2x8x2048x1 (X (Proc.devRef .tc main_call0_call4_v24)) (ix4 b e t (0 : Fin 1)) = BitVec.ofNat 32 e.val)
    (h2 : ∀ b e t, ints S2x8x2048x1 (X (Proc.devRef .tc main_call0_call4_v25)) (ix4 b e t (0 : Fin 1)) = BitVec.ofNat 32 (spot p b e t).val)
    (ht : ∀ b e t, ints S2x8x2048 (X (Proc.devRef .tc main_call0_v69)) (ix3 b e t) = BitVec.ofNat 32 t.val)
    (b : Fin 2) (e : Fin 8) (j : Fin 2048) :
    ints S2x8x2048 (after opsS X (Proc.devRef .tc main_call0_v71)) (ix3 b e j) = BitVec.ofNat 32 (tok p b e j).val := by
  rw [← ht b e (tok p b e j)]
  have hj : ix3 b e j = ix3 b e (spot p b e (tok p b e j)) := by rw [spot_tok]
  rw [hj]
  after_reads_simp
  simp -implicitDefEqProofs only [TRef.toBuf, TRef.ofBuf, cast_cast, cast_eq, ints, upto_zero] at h0 h1 h2 ⊢
  refine put_places _ _ _ _ (spot p) (spot_injective p) (fun b e t => ?_) (fun b e t => ?_) (fun b e t => ?_) b e (tok p b e j)
  · refine Eq.trans ?_ (h0 b e t)
    pointwise
    simp -implicitDefEqProofs only [upto_zero]
    rfl
  · refine Eq.trans ?_ (h1 b e t)
    pointwise
    simp -implicitDefEqProofs only [upto_zero]
    rfl
  · refine Eq.trans ?_ (h2 b e t)
    pointwise
    simp -implicitDefEqProofs only [upto_zero]
    rfl

/-- A number below 2048 is within the bounds of an axis of 2048. -/
theorem in_bounds (n : ℕ) (h : n < 2048) :
    IntOp.andi (IntOp.cmpi .sge (BitVec.ofNat 32 n) 0#32) (IntOp.cmpi .sle (BitVec.ofNat 32 n) 2047#32) = 1#1 := by
  have e : (BitVec.ofNat 32 n).toInt = (n : Int) := StableHlo.Predicate.toInt_ofNat_small _ (by omega)
  have h1 : BitVec.sle 0#32 (BitVec.ofNat 32 n) = true := by
    simp only [BitVec.sle, e]
    simp
  have h2 : BitVec.sle (BitVec.ofNat 32 n) 2047#32 = true := by
    simp only [BitVec.sle, e]
    simp
    omega
  simp only [IntOp.cmpi, h1, h2]
  rfl

/-- An index of an axis of 2048, a negative one counted from the end: a number below 2048 stays. -/
theorem wrap (n : ℕ) (h : n < 2048) :
    Scalar.select (IntOp.cmpi .slt (BitVec.ofNat 32 n) 0#32) (IntOp.addi (BitVec.ofNat 32 n) 2048#32) (BitVec.ofNat 32 n) = BitVec.ofNat 32 n := by
  rw [slt_zero _ (by omega)]
  rfl

theorem all_ones {ι : Type} (s : Finset ι) : Finset.fold IntOp.andi (1#1) (fun _ => 1#1) s = 1#1 := by
  classical
  induction s using Finset.induction_on with
  | empty => rfl
  | insert a s h ih => rw [Finset.fold_insert h, ih]; rfl

theorem picked {α : Type} (x y : α) : Scalar.select (1#1) x y = x := rfl

theorem rows (b : Fin 2) (e : Fin 8) (j : Fin 2048) (k : Fin 192) (i : Fin 2048)
    (hp : ints S2x8x2048 (X (Proc.devRef .tc main_call0_v71)) (ix3 b e j) = BitVec.ofNat 32 i.val) :
    arr S2x8x2048x192 (after opsE X (Proc.devRef .tc main_call0_v74)) (ix4 b e j k)
      = arr S2x2048x192 (X (Proc.devRef .tc main_call0_v25)) (ix3 b i k) := by
  after_reads_simp
  simp -implicitDefEqProofs only [TRef.toBuf, TRef.ofBuf, cast_cast, cast_eq, ints, arr] at hp ⊢
  pointwise
  rw [hp, wrap _ i.isLt, in_bounds _ i.isLt]
  rw [all_ones]
  refine Eq.trans (b := Host.gather _ _ _ _) rfl (take_tokens _ _ _ b e j k i ?_)
  pointwise
  rw [hp, wrap _ i.isLt]

theorem gate_rows (b : Fin 2) (e : Fin 8) (j : Fin 2048) (i : Fin 2048)
    (hp : ints S2x8x2048 (X (Proc.devRef .tc main_call0_v71)) (ix3 b e j) = BitVec.ofNat 32 i.val) :
    arr S2x8x2048x1 (after opsE X (Proc.devRef .tc main_call0_v77)) (ix4 b e j (0 : Fin 1))
      = arr S2x2048x8 (X (Proc.devRef .tc main_call0_v40)) (ix3 b i e) := by
  after_reads_simp
  simp -implicitDefEqProofs only [TRef.toBuf, TRef.ofBuf, cast_cast, cast_eq, ints, arr] at hp ⊢
  pointwise
  rw [hp, wrap _ i.isLt, in_bounds _ i.isLt]
  rw [all_ones]
  refine (picked _ _).trans ((take_gates _ _ _ b e j i ?_).trans ?_)
  · have h := wrap _ i.isLt
    rw [← hp] at h
    exact h.trans hp
  · pointwise

theorem counts4 (b : Fin 2) (e : Fin 8) :
    ints S2x8x1x1 (after opsE X (Proc.devRef .tc main_call0_v78)) (ix4 b e (0 : Fin 1) (0 : Fin 1))
      = ints S2x8 (X (Proc.devRef .tc main_call0_v57)) (ix2 b e) := by
  after_reads_simp
  simp -implicitDefEqProofs only [TRef.toBuf, TRef.ofBuf, cast_cast, cast_eq, ints]
  pointwise

theorem bias5 (e : Fin 8) (c : Fin 384) :
    arr S8x1x384 (after opsE X (Proc.devRef .tc main_call0_v79)) (ix3 e (0 : Fin 1) c) = arr S8x384 (X (Proc.devRef .tc main_arg7)) (ix2 e c) := by
  after_reads_simp
  simp -implicitDefEqProofs only [TRef.toBuf, TRef.ofBuf, cast_cast, cast_eq, arr]
  pointwise

theorem bias8 (e : Fin 8) (c : Fin 384) :
    arr S8x1x384 (after opsE X (Proc.devRef .tc main_call0_v80)) (ix3 e (0 : Fin 1) c) = arr S8x384 (X (Proc.devRef .tc main_arg10)) (ix2 e c) := by
  after_reads_simp
  simp -implicitDefEqProofs only [TRef.toBuf, TRef.ofBuf, cast_cast, cast_eq, arr]
  pointwise

theorem bias10 (e : Fin 8) (c : Fin 384) :
    arr S8x1x384 (after opsE X (Proc.devRef .tc main_call0_v81)) (ix3 e (0 : Fin 1) c) = arr S8x384 (X (Proc.devRef .tc main_arg12)) (ix2 e c) := by
  after_reads_simp
  simp -implicitDefEqProofs only [TRef.toBuf, TRef.ofBuf, cast_cast, cast_eq, arr]
  pointwise

end Cert.KernelIdeal.Route

end
-- ==== Proof.Picks.lean ====
module

public import proofs.«01_k».proof.Proof.HostSorts
public import proofs.«01_k».proof.Proof.Choice

@[expose] public section

/-! The two experts of each token, read off the gate probabilities. -/

noncomputable section

namespace Cert.Choice

open Cert.HostOps Idealize.ShloMosaic

theorem fits : (⟨3, ![2, 2048, 8]⟩ : Shape).Slices (fun _ => 0) ⟨3, ![2, 2048, 2]⟩ := by decide

/-- The two experts that the top-2 of the probabilities `x` names. -/
def picks (x : FVec Ideal ⟨3, ![2, 2048, 8]⟩ .f32) : Pick := fun b t =>
  Classical.choose (top_two (FloatOps.cmpfTotal (F := Ideal) (φ := .f32) .gt) x fits b t)

theorem picks_injective (x : FVec Ideal ⟨3, ![2, 2048, 8]⟩ .f32) (b : Fin 2) (t : Fin 2048) : Function.Injective (picks x b t) :=
  (Classical.choose_spec (top_two (FloatOps.cmpfTotal (F := Ideal) (φ := .f32) .gt) x fits b t)).1

theorem picks_eq (x : FVec Ideal ⟨3, ![2, 2048, 8]⟩ .f32) (b : Fin 2) (t : Fin 2048) (q : Fin 2) :
    (Host.topK ⟨3, ![2, 2048, 2]⟩ 2 (FloatOps.cmpfTotal (F := Ideal) (φ := .f32) .gt) x fits).2 (ix3 b t q) = BitVec.ofNat 32 (picks x b t q).val :=
  (Classical.choose_spec (top_two (FloatOps.cmpfTotal (F := Ideal) (φ := .f32) .gt) x fits b t)).2 q

end Cert.Choice

end
-- ==== Proof.Front.lean ====
module

public import proofs.«01_k».proof.Proof.Taken
public import proofs.«01_k».proof.Proof.Picks

@[expose] public section

/-! What the region of the kernel program starts from, by the gate probabilities. -/

set_option maxRecDepth 16384

noncomputable section

namespace Cert.KernelIdeal.Route

open Cert.KernelIdeal Cert.KernelIdeal.Gen Idealize.ShloMosaic
open Idealize.ShloMosaic.TcCoe
open Idealize.SL Idealize.SL.Sem StableHlo
open Cert.Choice Cert.HostOps

variable (X : Valuation τ sig (Elt Ideal))

/-- The host lines, line after line. -/
theorem lines : after hostOps0 X
    = after opsE (after opsS (after opsD (after opsP (after opsC (after opsB (after opsA X)))))) := by
  rw [← after_append, ← after_append, ← after_append, ← after_append, ← after_append, ← after_append]
  rfl

/-- The gate probabilities, and the choice they make. -/
abbrev probs : FVec Ideal S2x2048x8 .f32 := after opsA X (Proc.devRef .tc main_call0_v37)
abbrev pick : Pick := picks (probs X)

theorem indices_eq (b : Fin 2) (t : Fin 2048) (q : Fin 2) :
    ints S2x2048x2 (after opsA X (Proc.devRef .tc main_call0_indices)) (ix3 b t q) = BitVec.ofNat 32 (pick X b t q).val := by
  refine Eq.trans ?_ (picks_eq (probs X) b t q)
  refine congrFun ?_ _
  unfold probs
  after_reads_simp
  rfl

theorem routed_eq (b : Fin 2) (t : Fin 2048) (e : Fin 8) :
    arr S2x2048x8 (after opsB (after opsA X) (Proc.devRef .tc main_call0_v39)) (ix3 b t e) = if Chosen (pick X) b e t.val then 1 else 0 :=
  routed _ _ (picks_injective _) (indices_eq X) b t e

/-- A gate score: the probability where the expert is one of the token's two, else nothing. -/
theorem gate_eq (b : Fin 2) (t : Fin 2048) (e : Fin 8) :
    arr S2x2048x8 (after opsB (after opsA X) (Proc.devRef .tc main_call0_v40)) (ix3 b t e)
      = probs X (ix3 b t e) * if Chosen (pick X) b e t.val then 1 else 0 := by
  rw [← routed_eq X]
  exact gates _ b t e

theorem perm_eq (b : Fin 2) (e : Fin 8) (j : Fin 2048) :
    ints S2x8x2048 (after opsS (after opsD (after opsP (after opsC (after opsB (after opsA X))))) (Proc.devRef .tc main_call0_v71)) (ix3 b e j)
      = BitVec.ofNat 32 (tok (pick X) b e j).val := by
  refine perm _ _ (col0 _) (col1 _) (fun b e t => col2 _ b e t _ ?_) (fun b e t => ?_) b e j
  · exact inv _ _ b e t (mi _ _ (routed_eq X) b e t) (c1 _ _ (routed_eq X) b e t) (c0 _ _ (routed_eq X) b e t) (nsel _ _ (routed_eq X) b e)
  · refine Eq.trans (congrFun ?_ _) (order (after opsC (after opsB (after opsA X))) b e t)
    after_reads_simp

theorem xg_eq (b : Fin 2) (e : Fin 8) (j : Fin 2048) (k : Fin 192) :
    arr S2x8x2048x192 (after hostOps0 X (Proc.devRef .tc main_call0_v74)) (ix4 b e j k)
      = arr S2x2048x192 (after opsA X (Proc.devRef .tc main_call0_v25)) (ix3 b (tok (pick X) b e j) k) := by
  rw [lines]
  refine (rows _ b e j k _ (perm_eq X b e j)).trans (congrFun ?_ _)
  generalize after opsA X = Y
  after_reads_simp

theorem gg_eq (b : Fin 2) (e : Fin 8) (j : Fin 2048) :
    arr S2x8x2048x1 (after hostOps0 X (Proc.devRef .tc main_call0_v77)) (ix4 b e j (0 : Fin 1))
      = probs X (ix3 b (tok (pick X) b e j) e) * if Chosen (pick X) b e (tok (pick X) b e j).val then 1 else 0 := by
  rw [lines, ← gate_eq]
  refine (gate_rows _ b e j _ (perm_eq X b e j)).trans (congrFun ?_ _)
  generalize after opsB (after opsA X) = Y
  after_reads_simp

theorem counts_eq (b : Fin 2) (e : Fin 8) :
    ints S2x8x1x1 (after hostOps0 X (Proc.devRef .tc main_call0_v78)) (ix4 b e (0 : Fin 1) (0 : Fin 1)) = BitVec.ofNat 32 (load (pick X) b e) := by
  rw [lines, counts4, ← nsel _ _ (routed_eq X) b e]
  refine congrFun ?_ _
  generalize after opsC (after opsB (after opsA X)) = Y
  after_reads_simp

theorem c1_eq (b : Fin 2) (e : Fin 8) (t : Fin 2048) :
    ints S2x8x2048 (after hostOps0 X (Proc.devRef .tc main_call0_v52)) (ix3 b e t) = BitVec.ofNat 32 (Nat.count (Chosen (pick X) b e) (t.val + 1)) := by
  rw [lines, ← c1 _ _ (routed_eq X) b e t]
  refine congrFun ?_ _
  generalize after opsC (after opsB (after opsA X)) = Y
  after_reads_simp

theorem indices_end (b : Fin 2) (t : Fin 2048) (q : Fin 2) :
    ints S2x2048x2 (after hostOps0 X (Proc.devRef .tc main_call0_indices)) (ix3 b t q) = BitVec.ofNat 32 (pick X b t q).val := by
  rw [lines, ← indices_eq]
  refine congrFun ?_ _
  generalize after opsA X = Y
  after_reads_simp

theorem xs_end : after hostOps0 X (Proc.devRef .tc main_call0_v1) = after opsA X (Proc.devRef .tc main_call0_v1) := by
  rw [lines]
  generalize after opsA X = Y
  after_reads_simp

theorem aux_end : after hostOps0 X (Proc.devRef .tc main_v0_1) = after opsB (after opsA X) (Proc.devRef .tc main_v0_1) := by
  rw [lines]
  generalize after opsB (after opsA X) = Y
  after_reads_simp

theorem bias5_eq (e : Fin 8) (c : Fin 384) :
    arr S8x1x384 (after hostOps0 X (Proc.devRef .tc main_call0_v79)) (ix3 e (0 : Fin 1) c) = arr S8x384 (X (Proc.devRef .tc main_arg7)) (ix2 e c) := by
  rw [lines, bias5]
  refine congrFun ?_ _
  after_reads_simp

theorem bias8_eq (e : Fin 8) (c : Fin 384) :
    arr S8x1x384 (after hostOps0 X (Proc.devRef .tc main_call0_v80)) (ix3 e (0 : Fin 1) c) = arr S8x384 (X (Proc.devRef .tc main_arg10)) (ix2 e c) := by
  rw [lines, bias8]
  refine congrFun ?_ _
  after_reads_simp

theorem bias10_eq (e : Fin 8) (c : Fin 384) :
    arr S8x1x384 (after hostOps0 X (Proc.devRef .tc main_call0_v81)) (ix3 e (0 : Fin 1) c) = arr S8x384 (X (Proc.devRef .tc main_arg12)) (ix2 e c) := by
  rw [lines, bias10]
  refine congrFun ?_ _
  after_reads_simp

end Cert.KernelIdeal.Route

end
-- ==== Proof.RoutedBlock.lean ====
module

public import proofs.«01_k».proof.Proof.Spec
public import proofs.«01_k».proof.Proof.Picks

@[expose] public section

/-! The block of one sequence and one expert: the sequence's tokens in the expert's order, the expert's weights. -/

noncomputable section

namespace Cert.Spec

open Idealize.ShloMosaic
open Cert.Choice

def routedBlock (xn : (⟨3, ![2, 2048, 192]⟩ : Shape).Idx → EReal) (pr : (⟨3, ![2, 2048, 8]⟩ : Shape).Idx → EReal)
    (iw : (⟨3, ![8, 192, 768]⟩ : Shape).Idx → EReal)
    (cw : (⟨3, ![8, 384, 4]⟩ : Shape).Idx → EReal) (cb : (⟨2, ![8, 384]⟩ : Shape).Idx → EReal)
    (xw : (⟨3, ![8, 384, 44]⟩ : Shape).Idx → EReal) (dw : (⟨3, ![8, 12, 384]⟩ : Shape).Idx → EReal)
    (db : (⟨2, ![8, 384]⟩ : Shape).Idx → EReal) (al : (⟨3, ![8, 384, 16]⟩ : Shape).Idx → EReal)
    (dp : (⟨2, ![8, 384]⟩ : Shape).Idx → EReal) (ow : (⟨3, ![8, 384, 192]⟩ : Shape).Idx → EReal)
    (b : Fin 2) (e : Fin 8) : Block where
  xg j k := xn (ix3 b (Choice.tok (picks pr) b e j) k)
  gg j := pr (ix3 b (Choice.tok (picks pr) b e j) e) * if Chosen (picks pr) b e (Choice.tok (picks pr) b e j).val then 1 else 0
  iw k j := iw (ix3 e k j)
  cw c k := cw (ix3 e c k)
  cb c := cb (ix2 e c)
  xw c j := xw (ix3 e c j)
  dw r c := dw (ix3 e r c)
  db c := db (ix2 e c)
  al c n := al (ix3 e c n)
  dp c := dp (ix2 e c)
  ow c d := ow (ix3 e c d)

end Cert.Spec

end
-- ==== Proof.KernelValue.lean ====
module

public import proofs.«01_k».proof.Proof.OutValue
public import proofs.«01_k».proof.Proof.Front
public import proofs.«01_k».proof.Proof.RoutedBlock
public import Idealize.ShloMosaic.Lib.Pipeline.Value
public import Idealize.ShloMosaic.Lib.Pointwise
public import Idealize.ShloMosaic.Lib.Pipeline.ValueKit
public import Idealize.ShloMosaic.Lib.StableHlo.RunRead

@[expose] public section

/-! The kernel's result array at the rows below the counts. -/

set_option maxRecDepth 16384

noncomputable section

namespace Cert.KernelIdeal.Array

open Cert.KernelIdeal Cert.KernelIdeal.Gen Idealize.ShloMosaic Idealize.ShloMosaic.TcCoe
open Idealize.SL Idealize.SL.Sem
open Cert.Spec

variable (m : (ℓ : Loc nD τ sig) → Buf (Elt Ideal) ℓ)

/-- The grid point of sequence `b` and expert `e`. -/
def pt (b : Fin 2) (e : Fin 8) : Fin cfg0.N := ⟨8 * b.val + e.val, by
  have : cfg0.N = 16 := by decide +kernel
  omega⟩

theorem idx0 : ∀ b e, win0_0.index (pt b e) = ![b.val, e.val, 0, 0] := by decide +kernel
theorem idx1 : ∀ b e, win0_1.index (pt b e) = ![b.val, e.val, 0, 0] := by decide +kernel
theorem idx2 : ∀ b e, win0_2.index (pt b e) = ![b.val, e.val, 0, 0] := by decide +kernel
theorem idx3 : ∀ b e, win0_3.index (pt b e) = ![e.val, 0, 0] := by decide +kernel
theorem idx4 : ∀ b e, win0_4.index (pt b e) = ![e.val, 0, 0] := by decide +kernel
theorem idx5 : ∀ b e, win0_5.index (pt b e) = ![e.val, 0, 0] := by decide +kernel
theorem idx6 : ∀ b e, win0_6.index (pt b e) = ![e.val, 0, 0] := by decide +kernel
theorem idx7 : ∀ b e, win0_7.index (pt b e) = ![e.val, 0, 0] := by decide +kernel
theorem idx8 : ∀ b e, win0_8.index (pt b e) = ![e.val, 0, 0] := by decide +kernel
theorem idx9 : ∀ b e, win0_9.index (pt b e) = ![e.val, 0, 0] := by decide +kernel
theorem idx10 : ∀ b e, win0_10.index (pt b e) = ![e.val, 0, 0] := by decide +kernel
theorem idx11 : ∀ b e, win0_11.index (pt b e) = ![e.val, 0, 0] := by decide +kernel
theorem idx12 : ∀ b e, win0_12.index (pt b e) = ![b.val, e.val, 0, 0] := by decide +kernel

abbrev at0 (c : Dev nD) : Valuation τ sig (Elt Ideal) := fun b => m (c, b)

theorem in0 (c : Dev nD) (b : Fin 2) (e : Fin 8) (y) :
    iblk m c 0 (pt b e) y = BitVec.ofNat 32 (Choice.load (Route.pick (at0 m c)) b e) := by
  refine Eq.trans ?_ (Route.counts_eq (at0 m c) b e)
  blk_point [iblk, idx0]

theorem in1V (c : Dev nD) (b : Fin 2) (e : Fin 8) (t : Fin 2048) (k : Fin 192) :
    iblk m c 1 (pt b e) (ix4 (0 : Fin 1) (0 : Fin 1) t k) = V m c main_call0_v74 (ix4 b e t k) := by
  show ((cfg0.win 1).blk (pt b e)).view.read (Elt Ideal) (V m c main_call0_v74) _ = _
  generalize V m c main_call0_v74 = Z
  blk_point [idx1]

theorem in1 (c : Dev nD) (b : Fin 2) (e : Fin 8) (t : Fin 2048) (k : Fin 192) :
    iblk m c 1 (pt b e) (ix4 (0 : Fin 1) (0 : Fin 1) t k)
      = Route.arr S2x2048x192 (StableHlo.after Route.opsA (at0 m c) (Proc.devRef .tc main_call0_v25)) (ix3 b (Choice.tok (Route.pick (at0 m c)) b e t) k) := by
  refine Eq.trans ?_ (Route.xg_eq (at0 m c) b e t k)
  exact in1V m c b e t k

theorem in2V (c : Dev nD) (b : Fin 2) (e : Fin 8) (t : Fin 2048) :
    iblk m c 2 (pt b e) (ix4 (0 : Fin 1) (0 : Fin 1) t (0 : Fin 1)) = V m c main_call0_v77 (ix4 b e t (0 : Fin 1)) := by
  show ((cfg0.win 2).blk (pt b e)).view.read (Elt Ideal) (V m c main_call0_v77) _ = _
  generalize V m c main_call0_v77 = Z
  blk_point [idx2]

theorem in2 (c : Dev nD) (b : Fin 2) (e : Fin 8) (t : Fin 2048) :
    iblk m c 2 (pt b e) (ix4 (0 : Fin 1) (0 : Fin 1) t (0 : Fin 1))
      = Route.probs (at0 m c) (ix3 b (Choice.tok (Route.pick (at0 m c)) b e t) e)
        * if Choice.Chosen (Route.pick (at0 m c)) b e (Choice.tok (Route.pick (at0 m c)) b e t).val then 1 else 0 := by
  refine Eq.trans ?_ (Route.gg_eq (at0 m c) b e t)
  exact in2V m c b e t

theorem in3 (c : Dev nD) (b : Fin 2) (e : Fin 8) (k : Fin 192) (j : Fin 768) :
    iblk m c 3 (pt b e) (ix3 (0 : Fin 1) k j)
      = m ((c : Thread nD τ).loc main_arg5) (ix3 e k j) := by
  blk_point [iblk, V_main_arg5, idx3]

theorem in4 (c : Dev nD) (b : Fin 2) (e : Fin 8) (ch : Fin 384) (k : Fin 4) :
    iblk m c 4 (pt b e) (ix3 (0 : Fin 1) ch k)
      = m ((c : Thread nD τ).loc main_arg6) (ix3 e ch k) := by
  blk_point [iblk, V_main_arg6, idx4]

theorem in5 (c : Dev nD) (b : Fin 2) (e : Fin 8) (ch : Fin 384) :
    iblk m c 5 (pt b e) (ix3 (0 : Fin 1) (0 : Fin 1) ch)
      = m ((c : Thread nD τ).loc main_arg7) (ix2 e ch) := by
  refine Eq.trans ?_ (Route.bias5_eq (at0 m c) e ch)
  blk_point [iblk, idx5]

theorem in6 (c : Dev nD) (b : Fin 2) (e : Fin 8) (ch : Fin 384) (j : Fin 44) :
    iblk m c 6 (pt b e) (ix3 (0 : Fin 1) ch j)
      = m ((c : Thread nD τ).loc main_arg8) (ix3 e ch j) := by
  blk_point [iblk, V_main_arg8, idx6]

theorem in7 (c : Dev nD) (b : Fin 2) (e : Fin 8) (r : Fin 12) (ch : Fin 384) :
    iblk m c 7 (pt b e) (ix3 (0 : Fin 1) r ch)
      = m ((c : Thread nD τ).loc main_arg9) (ix3 e r ch) := by
  blk_point [iblk, V_main_arg9, idx7]

theorem in8 (c : Dev nD) (b : Fin 2) (e : Fin 8) (ch : Fin 384) :
    iblk m c 8 (pt b e) (ix3 (0 : Fin 1) (0 : Fin 1) ch)
      = m ((c : Thread nD τ).loc main_arg10) (ix2 e ch) := by
  refine Eq.trans ?_ (Route.bias8_eq (at0 m c) e ch)
  blk_point [iblk, idx8]

theorem in9 (c : Dev nD) (b : Fin 2) (e : Fin 8) (ch : Fin 384) (n : Fin 16) :
    iblk m c 9 (pt b e) (ix3 (0 : Fin 1) ch n)
      = m ((c : Thread nD τ).loc main_arg11) (ix3 e ch n) := by
  blk_point [iblk, V_main_arg11, idx9]

theorem in10 (c : Dev nD) (b : Fin 2) (e : Fin 8) (ch : Fin 384) :
    iblk m c 10 (pt b e) (ix3 (0 : Fin 1) (0 : Fin 1) ch)
      = m ((c : Thread nD τ).loc main_arg12) (ix2 e ch) := by
  refine Eq.trans ?_ (Route.bias10_eq (at0 m c) e ch)
  blk_point [iblk, idx10]

theorem in11 (c : Dev nD) (b : Fin 2) (e : Fin 8) (ch : Fin 384) (d : Fin 192) :
    iblk m c 11 (pt b e) (ix3 (0 : Fin 1) ch d)
      = m ((c : Thread nD τ).loc main_arg13) (ix3 e ch d) := by
  blk_point [iblk, V_main_arg13, idx11]

/-- The block of sequence `b` and expert `e`. -/
def block (c : Dev nD) (b : Fin 2) (e : Fin 8) : Block :=
  routedBlock (StableHlo.after Route.opsA (at0 m c) (Proc.devRef .tc main_call0_v25)) (Route.probs (at0 m c)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b e

/-- The blocks staged at a grid point are that block's arrays. -/
theorem blockOf_eq (c : Dev nD) (b : Fin 2) (e : Fin 8) :
    Trip.blockOf (iblk m c 1 (pt b e)) (iblk m c 2 (pt b e)) (iblk m c 3 (pt b e)) (iblk m c 4 (pt b e)) (iblk m c 5 (pt b e)) (iblk m c 6 (pt b e)) (iblk m c 7 (pt b e)) (iblk m c 8 (pt b e)) (iblk m c 9 (pt b e)) (iblk m c 10 (pt b e)) (iblk m c 11 (pt b e)) = block m c b e := by
  unfold Trip.blockOf block routedBlock
  simp only [in1, in2, in3, in4, in5, in6, in7, in8, in9, in10, in11]

theorem pt_surjective : ∀ t : Fin cfg0.N, ∃ b e, pt b e = t := by decide +kernel

/-- The facts that the body assumes of the counts it reads hold: the counts are between 0 and 2048. -/
theorem hyps : Hyps m := by
  intro c t
  simp only [View.readAt_apply, Memref.IsWhole.read_unread]
  obtain ⟨b, e, rfl⟩ := pt_surjective t
  rw [in0]
  exact (Counts.counts_ok ⟨_, Nat.lt_succ_of_le (Choice.load_le (Route.pick (at0 m c)) b e)⟩).1

theorem flushes : ∀ b e, (cfg0.win 12).flush (pt b e) = true := by decide +kernel

theorem emb12 (b : Fin 2) (e : Fin 8) (t : Fin 2048) (d : Fin 192) :
    (win0_12.blk (pt b e)).view.emb (ix4 (0 : Fin 1) (0 : Fin 1) t d) = ix4 b e t d := by
  funext a
  refine Fin.ext ?_
  fin_cases a <;> blk_simp [idx12] <;> rfl

theorem flushed12 (hH : Hyps m) (c : Dev nD) (t : Fin cfg0.N) :
    (dats m hH 0 c).flushed 12 t = (cfg0.win 12).cut (grid0.coords t) (outsAt0 m hH c t) := by
  show (cfg0.win 12).cut (grid0.coords t) ((dats m hH 0 c).after 12 t) = _
  rw [after0_12]

theorem idx_inj12 : ∀ t t' : Fin cfg0.N, win0_12.index t = win0_12.index t' → t = t' :=
  (by decide +kernel : ∀ t t' : Fin grid0.N, win0_12.index t = win0_12.index t' → t = t')

theorem disjoint12 (t t' : Fin cfg0.N) (_ : (cfg0.win 12).flush t = true) (_ : (cfg0.win 12).flush t' = true) (hne : t ≠ t') :
    Disjoint ((cfg0.win 12).blk t).view.set ((cfg0.win 12).blk t').view.set :=
  (cfg0.win 12).disjoint_blk fun h => hne (idx_inj12 t t' h)

/-- The result array at a row below its count. -/
theorem result (hH : Hyps m) (c : Dev nD) (b : Fin 2) (e : Fin 8) (t : Fin 2048)
    (ht : t.val < Choice.load (Route.pick (at0 m c)) b e) (d : Fin 192) :
    (dats m hH 0 c).arrAt 12 cfg0.N (ix4 b e t d) = (block m c b e).out t d := by
  have h := congrFun (((dats m hH 0 c).read_blk_arrAt_eq_flushed 12 disjoint12 cfg0.N (pt b e) (pt b e).isLt (flushes b e)).trans
    (flushed12 m hH c (pt b e))) (ix4 (0 : Fin 1) (0 : Fin 1) t d)
  simp only [outsAt0] at h
  blk_simp [idx12] at h
  rw [emb12] at h
  refine h.trans ?_
  rw [← blockOf_eq]
  exact Trip.out_value c _ _ _ _ _ _ _ _ _ _ _ _ _ _ _ _ _ _ _ _ _ _ _ _ _ _ _ _ _ _ _ _ _ _ _ _ _ _
    _ _ _ _ _ _ _ _ _ _ _ _ ⟨_, Nat.lt_succ_of_le (Choice.load_le (Route.pick (at0 m c)) b e)⟩ (fun y => in0 m c b e y) t ht d

end Cert.KernelIdeal.Array

end
-- ==== Proof.Tail.lean ====
module

public import proofs.«01_k».proof.Proof.Taken
public import Idealize.ShloMosaic.Lib.Routing.Ops

@[expose] public section

/-! What the kernel program's host lines after the region leave: each token's two rows of the region's result, summed,
    scaled and added to the token. -/

set_option maxRecDepth 16384

noncomputable section

namespace Cert.KernelIdeal.Route

open Cert.KernelIdeal Cert.KernelIdeal.Gen Idealize.ShloMosaic
open Idealize.ShloMosaic.TcCoe
open Idealize.SL Idealize.SL.Sem StableHlo
open Cert.Choice Cert.HostOps

abbrev tailA : List (HloOp τ sig (Elt Ideal)) := hostOps1.take 23
abbrev tailB : List (HloOp τ sig (Elt Ideal)) := (hostOps1.drop 23).take 14
abbrev tailC : List (HloOp τ sig (Elt Ideal)) := hostOps1.drop 37

variable (X : Valuation τ sig (Elt Ideal))

theorem tail_lines : after hostOps1 X = after tailC (after tailB (after tailA X)) := by
  rw [← after_append, ← after_append]
  rfl

theorem wrap8 (n : ℕ) (h : n < 8) :
    Scalar.select (IntOp.cmpi .slt (BitVec.ofNat 32 n) 0#32) (IntOp.addi (BitVec.ofNat 32 n) 8#32) (BitVec.ofNat 32 n) = BitVec.ofNat 32 n := by
  rw [slt_zero _ (by omega)]
  rfl

theorem in_bounds8 (n : ℕ) (h : n < 8) :
    IntOp.andi (IntOp.cmpi .sge (BitVec.ofNat 32 n) 0#32) (IntOp.cmpi .sle (BitVec.ofNat 32 n) 7#32) = 1#1 := by
  have e : (BitVec.ofNat 32 n).toInt = (n : Int) := StableHlo.Predicate.toInt_ofNat_small _ (by omega)
  have h1 : BitVec.sle 0#32 (BitVec.ofNat 32 n) = true := by
    simp only [BitVec.sle, e]
    simp
  have h2 : BitVec.sle (BitVec.ofNat 32 n) 7#32 = true := by
    simp only [BitVec.sle, e]
    simp
    omega
  simp only [IntOp.cmpi, h1, h2]
  rfl

theorem ranks (b : Fin 2) (t : Fin 2048) (q : Fin 2) (e : Fin 8)
    (hi : ints S2x2048x2 (X (Proc.devRef .tc main_call0_indices)) (ix3 b t q) = BitVec.ofNat 32 e.val) :
    ints S2x2048x2 (after tailA X (Proc.devRef .tc main_call0_v84)) (ix3 b t q)
      = ints S2x8x2048 (X (Proc.devRef .tc main_call0_v52)) (ix3 b e t) := by
  after_reads_simp
  simp -implicitDefEqProofs only [TRef.toBuf, TRef.ofBuf, cast_cast, cast_eq, ints] at hi ⊢
  pointwise
  rw [hi, wrap8 _ e.isLt, in_bounds8 _ e.isLt, all_ones]
  refine (picked _ _).trans ((take_experts _ _ _ b t q e ?_).trans ?_)
  · have h := wrap8 _ e.isLt
    rw [← hi] at h
    exact h.trans hi
  · pointwise

theorem flat (b : Fin 2) (t : Fin 2048) (q : Fin 2) (e : Fin 8) (r : Fin 2048)
    (hi : ints S2x2048x2 (X (Proc.devRef .tc main_call0_indices)) (ix3 b t q) = BitVec.ofNat 32 e.val)
    (hr : ints S2x2048x2 (X (Proc.devRef .tc main_call0_v84)) (ix3 b t q) = BitVec.ofNat 32 (r.val + 1)) :
    ints S2x2048x2 (after tailB X (Proc.devRef .tc main_call0_v95)) (ix3 b t q) = BitVec.ofNat 32 ((b.val * 8 + e.val) * 2048 + r.val) := by
  after_reads_simp
  simp -implicitDefEqProofs only [TRef.toBuf, TRef.ofBuf, cast_cast, cast_eq, ints] at hi hr ⊢
  pointwise
  rw [hi, hr]
  have h := succ_less r.val
  change IntOp.subi (BitVec.ofNat 32 (r.val + 1)) 1#32 = _ at h
  rw [h]
  show (BitVec.ofNat 32 b.val * BitVec.ofNat 32 8 + BitVec.ofNat 32 e.val) * BitVec.ofNat 32 2048 + BitVec.ofNat 32 r.val = _
  rw [← BitVec.ofNat_mul, ← BitVec.ofNat_add, ← BitVec.ofNat_mul, ← BitVec.ofNat_add]

/-- A row number stays when read as an index of an axis of 32768. -/
theorem wrap_row (n : ℕ) (h : n < 32768) :
    Scalar.select (IntOp.cmpi .slt (BitVec.ofNat 32 n) 0#32) (IntOp.addi (BitVec.ofNat 32 n) 32768#32) (BitVec.ofNat 32 n) = BitVec.ofNat 32 n := by
  have e : (BitVec.ofNat 32 n).toInt = (n : Int) := StableHlo.Predicate.toInt_ofNat_small _ (by omega)
  have h2 : BitVec.slt (BitVec.ofNat 32 n) 0#32 = false := by
    simp only [BitVec.slt, e]
    simp
  simp only [IntOp.cmpi, h2]
  rfl

theorem token_row (b : Fin 2) (t : Fin 2048) (q : Fin 2) (h0 h1 h2) :
    ix3 (⟨(b.val * 4096 + t.val * 2 + q.val) / 4096, h0⟩ : Fin 2) (⟨(b.val * 4096 + t.val * 2 + q.val) / 2 % 2048, h1⟩ : Fin 2048)
      (⟨(b.val * 4096 + t.val * 2 + q.val) % 2, h2⟩ : Fin 2) = ix3 b t q := by
  have := b.isLt
  have := t.isLt
  have := q.isLt
  congr 1 <;> refine Fin.ext ?_
  · show (b.val * 4096 + t.val * 2 + q.val) / 4096 = b.val
    omega
  · show (b.val * 4096 + t.val * 2 + q.val) / 2 % 2048 = t.val
    omega
  · show (b.val * 4096 + t.val * 2 + q.val) % 2 = q.val
    omega

theorem slot_row (b : Fin 2) (e : Fin 8) (r : Fin 2048) (k : Fin 192) (h0 h1 h2) :
    ix4 (⟨((b.val * 8 + e.val) * 2048 + r.val) / 16384, h0⟩ : Fin 2) (⟨((b.val * 8 + e.val) * 2048 + r.val) / 2048 % 8, h1⟩ : Fin 8)
      (⟨((b.val * 8 + e.val) * 2048 + r.val) % 2048, h2⟩ : Fin 2048) k = ix4 b e r k := by
  have := b.isLt
  have := e.isLt
  have := r.isLt
  congr 1 <;> refine Fin.ext ?_
  · show ((b.val * 8 + e.val) * 2048 + r.val) / 16384 = b.val
    omega
  · show ((b.val * 8 + e.val) * 2048 + r.val) / 2048 % 8 = e.val
    omega
  · show ((b.val * 8 + e.val) * 2048 + r.val) % 2048 = r.val
    omega

theorem sum_rows (b : Fin 2) (t : Fin 2048) (k : Fin 192) (e : Fin 2 → Fin 8) (r : Fin 2 → Fin 2048)
    (hf : ∀ q, ints S2x2048x2 (X (Proc.devRef .tc main_call0_v95)) (ix3 b t q) = BitVec.ofNat 32 ((b.val * 8 + (e q).val) * 2048 + (r q).val)) :
    arr S2x2048x192 (after tailC X (Proc.devRef .tc main_call0_v110)) (ix3 b t k)
      = arr S2x2048x192 (X (Proc.devRef .tc main_call0_v1)) (ix3 b t k)
        + arr S192 (X (Proc.devRef .tc main_arg3)) (ix1 k) * ∑ q, arr S2x8x2048x192 (X (Proc.devRef .tc main_call0_v82)) (ix4 b (e q) (r q) k) := by
  after_reads_simp
  simp -implicitDefEqProofs only [TRef.toBuf, TRef.ofBuf, cast_cast, cast_eq, ints, arr] at hf ⊢
  pointwise
  refine congrArg _ (congrArg _ (Finset.sum_congr rfl fun q _ => ?_))
  have hb := b.isLt
  have he := (e q).isLt
  have hr := (r q).isLt
  have hn : (b.val * 8 + (e q).val) * 2048 + (r q).val < 32768 := by omega
  refine (Routing.gather_row gather_S32768x192_S8192x1_S8192x192_1_0_n_n_0_1_1192 rfl rfl rfl rfl rfl _ _ _ _
    (⟨(b.val * 8 + (e q).val) * 2048 + (r q).val, hn⟩ : Fin 32768) ?_ (by norm_num)).trans ?_
  · pointwise
    rw [token_row, hf q]
    exact wrap_row _ hn
  · exact congrArg (X (Proc.tc.devRef main_call0_v82)) (slot_row b (e q) (r q) k _ _ _)

theorem final : after tailC X (Proc.devRef .tc main_v0_0)
    = transpose S2x192x16x16x8 [0, 4, 1, 2, 3] (shapeCast S2x16x16x8x192 (after tailC X (Proc.devRef .tc main_call0_v110)) (by decide)) (by decide) := by
  after_reads_simp
  simp -implicitDefEqProofs only [TRef.toBuf, TRef.ofBuf, cast_cast, cast_eq]
  rfl

end Cert.KernelIdeal.Route

end
-- ==== Proof.KernelResult.lean ====
module

public import proofs.«01_k».proof.Proof.KernelValue
public import proofs.«01_k».proof.Proof.Tail
public import Idealize.ShloMosaic.Lib.Claim

@[expose] public section

/-! The kernel program's two results: each token with its two experts' outputs added, and the balance term. -/

set_option maxRecDepth 16384

noncomputable section

namespace Cert.KernelIdeal.Array

open Cert.KernelIdeal Cert.KernelIdeal.Gen Idealize.ShloMosaic Idealize.ShloMosaic.TcCoe
open Idealize.SL Idealize.SL.Sem StableHlo
open Cert.Spec Cert.Choice Cert.KernelIdeal.Route

section
variable (X : Valuation τ sig (Elt Ideal))

theorem keep_indices : after tailA X (Proc.devRef .tc main_call0_indices) = X (Proc.devRef .tc main_call0_indices) := by
  after_reads_simp

theorem keep_xs : after tailB (after tailA X) (Proc.devRef .tc main_call0_v1) = X (Proc.devRef .tc main_call0_v1) := by
  after_reads_simp

theorem keep_gamma : after tailB (after tailA X) (Proc.devRef .tc main_arg3) = X (Proc.devRef .tc main_arg3) := by
  after_reads_simp

theorem keep_out : after tailB (after tailA X) (Proc.devRef .tc main_call0_v82) = X (Proc.devRef .tc main_call0_v82) := by
  after_reads_simp

theorem keep_aux : after tailC (after tailB (after tailA X)) (Proc.devRef .tc main_v0_1) = X (Proc.devRef .tc main_v0_1) := by
  after_reads_simp

theorem keep_arg3 : after hostOps0 X (Proc.devRef .tc main_arg3) = X (Proc.devRef .tc main_arg3) := by
  rw [lines]
  after_reads_simp

/-- The lines after the region, at a token: its two rows of the region's result. -/
theorem tail_sum (p : Pick) (b : Fin 2) (t : Fin 2048) (k : Fin 192)
    (hi : ∀ q, ints S2x2048x2 (X (Proc.devRef .tc main_call0_indices)) (ix3 b t q) = BitVec.ofNat 32 (p b t q).val)
    (hc : ∀ e, ints S2x8x2048 (X (Proc.devRef .tc main_call0_v52)) (ix3 b e t) = BitVec.ofNat 32 (Nat.count (Chosen p b e) (t.val + 1))) :
    arr S2x2048x192 (after tailC (after tailB (after tailA X)) (Proc.devRef .tc main_call0_v110)) (ix3 b t k)
      = arr S2x2048x192 (X (Proc.devRef .tc main_call0_v1)) (ix3 b t k)
        + arr S192 (X (Proc.devRef .tc main_arg3)) (ix1 k)
          * ∑ q, arr S2x8x2048x192 (X (Proc.devRef .tc main_call0_v82)) (ix4 b (p b t q) (spot p b (p b t q) t) k) := by
  refine (sum_rows _ b t k (fun q => p b t q) (fun q => spot p b (p b t q) t) fun q => ?_).trans ?_
  · refine flat _ b t q _ _ ?_ ?_
    · rw [keep_indices]
      exact hi q
    · rw [ranks X b t q _ (hi q), hc]
      have h : Chosen p b (p b t q) t.val := (chosen_iff p b _ t).2 ⟨q, rfl⟩
      rw [Nat.count_succ, if_pos h, spot_chosen p b _ t h]
  · rw [keep_xs, keep_gamma, keep_out]

end

variable (m : (ℓ : Loc nD τ sig) → Buf (Elt Ideal) ℓ)

/-- What the lines after the region start from. -/
abbrev handed (hH : Hyps m) (c : Dev nD) : Valuation τ sig (Elt Ideal) :=
  Pipeline.withArrays (cfgs 0).spec c (V0 m c) fun w => (dats m hH 0 c).arrAt w (cfgs 0).N

theorem handed_rest (hH : Hyps m) (c : Dev nD) (r : Ref sig .tc) (h : ∀ w, Pipeline.arrRef spec0 w ≠ r) :
    handed m hH c (Proc.devRef .tc r) = after hostOps0 (at0 m c) (Proc.devRef .tc r) :=
  Pipeline.withArrays_of_ne _ c _ _ r h

theorem handed_out (hH : Hyps m) (c : Dev nD) :
    handed m hH c (Proc.devRef .tc main_call0_v82) = (dats m hH 0 c).arrAt 12 cfg0.N :=
  Pipeline.withArrays_arr (cfgs 0).spec (by decide : Function.Injective (Pipeline.arrRef spec0)) c (V0 m c) _ (12 : Fin 13)

/-- The tokens, each with its two experts' outputs added. -/
theorem sums (hH : Hyps m) (c : Dev nD) (b : Fin 2) (t : Fin 2048) (k : Fin 192) :
    arr S2x2048x192 (after tailC (after tailB (after tailA (handed m hH c))) (Proc.devRef .tc main_call0_v110)) (ix3 b t k)
      = arr S2x2048x192 (after opsA (at0 m c) (Proc.devRef .tc main_call0_v1)) (ix3 b t k)
        + arr S192 (m ((c : Thread nD τ).loc main_arg3)) (ix1 k)
          * ∑ q : Fin 2, (block m c b (pick (at0 m c) b t q)).out (spot (pick (at0 m c)) b (pick (at0 m c) b t q) t) k := by
  refine (tail_sum (handed m hH c) (pick (at0 m c)) b t k (fun q => ?_) (fun e => ?_)).trans ?_
  · rw [handed_rest m hH c main_call0_indices (by decide)]
    exact indices_end (at0 m c) b t q
  · rw [handed_rest m hH c main_call0_v52 (by decide)]
    exact c1_eq (at0 m c) b e t
  · rw [handed_rest m hH c main_call0_v1 (by decide), handed_rest m hH c main_arg3 (by decide), handed_out, xs_end, keep_arg3]
    refine congrArg _ (congrArg _ (Finset.sum_congr rfl fun q _ => ?_))
    exact result m hH c b _ _ (spot_lt_load _ b _ t ((chosen_iff _ b _ t).2 ⟨q, rfl⟩)) k

/-- The first result, of the sums. -/
abbrev out0 (hH : Hyps m) (c : Dev nD) : FVec Ideal S2x192x16x16x8 .f32 :=
  transpose S2x192x16x16x8 [0, 4, 1, 2, 3]
    (shapeCast S2x16x16x8x192 (after tailC (after tailB (after tailA (handed m hH c))) (Proc.devRef .tc main_call0_v110)) (by decide)) (by decide)

/-- The second result. -/
abbrev out1 (c : Dev nD) : FVec Ideal S_ .f32 := after opsB (after opsA (at0 m c)) (Proc.devRef .tc main_v0_1)

variable (ρ : Dev nD → PrngReg)

theorem run_results (hH : Hyps m) : θ_run (defs (F := Ideal)) (onTc (τ := τ) (main (F := Ideal))) ⟨m, fun _ => 0, ρ⟩ (fun r => ∀ c : Dev nD,
      r.2.mem ((c.tc : Thread nD τ).loc main_v0_0) = out0 m hH c ∧ r.2.mem ((c.tc : Thread nD τ).loc main_v0_1) = out1 m c) :=
  (θ_run _ _ _).mono (fun r h c => ⟨by
    rw [(h c).2 main_v0_0 (by decide)]
    show after hostOps1 (handed m hH c) (Proc.devRef .tc main_v0_0) = _
    rw [tail_lines]
    exact final _, by
    rw [(h c).2 main_v0_1 (by decide)]
    show after hostOps1 (handed m hH c) (Proc.devRef .tc main_v0_1) = _
    rw [tail_lines, keep_aux, handed_rest m hH c main_v0_1 (by decide)]
    exact aux_end _⟩) (run_main m ρ hH)

end Cert.KernelIdeal.Array

end
-- ==== Proof.RefStretches.lean ====
module

public import proofs.«01_k».proof.Proof.SpecFacts
public import proofs.«01_k».proof.Proof.Gen.ReferenceIdeal.Run
public import Idealize.ShloMosaic.Lib.Pointwise
public import Idealize.ShloMosaic.Lib.StableHlo.RunRead

@[expose] public section

/-! What each stretch of the reference leaves at an index, of the arrays it starts from. -/

set_option maxRecDepth 16384

noncomputable section

namespace Cert.ReferenceIdeal.Stretch

open Cert.ReferenceIdeal Cert.ReferenceIdeal.Gen Cert.ReferenceIdeal.Value Idealize.ShloMosaic
open Idealize.ShloMosaic.TcCoe
open Idealize.SL Idealize.SL.Sem StableHlo
open Cert.Spec

/-- A buffer's contents as a function from indices to extended reals. -/
abbrev arr (s : Shape) (f : FVec Ideal s .f32) (i : s.Idx) : EReal := f i

variable (X : Valuation τ sig (Elt Ideal))

theorem zero_word : FloatOps.sitofp (F := Ideal) .f32 (0#32) = (0 : EReal) := by
  show (((0#32 : BitVec 32).toInt : ℝ) : EReal) = 0
  simp

theorem proj1 (b : Fin 2) (e : Fin 8) (t : Fin 2048) (c : Fin 384) :
    arr S8x2x2048x384 (after hostOps0_4 X (Proc.devRef .tc main_v63)) (ix4 e b t c)
      = ∑ k : Fin 192, arr S2x8x2048x192 (after hostOps0_4 X (Proc.devRef .tc main_v61)) (ix4 b e t k)
          * arr S8x192x768 (X (Proc.devRef .tc main_arg5)) (ix3 e k ⟨c.val, by omega⟩) := by
  after_reads_simp
  pointwise

theorem proj2 (b : Fin 2) (e : Fin 8) (t : Fin 2048) (c : Fin 384) :
    arr S8x2x2048x384 (after hostOps0_4 X (Proc.devRef .tc main_v64)) (ix4 e b t c)
      = ∑ k : Fin 192, arr S2x8x2048x192 (after hostOps0_4 X (Proc.devRef .tc main_v61)) (ix4 b e t k)
          * arr S8x192x768 (X (Proc.devRef .tc main_arg5)) (ix3 e k ⟨384 + c.val, by omega⟩) := by
  after_reads_simp
  pointwise

theorem padded (b : Fin 2) (e : Fin 8) (t : Fin 2051) (c : Fin 384) :
    arr S8x2x2051x384 (after hostOps0_5 (after hostOps0_4 X) (Proc.devRef .tc main_v65)) (ix4 e b t c)
      = if h : t.val < 3 then (0 : EReal) else
        arr S8x2x2048x384 (after hostOps0_4 X (Proc.devRef .tc main_v63)) (ix4 e b ⟨t.val - 3, by omega⟩ c) := by
  after_reads_simp
  simp only [TRef.toBuf, TRef.ofBuf, cast_eq]
  pointwise
  by_cases h : t.val < 3
  · rw [dif_neg (by omega), dif_pos h]
    exact zero_word
  · rw [dif_pos (by omega), dif_neg h]

theorem conv (b : Fin 2) (e : Fin 8) (t : Fin 2048) (c : Fin 384) :
    arr S2x8x2048x384 (after hostOps0_6 X (Proc.devRef .tc main_v105)) (ix4 b e t c)
      = arr S8x384 (X (Proc.devRef .tc main_arg7)) (ix2 e c)
        + arr S8x2x2051x384 (X (Proc.devRef .tc main_v65)) (ix4 e b ⟨t.val, by omega⟩ c)
          * arr S8x384x4 (X (Proc.devRef .tc main_arg6)) (ix3 e c 0)
        + arr S8x2x2051x384 (X (Proc.devRef .tc main_v65)) (ix4 e b ⟨1 + t.val, by omega⟩ c)
          * arr S8x384x4 (X (Proc.devRef .tc main_arg6)) (ix3 e c 1)
        + arr S8x2x2051x384 (X (Proc.devRef .tc main_v65)) (ix4 e b ⟨2 + t.val, by omega⟩ c)
          * arr S8x384x4 (X (Proc.devRef .tc main_arg6)) (ix3 e c 2)
        + arr S8x2x2051x384 (X (Proc.devRef .tc main_v65)) (ix4 e b ⟨3 + t.val, by omega⟩ c)
          * arr S8x384x4 (X (Proc.devRef .tc main_arg6)) (ix3 e c 3) := by
  after_reads_simp
  simp only [arr, id_eq]
  pointwise

theorem act (b : Fin 2) (e : Fin 8) (t : Fin 2048) (c : Fin 384) :
    arr S2x8x2048x384 (after hostOps0_6 X (Proc.devRef .tc main_v112)) (ix4 b e t c)
      = Block.silu (arr S2x8x2048x384 (after hostOps0_6 X (Proc.devRef .tc main_v105)) (ix4 b e t c)) := by
  unfold Block.silu Ideal.logistic
  after_reads_simp
  simp only [arr, id_eq]
  pointwise

theorem dbl (b : Fin 2) (e : Fin 8) (t : Fin 2048) (j : Fin 44) :
    arr S8x2x2048x44 (after hostOps0_6 X (Proc.devRef .tc main_v113)) (ix4 e b t j)
      = ∑ c : Fin 384, arr S2x8x2048x384 (after hostOps0_6 X (Proc.devRef .tc main_v112)) (ix4 b e t c)
          * arr S8x384x44 (X (Proc.devRef .tc main_arg8)) (ix3 e c j) := by
  after_reads_simp
  simp only [arr, id_eq]
  pointwise

theorem dtin (b : Fin 2) (e : Fin 8) (t : Fin 2048) (c : Fin 384) :
    arr S2x8x2048x384 (after hostOps0_6 X (Proc.devRef .tc main_v120)) (ix4 b e t c)
      = ∑ r : Fin 12, arr S8x2x2048x44 (after hostOps0_6 X (Proc.devRef .tc main_v113)) (ix4 e b t ⟨r.val, by omega⟩)
          * arr S8x12x384 (X (Proc.devRef .tc main_arg9)) (ix3 e r c)
        + arr S8x384 (X (Proc.devRef .tc main_arg10)) (ix2 e c) := by
  after_reads_simp
  simp only [arr, id_eq]
  pointwise

theorem dt (b : Fin 2) (e : Fin 8) (t : Fin 2048) (c : Fin 384) :
    arr S2x8x2048x384 (after hostOps0_7 X (Proc.devRef .tc main_v121)) (ix4 b e t c)
      = Ideal.log1p (Ideal.exp (arr S2x8x2048x384 (X (Proc.devRef .tc main_v120)) (ix4 b e t c))) := by
  rw [← softplus_max]
  after_reads_simp
  simp only [TRef.toBuf, TRef.ofBuf, cast_eq, arr]
  pointwise
  rw [if_neg (by simp)]
  rfl

theorem keep (b : Fin 2) (e : Fin 8) (t : Fin 2048) (c : Fin 384) (n : Fin 16) :
    arr S2048x2x8x384x16 (after hostOps0_8 X (Proc.devRef .tc main_v152_0)) (ix5 t b e c n)
      = Ideal.exp (arr S2x8x2048x384 (X (Proc.devRef .tc main_v121)) (ix4 b e t c)
          * -Ideal.exp (arr S8x384x16 (X (Proc.devRef .tc main_arg11)) (ix3 e c n))) := by
  after_reads_simp
  simp only [arr, id_eq]
  pointwise

theorem gain (b : Fin 2) (e : Fin 8) (t : Fin 2048) (c : Fin 384) (n : Fin 16) :
    arr S2048x2x8x384x16 (after hostOps0_8 X (Proc.devRef .tc main_v152_1)) (ix5 t b e c n)
      = arr S2x8x2048x384 (X (Proc.devRef .tc main_v121)) (ix4 b e t c)
          * arr S8x2x2048x44 (X (Proc.devRef .tc main_v113)) (ix4 e b t ⟨12 + n.val, by omega⟩)
          * arr S2x8x2048x384 (X (Proc.devRef .tc main_v112)) (ix4 b e t c) := by
  after_reads_simp
  simp only [arr, id_eq]
  pointwise

theorem outm (b : Fin 2) (e : Fin 8) (t : Fin 2048) (n : Fin 16) :
    arr S2048x2x8x16 (after hostOps0_8 X (Proc.devRef .tc main_v152_2)) (ix4 t b e n)
      = arr S8x2x2048x44 (X (Proc.devRef .tc main_v113)) (ix4 e b t ⟨28 + n.val, by omega⟩) := by
  after_reads_simp
  simp only [arr, id_eq]
  pointwise

theorem start (b : Fin 2) (e : Fin 8) (c : Fin 384) (n : Fin 16) :
    arr S2x8x384x16 (after hostOps0_8 X (Proc.devRef .tc main_v152_4)) (ix4 b e c n) = 0 := by
  after_reads_simp
  simp only [arr, id_eq]
  pointwise

/-- The last stretch, of the scan's outputs. -/
theorem result (b : Fin 2) (e : Fin 8) (t : Fin 2048) (d : Fin 192) :
    arr S8x2x2048x192 (after hostOps0_9 X (Proc.devRef .tc main_v168)) (ix4 e b t d)
      = ∑ c : Fin 384,
          ((arr S2048x2x8x384 (X (Proc.devRef .tc main_v152_5)) (ix4 t b e c)
            + arr S8x384 (X (Proc.devRef .tc main_arg12)) (ix2 e c)
              * arr S2x8x2048x384 (X (Proc.devRef .tc main_v112)) (ix4 b e t c))
            * Block.silu (arr S8x2x2048x384 (X (Proc.devRef .tc main_v64)) (ix4 e b t c)))
          * arr S8x384x192 (X (Proc.devRef .tc main_arg13)) (ix3 e c d) := by
  unfold Block.silu Ideal.logistic
  after_reads_simp
  simp only [arr, id_eq]
  pointwise

end Cert.ReferenceIdeal.Stretch

end
-- ==== Proof.RefLoop.lean ====
module

public import proofs.«01_k».proof.Proof.RefStretches
public import Idealize.ShloMosaic.Lib.DynamicIndex
public import Idealize.ShloMosaic.Lib.Pipeline.Value

@[expose] public section

/-! The reference's scan: one step at an index, and all the steps. -/

set_option maxRecDepth 16384

noncomputable section

namespace Cert.ReferenceIdeal.Stretch

open Cert.ReferenceIdeal Cert.ReferenceIdeal.Gen Cert.ReferenceIdeal.Value Idealize.ShloMosaic
open Idealize.ShloMosaic.TcCoe
open Idealize.SL Idealize.SL.Sem StableHlo
open Cert.Spec

variable (X : Valuation τ sig (Elt Ideal))

theorem word_toInt (k : Fin 2048) : (BitVec.ofNat 32 k.val).toInt = (k.val : Int) := by
  have := k.isLt
  rw [BitVec.toInt_eq_toNat_of_lt] <;> rw [BitVec.toNat_ofNat, Nat.mod_eq_of_lt (by omega)]
  omega

theorem slices5 (k : Fin 2048) : S2048x2x8x384x16.Slices ![k.val, 0, 0, 0, 0] S1x2x8x384x16 :=
  ⟨rfl, fun a => by
    have := k.isLt
    fin_cases a
    · show k.val + 1 ≤ 2048
      omega
    all_goals exact le_refl _⟩

theorem slices4 (k : Fin 2048) : S2048x2x8x16.Slices ![k.val, 0, 0, 0] S1x2x8x16 :=
  ⟨rfl, fun a => by
    have := k.isLt
    fin_cases a
    · show k.val + 1 ≤ 2048
      omega
    all_goals exact le_refl _⟩

theorem slicesY (k : Fin 2048) : S2048x2x8x384.Slices ![k.val, 0, 0, 0] S1x2x8x384 :=
  ⟨rfl, fun a => by
    have := k.isLt
    fin_cases a
    · show k.val + 1 ≤ 2048
      omega
    all_goals exact le_refl _⟩

variable (k : Fin 2048) (hk : X (Proc.devRef .tc main_v152_3) = fun _ => BitVec.ofNat 32 k.val)

include hk in
theorem step_state (b : Fin 2) (e : Fin 8) (c : Fin 384) (n : Fin 16) :
    arr S2x8x384x16 (res_main_while0b_v192 X) (ix4 b e c n)
      = arr S2048x2x8x384x16 (X (Proc.devRef .tc main_v152_0)) (ix5 k b e c n)
          * arr S2x8x384x16 (X (Proc.devRef .tc main_v152_4)) (ix4 b e c n)
        + arr S2048x2x8x384x16 (X (Proc.devRef .tc main_v152_1)) (ix5 k b e c n) := by
  unfold res_main_while0b_v192
  rw [Host.dynamicSlice_eq_extractStridedSlice _ _ _ ![k.val, 0, 0, 0, 0] _ (slices5 k) (fun a => by
    fin_cases a
    · show ((X (Proc.devRef .tc main_v152_3)) _).toInt = (k.val : Int)
      rw [hk]
      exact word_toInt k
    all_goals rfl)]
  rw [Host.dynamicSlice_eq_extractStridedSlice _ _ _ ![k.val, 0, 0, 0, 0] _ (slices5 k) (fun a => by
    fin_cases a
    · show ((X (Proc.devRef .tc main_v152_3)) _).toInt = (k.val : Int)
      rw [hk]
      exact word_toInt k
    all_goals rfl)]
  simp only [arr]
  pointwise

include hk in
theorem step_out (t : Fin 2048) (b : Fin 2) (e : Fin 8) (c : Fin 384) :
    arr S2048x2x8x384 (step_main_v152_5 X) (ix4 t b e c)
      = if t = k then
          ∑ n : Fin 16, arr S2x8x384x16 (res_main_while0b_v192 X) (ix4 b e c n)
            * arr S2048x2x8x16 (X (Proc.devRef .tc main_v152_2)) (ix4 k b e n)
        else arr S2048x2x8x384 (X (Proc.devRef .tc main_v152_5)) (ix4 t b e c) := by
  unfold step_main_v152_5
  rw [Host.dynamicSlice_eq_extractStridedSlice _ _ _ ![k.val, 0, 0, 0] _ (slices4 k) (fun a => by
    fin_cases a
    · show ((X (Proc.devRef .tc main_v152_3)) _).toInt = (k.val : Int)
      rw [hk]
      exact word_toInt k
    all_goals rfl)]
  rw [Host.dynamicUpdateSlice_eq_updateSlice _ _ _ _ ![k.val, 0, 0, 0] (fun a => by
    fin_cases a
    · show (min (max ((X (Proc.devRef .tc main_v152_3)) _).toInt 0) _).toNat = k.val
      rw [hk, word_toInt]
      have := k.isLt
      show (min (max (k.val : Int) 0) ((2048 - 1 : Nat) : Int)).toNat = k.val
      omega
    all_goals rfl) (slicesY k)]
  simp only [arr, id_eq]
  generalize res_main_while0b_v192 X = H
  pointwise
  by_cases htk : t = k
  · rw [dif_pos (fun a => by
      subst htk
      have hb := b.isLt
      have he := e.isLt
      have hc := c.isLt
      fin_cases a
      · exact ⟨le_refl _, Nat.lt_succ_self _⟩
      · exact ⟨Nat.zero_le _, by show b.val < 0 + 2; omega⟩
      · exact ⟨Nat.zero_le _, by show e.val < 0 + 8; omega⟩
      · exact ⟨Nat.zero_le _, by show c.val < 0 + 384; omega⟩), if_pos htk]
  · rw [dif_neg (fun h => htk (Fin.ext (by
      have h0 : k.val ≤ t.val ∧ t.val < k.val + 1 := h (0 : Fin 4)
      omega))), if_neg htk]

omit hk k in
/-- The state of the reference's recurrence after `j` tokens, from the arrays the loop reads. -/
def scan (b : Fin 2) (e : Fin 8) (c : Fin 384) (n : Fin 16) (j : ℕ) : EReal :=
  Scan.rec'
    (fun s => arr S2048x2x8x384x16 (X (Proc.devRef .tc main_v152_0)) (ix5 (Block.tok s) b e c n))
    (fun s => arr S2048x2x8x384x16 (X (Proc.devRef .tc main_v152_1)) (ix5 (Block.tok s) b e c n))
    (arr S2x8x384x16 (X (Proc.devRef .tc main_v152_4)) (ix4 b e c n)) j

/-- What the loop's buffers hold after `j` steps. -/
structure After (j : ℕ) (Y : Valuation τ sig (Elt Ideal)) : Prop where
  ctr : Y (Proc.devRef .tc main_v152_3) = fun _ => BitVec.ofNat 32 j
  keeps : Y (Proc.devRef .tc main_v152_0) = X (Proc.devRef .tc main_v152_0)
  gains : Y (Proc.devRef .tc main_v152_1) = X (Proc.devRef .tc main_v152_1)
  outs : Y (Proc.devRef .tc main_v152_2) = X (Proc.devRef .tc main_v152_2)
  states : ∀ (b : Fin 2) (e : Fin 8) (c : Fin 384) (n : Fin 16),
    arr S2x8x384x16 (Y (Proc.devRef .tc main_v152_4)) (ix4 b e c n) = scan X b e c n j
  rows : ∀ (t : Fin 2048), t.val < j → ∀ (b : Fin 2) (e : Fin 8) (c : Fin 384),
    arr S2048x2x8x384 (Y (Proc.devRef .tc main_v152_5)) (ix4 t b e c)
      = ∑ n : Fin 16, scan X b e c n (t.val + 1)
          * arr S2048x2x8x16 (X (Proc.devRef .tc main_v152_2)) (ix4 t b e n)

omit hk in
theorem After.step {Y : Valuation τ sig (Elt Ideal)} (h : After X k.val Y) :
    After X (k.val + 1) (STEP Y) := by
  have hs (b : Fin 2) (e : Fin 8) (c : Fin 384) (n : Fin 16) :
      arr S2x8x384x16 (res_main_while0b_v192 Y) (ix4 b e c n) = scan X b e c n (k.val + 1) := by
    rw [step_state Y k h.ctr, h.keeps, h.gains, h.states]
    show _ = arr S2048x2x8x384x16 _ (ix5 (Block.tok k.val) b e c n) * scan X b e c n k.val
      + arr S2048x2x8x384x16 _ (ix5 (Block.tok k.val) b e c n)
    rw [Block.tok_val]
  refine ⟨?_, ?_, ?_, ?_, ?_, ?_⟩
  · rw [STEP_main_v152_3]
    unfold step_main_v152_3
    rw [h.ctr]
    funext i
    show BitVec.ofNat 32 k.val + 1#32 = _
    rw [BitVec.ofNat_add]
  · rw [STEP_main_v152_0, h.keeps]
  · rw [STEP_main_v152_1, h.gains]
  · rw [STEP_main_v152_2, h.outs]
  · intro b e c n
    rw [STEP_main_v152_4]
    exact hs b e c n
  · intro t ht b e c
    rw [STEP_main_v152_5, step_out Y k h.ctr, h.outs]
    by_cases htk : t = k
    · subst htk
      rw [if_pos rfl]
      exact Finset.sum_congr rfl fun n _ => by rw [hs]
    · rw [if_neg htk, h.rows t (by
        have : t.val ≠ k.val := fun h => htk (Fin.ext h)
        omega)]

omit k hk in
theorem after_steps (h0 : X (Proc.devRef .tc main_v152_3) = fun _ => 0#32) :
    ∀ j, j ≤ 2048 → After X j (STEP^[j] X)
  | 0, _ => ⟨h0, rfl, rfl, rfl, fun _ _ _ _ => rfl, fun _ h => absurd h (Nat.not_lt_zero _)⟩
  | j + 1, hj => by
    rw [Function.iterate_succ_apply']
    exact After.step X ⟨j, by omega⟩ (after_steps h0 j (by omega))

end Cert.ReferenceIdeal.Stretch

end
-- ==== Proof.RefRoute.lean ====
module

public import proofs.«01_k».proof.Proof.RefStretches
public import proofs.«01_k».proof.Proof.RoutedBlock
public import proofs.«01_k».proof.Proof.HostOps

@[expose] public section

/-! How the reference routes: who is chosen, the order of the tokens per expert, the rows taken in that order, and the
    rows put back. -/

set_option maxRecDepth 16384

noncomputable section

namespace Cert.ReferenceIdeal.Stretch

open Cert.ReferenceIdeal Cert.ReferenceIdeal.Gen Cert.ReferenceIdeal.Value Idealize.ShloMosaic
open Idealize.ShloMosaic.TcCoe
open Idealize.SL Idealize.SL.Sem StableHlo
open Cert.Choice Cert.HostOps Cert.Order

abbrev ints (s : Shape) (f : IVec s 32) (i : s.Idx) : BitVec 32 := f i

variable (X : Valuation τ sig (Elt Ideal))

/-- The gate probabilities, and the choice they make. -/
abbrev probs : FVec Ideal S2x2048x8 .f32 := after hostOps0 X (Proc.devRef .tc main_v37)
abbrev pick : Pick := picks (probs X)

theorem indices_eq (b : Fin 2) (t : Fin 2048) (q : Fin 2) :
    ints S2x2048x2 (after hostOps0 X (Proc.devRef .tc main_indices)) (ix3 b t q) = BitVec.ofNat 32 (pick X b t q).val := by
  refine Eq.trans ?_ (picks_eq (probs X) b t q)
  refine congrFun ?_ _
  unfold probs
  after_reads_simp

theorem ones (b : Fin 2) (t : Fin 2048) (q : Fin 2) (e : Fin 8) (n : Fin 8)
    (hi : ints S2x2048x2 (X (Proc.devRef .tc main_indices)) (ix3 b t q) = BitVec.ofNat 32 n.val) :
    arr S2x2048x2x8 (after hostOps0_1 X (Proc.devRef .tc main_v38)) (ix4 b t q e) = if n = e then 1 else 0 := by
  after_reads_simp
  simp -implicitDefEqProofs only [TRef.toBuf, TRef.ofBuf, cast_cast, cast_eq, arr, ints] at hi ⊢
  pointwise
  rw [hi]
  by_cases h : n = e
  · rw [if_pos h, h]
    show ((IntOp.cmpi .eq (BitVec.ofNat 32 e.val) (BitVec.ofNat 32 e.val)).toNat : EReal) = 1
    simp [IntOp.cmpi]
  · rw [if_neg h]
    have hne : BitVec.ofNat 32 n.val ≠ BitVec.ofNat 32 e.val := fun hw => h (Fin.ext (by
      have := congrArg BitVec.toNat hw
      simp only [BitVec.toNat_ofNat] at this
      omega))
    show ((IntOp.cmpi .eq (BitVec.ofNat 32 n.val) (BitVec.ofNat 32 e.val)).toNat : EReal) = 0
    simp [IntOp.cmpi, hne]

theorem routed (b : Fin 2) (t : Fin 2048) (e : Fin 8) :
    arr S2x2048x8 (after hostOps0_2 X (Proc.devRef .tc main_v39)) (ix3 b t e)
      = ∑ q : Fin 2, arr S2x2048x2x8 (X (Proc.devRef .tc main_v38)) (ix4 b t q e) := by
  after_reads_simp
  simp -implicitDefEqProofs only [TRef.toBuf, TRef.ofBuf, cast_cast, cast_eq, arr]
  pointwise

theorem gates (b : Fin 2) (t : Fin 2048) (e : Fin 8) :
    arr S2x8x2048 (after hostOps0_2 X (Proc.devRef .tc main_v51)) (ix3 b e t)
      = arr S2x2048x8 (X (Proc.devRef .tc main_v37)) (ix3 b t e)
        * arr S2x2048x8 (after hostOps0_2 X (Proc.devRef .tc main_v39)) (ix3 b t e) := by
  after_reads_simp
  simp -implicitDefEqProofs only [TRef.toBuf, TRef.ofBuf, cast_cast, cast_eq, arr]
  pointwise

theorem keys (b : Fin 2) (t : Fin 2048) (e : Fin 8) (P : Prop) [Decidable P]
    (h : arr S2x2048x8 (after hostOps0_2 X (Proc.devRef .tc main_v39)) (ix3 b t e) = if P then 1 else 0) :
    arr S2x8x2048 (after hostOps0_2 X (Proc.devRef .tc main_v53)) (ix3 b e t) = if P then 0 else 1 := by
  revert h
  after_reads_simp
  intro h
  simp -implicitDefEqProofs only [TRef.toBuf, TRef.ofBuf, cast_cast, cast_eq, arr] at h ⊢
  have key : ∀ x : EReal, x = (if P then 1 else 0) → (1 : EReal) - x = if P then 0 else 1 := by
    rintro x rfl
    by_cases hP : P
    · rw [if_pos hP, if_pos hP]
      exact EReal.sub_self (by decide) (by decide)
    · rw [if_neg hP, if_neg hP]
      exact sub_zero _
  refine Eq.trans ?_ (key _ h)
  pointwise

/-- The comparison of two keys. -/
theorem less (P P' : Prop) [Decidable P] [Decidable P'] (i j : BitVec 32) :
    (comparator_f32_i32_d2 (F := Ideal) ((if P then 0 else 1 : EReal), i) ((if P' then 0 else 1 : EReal), j) == 1#1) = true
      ↔ (if P then 0 else 1 : ℕ) < (if P' then 0 else 1 : ℕ) := by
  have z : FloatOps.ofBits (F := Ideal) .f32 0x00000000#32 = (0 : EReal) := by
    show Ideal.ofBits .f32 0x00000000#32 = 0
    simp [Ideal.ofBits, Ideal.ieee]
  have eq (x y : EReal) : FloatOps.cmpf (F := Ideal) (φ := .f32) .oeq x y = BitVec.ofBool (decide (x = y)) := rfl
  have ne (x y : EReal) : FloatOps.cmpf (F := Ideal) (φ := .f32) .une x y = BitVec.ofBool (decide (x ≠ y)) := rfl
  have lt (x y : EReal) : FloatOps.cmpfTotal (F := Ideal) (φ := .f32) .lt x y = BitVec.ofBool (decide (x < y)) := rfl
  unfold comparator_f32_i32_d2
  dsimp only
  rw [z]
  simp only [eq, ne, lt]
  have not_one : ¬ (1 : EReal) < 0 := not_lt.2 zero_le_one
  by_cases h : P <;> by_cases h' : P' <;> simp [Scalar.select, h, h', not_one]

/-- The comparison of two positions by their keys. -/
def before (p : Pick) (b : Fin 2) (e : Fin 8) (k k' : Fin 2048) : Bool :=
  comparator_f32_i32_d2 (F := Ideal) ((if Chosen p b e k.val then 0 else 1 : EReal), BitVec.ofNat 32 k.val)
    ((if Chosen p b e k'.val then 0 else 1 : EReal), BitVec.ofNat 32 k'.val) == 1#1

theorem before_iff (p : Pick) (b : Fin 2) (e : Fin 8) (k k' : Fin 2048) :
    before p b e k k' = true ↔ key (Chosen p b e) k < key (Chosen p b e) k' := less _ _ _ _

theorem tok_eq (p : Pick) (b : Fin 2) (e : Fin 8) (j : Fin 2048) : Choice.tok p b e j = sortedFrom (before p b e) j := by
  have h : spot p b e (sortedFrom (before p b e) j) = j := place_sorted_key _ _ (before_iff p b e) j
  rw [← tok_spot p b e (sortedFrom (before p b e) j), h]

theorem perm (p : Pick) (b : Fin 2) (e : Fin 8) (j : Fin 2048)
    (hk : ∀ t : Fin 2048, arr S2x8x2048 (X (Proc.devRef .tc main_v53)) (ix3 b e t) = if Chosen p b e t.val then 0 else 1) :
    ints S2x8x2048 (after hostOps0_3 X (Proc.devRef .tc main_v54)) (ix3 b e j) = BitVec.ofNat 32 (Choice.tok p b e j).val := by
  rw [tok_eq]
  after_reads_simp
  simp -implicitDefEqProofs only [TRef.toBuf, TRef.ofBuf, cast_cast, cast_eq, arr, ints] at hk ⊢
  refine (argsort_at _ _ _ (fun b e t => by pointwise) b e j).trans ?_
  simp only [hk]
  rfl

/-- The sort of the order gives each token's place. -/
theorem back (p : Pick) (b : Fin 2) (e : Fin 8) (t : Fin 2048)
    (ho : ∀ j : Fin 2048, ints S2x8x2048 (X (Proc.devRef .tc main_v54)) (ix3 b e j) = BitVec.ofNat 32 (Choice.tok p b e j).val) :
    ints S2x8x2048 (after hostOps0_10 X (Proc.devRef .tc main_v169)) (ix3 b e t) = BitVec.ofNat 32 (spot p b e t).val := by
  after_reads_simp
  simp -implicitDefEqProofs only [TRef.toBuf, TRef.ofBuf, cast_cast, cast_eq, ints] at ho ⊢
  refine (argsort_at _ _ _ (fun b e t => by pointwise) b e t).trans ?_
  refine congrArg (fun i : Fin 2048 => BitVec.ofNat 32 i.val)
    (sorted_sorted (Chosen p b e) (before p b e) _ (before_iff p b e) (fun k k' => ?_) t)
  rw [ho, ho, tok_eq, tok_eq]
  generalize sortedFrom (before p b e) k = n
  generalize sortedFrom (before p b e) k' = n'
  have h1 : (BitVec.ofNat 32 n.val).toInt = (n.val : Int) := StableHlo.Predicate.toInt_ofNat_small _ (by omega)
  have h2 : (BitVec.ofNat 32 n'.val).toInt = (n'.val : Int) := StableHlo.Predicate.toInt_ofNat_small _ (by omega)
  show (BitVec.ofBool (BitVec.slt (BitVec.ofNat 32 n.val) (BitVec.ofNat 32 n'.val)) == 1#1) = true ↔ _
  simp only [BitVec.slt, h1, h2, Nat.cast_lt]
  by_cases h : n.val < n'.val <;> simp [h]

/-- A number below 2048 stays when read as an index of an axis of 2048. -/
theorem wrap (n : Fin 2048) :
    Scalar.select (IntOp.cmpi .slt (BitVec.ofNat 32 n.val) 0#32) (IntOp.addi (BitVec.ofNat 32 n.val) 2048#32) (BitVec.ofNat 32 n.val)
      = BitVec.ofNat 32 n.val := by
  have h1 : (BitVec.ofNat 32 n.val).toInt = (n.val : Int) := StableHlo.Predicate.toInt_ofNat_small _ (by omega)
  have h2 : BitVec.slt (BitVec.ofNat 32 n.val) 0#32 = false := by
    simp only [BitVec.slt, h1]
    simp
  simp only [IntOp.cmpi, h2]
  rfl

theorem rows (b : Fin 2) (e : Fin 8) (j : Fin 2048) (k : Fin 192) (i : Fin 2048)
    (hp : ints S2x8x2048 (X (Proc.devRef .tc main_v54)) (ix3 b e j) = BitVec.ofNat 32 i.val) :
    arr S2x8x2048x192 (after hostOps0_4 X (Proc.devRef .tc main_v61)) (ix4 b e j k)
      = arr S2x2048x192 (X (Proc.devRef .tc main_v25)) (ix3 b i k) := by
  after_reads_simp
  simp -implicitDefEqProofs only [TRef.toBuf, TRef.ofBuf, cast_cast, cast_eq, ints, arr] at hp ⊢
  refine take_tokens _ _ _ b e j k i ?_
  pointwise
  rw [hp]
  exact wrap i

/-- The rows put back in the tokens' order, by the gates, over all experts. -/
theorem sum_rows (b : Fin 2) (t : Fin 2048) (k : Fin 192) (p : Fin 8 → Fin 2048)
    (hp : ∀ e, ints S2x8x2048 (X (Proc.devRef .tc main_v169)) (ix3 b e t) = BitVec.ofNat 32 (p e).val) :
    arr S2x2048x192 (after hostOps0_11 X (Proc.devRef .tc main_v185)) (ix3 b t k)
      = arr S2x2048x192 (X (Proc.devRef .tc main_v1)) (ix3 b t k)
        + arr S192 (X (Proc.devRef .tc main_arg3)) (ix1 k)
          * ∑ e, arr S2x8x2048 (X (Proc.devRef .tc main_v51)) (ix3 b e t)
              * arr S8x2x2048x192 (X (Proc.devRef .tc main_v168)) (ix4 e b (p e) k) := by
  after_reads_simp
  simp -implicitDefEqProofs only [TRef.toBuf, TRef.ofBuf, cast_cast, cast_eq, ints, arr] at hp ⊢
  pointwise
  refine congrArg _ (congrArg _ (Finset.sum_congr rfl fun e _ => congrArg _ ?_))
  refine (take_rows _ _ _ b e t k (p e) ?_).trans ?_
  · pointwise
    rw [hp]
    exact wrap (p e)
  · pointwise

theorem final : after hostOps0_11 X (Proc.devRef .tc main_v187)
    = transpose S2x192x16x16x8 [0, 4, 1, 2, 3] (shapeCast S2x16x16x8x192 (after hostOps0_11 X (Proc.devRef .tc main_v185)) (by decide)) (by decide) := by
  after_reads_simp
  rfl

end Cert.ReferenceIdeal.Stretch

end
-- ==== Proof.RefValue.lean ====
module

public import proofs.«01_k».proof.Proof.RefLoop
public import proofs.«01_k».proof.Proof.RefRoute

@[expose] public section

/-! The reference's result array, at every index. -/

set_option maxRecDepth 16384

noncomputable section

namespace Cert.ReferenceIdeal.Stretch

open Cert.ReferenceIdeal Cert.ReferenceIdeal.Gen Cert.ReferenceIdeal.Value Idealize.ShloMosaic
open Idealize.ShloMosaic.TcCoe
open Idealize.SL Idealize.SL.Sem StableHlo
open Cert.Spec

variable (X : Valuation τ sig (Elt Ideal))

/-! What each stretch leaves alone. -/

theorem keep0 (r : Ref sig .tc) (h : r ∉ hostOps0_4_W) :
    after hostOps0_4 X (Proc.devRef .tc r) = X (Proc.devRef .tc r) :=
  after_of_writes_sub hostOps0_4 X hostOps0_4_writes h

theorem keep1 (r : Ref sig .tc) (h : r ∉ hostOps0_5_W) :
    after hostOps0_5 X (Proc.devRef .tc r) = X (Proc.devRef .tc r) :=
  after_of_writes_sub hostOps0_5 X hostOps0_5_writes h

theorem keep2 (r : Ref sig .tc) (h : r ∉ hostOps0_6_W) :
    after hostOps0_6 X (Proc.devRef .tc r) = X (Proc.devRef .tc r) :=
  after_of_writes_sub hostOps0_6 X hostOps0_6_writes h

theorem keep3 (r : Ref sig .tc) (h : r ∉ hostOps0_7_W) :
    after hostOps0_7 X (Proc.devRef .tc r) = X (Proc.devRef .tc r) :=
  after_of_writes_sub hostOps0_7 X hostOps0_7_writes h

theorem keep4 (r : Ref sig .tc) (h : r ∉ hostOps0_8_W) :
    after hostOps0_8 X (Proc.devRef .tc r) = X (Proc.devRef .tc r) :=
  after_of_writes_sub hostOps0_8 X hostOps0_8_writes h

/-- The references `hostOps0_9` writes. -/
abbrev lastW9 : List (Ref sig .tc) := [main_v153, main_v154, main_v155, main_v156, main_v157, main_v158, main_v159,
  main_v160, main_cst_22, main_v161, main_v162, main_cst_23, main_v163, main_v164, main_v165, main_v166, main_v167,
  main_v168]

theorem last_writes9 : (hostOps0_9 : List (HloOp τ sig (Elt Ideal))).Forall fun op =>
    op.writes ⊆ (lastW9.map (Proc.devRef (τ := τ) .tc)).toFinset :=
  StableHlo.forall_writes_sub_of_map rfl

theorem keepL9 (r : Ref sig .tc) (h : r ∉ lastW9) :
    after hostOps0_9 X (Proc.devRef .tc r) = X (Proc.devRef .tc r) :=
  after_of_writes_sub hostOps0_9 X last_writes9 h

/-- The references `hostOps0_10` writes. -/
abbrev lastW10 : List (Ref sig .tc) := [main_call8_v0, main_call8_v1, main_call8_v2, main_call8_v3_0, main_v169]

theorem last_writes10 : (hostOps0_10 : List (HloOp τ sig (Elt Ideal))).Forall fun op =>
    op.writes ⊆ (lastW10.map (Proc.devRef (τ := τ) .tc)).toFinset :=
  StableHlo.forall_writes_sub_of_map rfl

theorem keepL10 (r : Ref sig .tc) (h : r ∉ lastW10) :
    after hostOps0_10 X (Proc.devRef .tc r) = X (Proc.devRef .tc r) :=
  after_of_writes_sub hostOps0_10 X last_writes10 h

/-- The references `hostOps0_11` writes. -/
abbrev lastW11 : List (Ref sig .tc) := [main_v170, main_c_24, main_v171, main_v172, main_c_25, main_v173, main_v174,
  main_v175, main_v176, main_v177, main_v178, main_v179, main_v180, main_cst_26, main_v181, main_v182, main_v183,
  main_v184, main_v185, main_v186, main_v187]

theorem last_writes11 : (hostOps0_11 : List (HloOp τ sig (Elt Ideal))).Forall fun op =>
    op.writes ⊆ (lastW11.map (Proc.devRef (τ := τ) .tc)).toFinset :=
  StableHlo.forall_writes_sub_of_map rfl

theorem keepL11 (r : Ref sig .tc) (h : r ∉ lastW11) :
    after hostOps0_11 X (Proc.devRef .tc r) = X (Proc.devRef .tc r) :=
  after_of_writes_sub hostOps0_11 X last_writes11 h

theorem keepC (r : Ref sig .tc) (h : r ∉ condOps_W) :
    after condOps X (Proc.devRef .tc r) = X (Proc.devRef .tc r) :=
  after_of_writes_sub condOps X condOps_writes h

/-- The references a step of the loop writes. -/
abbrev stepW : List (Ref sig .tc) :=
  condOps_W ++ while0Ops0_W ++ while0Ops0_1_W ++ while0Ops0_2_W ++ while0Ops0_3_W
    ++ while0Ops0_4_W ++ while0Ops0_5_W

theorem keepStep (r : Ref sig .tc) (h : r ∉ stepW) :
    afterL bodyI (after condOps X) (Proc.devRef .tc r) = X (Proc.devRef .tc r) := by
  simp only [stepW, List.mem_append, not_or] at h
  obtain ⟨⟨⟨⟨⟨⟨hc, h0⟩, h1⟩, h2⟩, h3⟩, h4⟩, h5⟩ := h
  simp only [afterL_cons, afterL_nil]
  rw [after_of_writes_sub while0Ops0_5 _ while0Ops0_5_writes h5,
    after_of_writes_sub while0Ops0_4 _ while0Ops0_4_writes h4,
    after_of_writes_sub while0Ops0_3 _ while0Ops0_3_writes h3,
    after_of_writes_sub while0Ops0_2 _ while0Ops0_2_writes h2,
    after_of_writes_sub while0Ops0_1 _ while0Ops0_1_writes h1,
    after_of_writes_sub while0Ops0 _ while0Ops0_writes h0, keepC X r hc]

variable (m : (ℓ : Loc nD τ sig) → Buf (Elt Ideal) ℓ) (c : Dev nD)

theorem keepLoop (r : Ref sig .tc) (h : r ∉ stepW) :
    ∀ k, atK m k c (Proc.devRef .tc r) = entryContents preI m c (Proc.devRef .tc r)
  | 0 => rfl
  | k + 1 => (keepStep (atK m k c) r h).trans (keepLoop r h k)

/-! The stretches before the experts' blocks. -/

abbrev q1 : Valuation τ sig (Elt Ideal) := after hostOps0 X
abbrev q3 : Valuation τ sig (Elt Ideal) := after hostOps0_2 (after hostOps0_1 (q1 X))
abbrev q4 : Valuation τ sig (Elt Ideal) := after hostOps0_3 (q3 X)

theorem keepQ (r : Ref sig .tc) (h1 : r ∉ hostOps0_1_W) (h2 : r ∉ hostOps0_2_W) (h3 : r ∉ hostOps0_3_W) :
    q4 X (Proc.devRef .tc r) = q1 X (Proc.devRef .tc r) :=
  (after_of_writes_sub hostOps0_3 _ hostOps0_3_writes h3).trans
    ((after_of_writes_sub hostOps0_2 _ hostOps0_2_writes h2).trans (after_of_writes_sub hostOps0_1 _ hostOps0_1_writes h1))

theorem keepA (r : Ref sig .tc) (h : r ∉ hostOps0_W ++ hostOps0_1_W ++ hostOps0_2_W ++ hostOps0_3_W) :
    q4 X (Proc.devRef .tc r) = X (Proc.devRef .tc r) := by
  simp only [List.mem_append, not_or] at h
  obtain ⟨⟨⟨h0, h1⟩, h2⟩, h3⟩ := h
  exact (keepQ X r h1 h2 h3).trans (after_of_writes_sub hostOps0 X hostOps0_writes h0)

/-- The contents at the start of the experts' blocks, and after the loop. -/
abbrev mid : Valuation τ sig (Elt Ideal) := q4 (launchContents m c)
abbrev exitC : Valuation τ sig (Elt Ideal) := after condOps (atK m 2048 c)

theorem entry_eq : entryContents preI m c
    = after hostOps0_8 (after hostOps0_7 (after hostOps0_6 (after hostOps0_5 (after hostOps0_4 (mid m c))))) := by
  simp only [entryContents, afterL_cons, afterL_nil]

theorem final_eq : finalContents condOps preI bodyI postI 2048 m c
    = after hostOps0_11 (after hostOps0_10 (after hostOps0_9 (exitC m c))) := by
  simp only [finalContents, afterL_cons, afterL_nil]

/-- What neither the blocks' stretches nor the loop write. -/
theorem exit_keep (r : Ref sig .tc)
    (hp : r ∉ hostOps0_4_W ++ hostOps0_5_W ++ hostOps0_6_W ++ hostOps0_7_W ++ hostOps0_8_W) (hs : r ∉ stepW) :
    exitC m c (Proc.devRef .tc r) = mid m c (Proc.devRef .tc r) := by
  simp only [List.mem_append, not_or] at hp
  obtain ⟨⟨⟨⟨h4, h5⟩, h6⟩, h7⟩, h8⟩ := hp
  have hc : r ∉ condOps_W := fun h => hs (by simp only [stepW, List.mem_append]; simp only [h, true_or])
  refine (keepC _ r hc).trans ((keepLoop m c r hs 2048).trans ?_)
  rw [entry_eq]
  exact (keep4 _ r h8).trans ((keep3 _ r h7).trans ((keep2 _ r h6).trans ((keep1 _ r h5).trans (keep0 _ r h4))))

/-- An array that nothing writes. -/
theorem kept (r : Ref sig .tc) (hq : r ∉ hostOps0_W ++ hostOps0_1_W ++ hostOps0_2_W ++ hostOps0_3_W)
    (hp : r ∉ hostOps0_4_W ++ hostOps0_5_W ++ hostOps0_6_W ++ hostOps0_7_W ++ hostOps0_8_W)
    (hs : r ∉ stepW) (hl : r ∉ lastW9 ++ lastW10 ++ lastW11) :
    finalContents condOps preI bodyI postI 2048 m c (Proc.devRef .tc r)
      = launchContents m c (Proc.devRef .tc r) := by
  simp only [List.mem_append, not_or] at hl
  obtain ⟨⟨h9, h10⟩, h11⟩ := hl
  rw [final_eq]
  exact (keepL11 _ r h11).trans ((keepL10 _ r h10).trans ((keepL9 _ r h9).trans
    ((exit_keep m c r hp hs).trans (keepA _ r hq))))

/-! The stretches before the loop, of the arguments. -/

abbrev s1 : Valuation τ sig (Elt Ideal) := after hostOps0_4 X
/-- The block of sequence `b` and expert `e`, of the rows taken and the expert's weights, with gates `g`. -/
def slots (g : Fin 2048 → EReal) (b : Fin 2) (e : Fin 8) : Block :=
  blockAt (s1 X (Proc.devRef .tc main_v61)) (fun i => g (i 2))
    (X (Proc.devRef .tc main_arg5)) (X (Proc.devRef .tc main_arg6)) (X (Proc.devRef .tc main_arg7))
    (X (Proc.devRef .tc main_arg8)) (X (Proc.devRef .tc main_arg9)) (X (Proc.devRef .tc main_arg10))
    (X (Proc.devRef .tc main_arg11)) (X (Proc.devRef .tc main_arg12))
    (X (Proc.devRef .tc main_arg13)) b e

abbrev s2 : Valuation τ sig (Elt Ideal) := after hostOps0_5 (s1 X)
abbrev s3 : Valuation τ sig (Elt Ideal) := after hostOps0_6 (s2 X)
abbrev s4 : Valuation τ sig (Elt Ideal) := after hostOps0_7 (s3 X)
abbrev s5 : Valuation τ sig (Elt Ideal) := after hostOps0_8 (s4 X)

theorem s1_keep (r : Ref sig .tc) (h0 : r ∉ hostOps0_4_W) :
    s1 X (Proc.devRef .tc r) = X (Proc.devRef .tc r) := keep0 _ r h0

theorem s2_keep (r : Ref sig .tc) (h0 : r ∉ hostOps0_4_W) (h1 : r ∉ hostOps0_5_W) :
    s2 X (Proc.devRef .tc r) = X (Proc.devRef .tc r) := (keep1 _ r h1).trans (keep0 _ r h0)

theorem s4_keep (r : Ref sig .tc) (h : r ∉ hostOps0_7_W) :
    s4 X (Proc.devRef .tc r) = s3 X (Proc.devRef .tc r) := keep3 _ r h

theorem s5_keep (r : Ref sig .tc) (h : r ∉ hostOps0_7_W) (h' : r ∉ hostOps0_8_W) :
    s5 X (Proc.devRef .tc r) = s3 X (Proc.devRef .tc r) := (keep4 _ r h').trans (keep3 _ r h)

theorem s3_keep (r : Ref sig .tc) (h1 : r ∉ hostOps0_5_W) (h2 : r ∉ hostOps0_6_W) :
    s3 X (Proc.devRef .tc r) = s1 X (Proc.devRef .tc r) := (keep2 _ r h2).trans (keep1 _ r h1)

variable (g : Fin 2048 → EReal) (b : Fin 2) (e : Fin 8) (t : Fin 2048) (d : Fin 384)

theorem at_xin : arr S8x2x2048x384 (s1 X (Proc.devRef .tc main_v63)) (ix4 e b t d)
    = (slots X g b e).xin t d := proj1 X b e t d

theorem at_zin : arr S8x2x2048x384 (s1 X (Proc.devRef .tc main_v64)) (ix4 e b t d)
    = (slots X g b e).zin t d := proj2 X b e t d

theorem at_lag (j : ℕ) (hj : j ≤ 3) (q : Fin 2051) (hq : q.val = 3 - j + t.val) :
    arr S8x2x2051x384 (s2 X (Proc.devRef .tc main_v65)) (ix4 e b q d)
      = (slots X g b e).lag j t d := by
  rw [padded]
  unfold Block.lag
  by_cases h : t.val < j
  · rw [dif_pos h, dif_pos (by omega)]
  · rw [dif_neg h, dif_neg (by omega), at_xin]
    congr 1
    exact Fin.ext (by show q.val - 3 = t.val - j; omega)

theorem lag_zero (B : Block) : B.lag 0 t d = B.xin t d := by
  unfold Block.lag
  rw [dif_neg (Nat.not_lt_zero _)]
  rfl

theorem at_conv : arr S2x8x2048x384 (s3 X (Proc.devRef .tc main_v105)) (ix4 b e t d)
    = (slots X g b e).conv t d := by
  rw [conv, at_lag X g b e t d 3 (by omega) ⟨t.val, _⟩ (by show t.val = _; omega),
    at_lag X g b e t d 2 (by omega) ⟨1 + t.val, _⟩ rfl,
    at_lag X g b e t d 1 (by omega) ⟨2 + t.val, _⟩ rfl,
    at_lag X g b e t d 0 (by omega) ⟨3 + t.val, _⟩ rfl, lag_zero,
    s2_keep X main_arg6 (by decide +kernel) (by decide +kernel),
    s2_keep X main_arg7 (by decide +kernel) (by decide +kernel)]
  rfl

theorem at_xc : arr S2x8x2048x384 (s3 X (Proc.devRef .tc main_v112)) (ix4 b e t d)
    = (slots X g b e).xc t d := by
  rw [act, at_conv]
  rfl

theorem at_dbl (j : Fin 44) : arr S8x2x2048x44 (s3 X (Proc.devRef .tc main_v113)) (ix4 e b t j)
    = (slots X g b e).dbl t j := by
  rw [dbl, s2_keep X main_arg8 (by decide +kernel) (by decide +kernel)]
  exact Finset.sum_congr rfl fun i _ => by rw [at_xc]; rfl

theorem at_dtin : arr S2x8x2048x384 (s3 X (Proc.devRef .tc main_v120)) (ix4 b e t d)
    = (slots X g b e).dtin t d := by
  rw [dtin, s2_keep X main_arg9 (by decide +kernel) (by decide +kernel),
    s2_keep X main_arg10 (by decide +kernel) (by decide +kernel)]
  exact congrArg₂ (· + ·) (Finset.sum_congr rfl fun i _ => by rw [at_dbl X g]; rfl) rfl

theorem at_dt : arr S2x8x2048x384 (s4 X (Proc.devRef .tc main_v121)) (ix4 b e t d)
    = (slots X g b e).dt t d := by
  rw [dt, at_dtin]
  rfl

theorem at_keep (n : Fin 16) :
    arr S2048x2x8x384x16 (s5 X (Proc.devRef .tc main_v152_0)) (ix5 t b e d n)
      = (slots X g b e).keep d n t.val := by
  rw [keep, at_dt, s4_keep X main_arg11 (by decide +kernel), s3_keep X main_arg11 (by decide +kernel) (by decide +kernel),
    s1_keep X main_arg11 (by decide +kernel)]
  unfold Block.keep
  rw [Block.tok_val]
  rfl

theorem at_gain (n : Fin 16) :
    arr S2048x2x8x384x16 (s5 X (Proc.devRef .tc main_v152_1)) (ix5 t b e d n)
      = (slots X g b e).gain d n t.val := by
  rw [gain, at_dt, s4_keep X main_v113 (by decide +kernel), s4_keep X main_v112 (by decide +kernel),
    at_dbl, at_xc]
  unfold Block.gain
  rw [Block.tok_val, mul_assoc, mul_assoc]
  congr 1
  exact mul_comm _ _

theorem at_out (n : Fin 16) :
    arr S2048x2x8x16 (s5 X (Proc.devRef .tc main_v152_2)) (ix4 t b e n)
      = (slots X g b e).cs t n := by
  rw [outm, s4_keep X main_v113 (by decide +kernel), at_dbl]
  rfl

/-- The loop's recurrence, from the arrays it is entered with. -/
theorem at_scan (n : Fin 16) (j : ℕ) : scan (s5 X) b e d n j = (slots X g b e).state d n j := by
  unfold scan Block.state
  rw [start]
  refine Scan.rec'_congr _ _ (fun s _ => ?_) (fun s _ => ?_)
  · rw [at_keep]
    unfold Block.keep
    rw [Block.tok_val]
  · rw [at_gain]
    unfold Block.gain
    rw [Block.tok_val]

/-! The loop and what follows it. -/

theorem at_y : arr S2048x2x8x384 (atK m 2048 c (Proc.devRef .tc main_v152_5)) (ix4 t b e d)
    = (slots (mid m c) g b e).y t d := by
  have h := (after_steps (entryContents preI m c) (ctr_entry m c) 2048 (le_refl _)).rows t t.isLt b e d
  rw [← atK_agree m c 2048 main_v152_5 (by decide)] at h
  rw [h]
  unfold Block.y
  exact Finset.sum_congr rfl fun n _ => by
    rw [← at_scan, ← at_out]
    rfl

/-- A buffer the loop leaves alone, after it. -/
theorem end_s5 (r : Ref sig .tc) (h : r ∉ stepW) :
    exitC m c (Proc.devRef .tc r) = s5 (mid m c) (Proc.devRef .tc r) := by
  have hc : r ∉ condOps_W := fun h' => h (by
    simp only [stepW, List.mem_append]; simp only [h', true_or])
  refine (keepC _ r hc).trans ((keepLoop m c r h 2048).trans ?_)
  rw [entry_eq]

theorem end_y : arr S2048x2x8x384 (exitC m c (Proc.devRef .tc main_v152_5))
    (ix4 t b e d) = (slots (mid m c) g b e).y t d := by
  refine Eq.trans (congrFun (keepC _ main_v152_5 (by decide +kernel)) _) ?_
  exact at_y m c g b e t d

theorem end_xc : arr S2x8x2048x384 (exitC m c (Proc.devRef .tc main_v112))
    (ix4 b e t d) = (slots (mid m c) g b e).xc t d := by
  rw [end_s5 m c main_v112 (by decide +kernel), s5_keep _ main_v112 (by decide +kernel) (by decide +kernel)]
  exact at_xc _ g b e t d

theorem end_zin : arr S8x2x2048x384 (exitC m c (Proc.devRef .tc main_v64))
    (ix4 e b t d) = (slots (mid m c) g b e).zin t d := by
  rw [end_s5 m c main_v64 (by decide +kernel), s5_keep _ main_v64 (by decide +kernel) (by decide +kernel),
    s3_keep _ main_v64 (by decide +kernel) (by decide +kernel)]
  exact at_zin _ g b e t d

theorem end_dp : arr S8x384 (exitC m c (Proc.devRef .tc main_arg12)) (ix2 e d)
    = (slots (mid m c) g b e).dp d := by
  rw [exit_keep m c main_arg12 (by decide +kernel) (by decide +kernel)]
  rfl

theorem end_ow (f : Fin 192) :
    arr S8x384x192 (exitC m c (Proc.devRef .tc main_arg13)) (ix3 e d f)
      = (slots (mid m c) g b e).ow d f := by
  rw [exit_keep m c main_arg13 (by decide +kernel) (by decide +kernel)]
  rfl

/-- The experts' results, before the gates. -/
theorem at_result (f : Fin 192) :
    arr S8x2x2048x192 (after hostOps0_9 (exitC m c) (Proc.devRef .tc main_v168)) (ix4 e b t f)
      = ∑ i, (slots (mid m c) g b e).gated t i * (slots (mid m c) g b e).ow i f := by
  refine (result (exitC m c) b e t f).trans (Finset.sum_congr rfl fun i _ => ?_)
  rw [end_y m c g, end_xc m c g, end_zin m c g, end_dp m c g b, end_ow m c g b]
  rfl

end Cert.ReferenceIdeal.Stretch

end
-- ==== Proof.RefResult.lean ====
module

public import proofs.«01_k».proof.Proof.RefValue

@[expose] public section

/-! The reference's first result: each token, and its two experts' outputs at its places. -/

set_option maxRecDepth 16384

noncomputable section

namespace Cert.ReferenceIdeal.Stretch

open Cert.ReferenceIdeal Cert.ReferenceIdeal.Gen Cert.ReferenceIdeal.Value Idealize.ShloMosaic
open Idealize.ShloMosaic.TcCoe
open Idealize.SL Idealize.SL.Sem StableHlo
open Cert.Choice Cert.Spec

section
variable (X : Valuation τ sig (Elt Ideal)) (b : Fin 2) (e : Fin 8)

theorem routed_eq (t : Fin 2048) :
    arr S2x2048x8 (q3 X (Proc.devRef .tc main_v39)) (ix3 b t e) = if Chosen (pick X) b e t.val then 1 else 0 := by
  rw [← sum_picks (pick X) (picks_injective _)]
  exact (routed _ b t e).trans (Finset.sum_congr rfl fun q _ => ones _ b t q e _ (indices_eq X b t q))

theorem gates_eq (t : Fin 2048) :
    arr S2x8x2048 (q4 X (Proc.devRef .tc main_v51)) (ix3 b e t)
      = probs X (ix3 b t e) * if Chosen (pick X) b e t.val then 1 else 0 := by
  rw [← routed_eq X]
  refine Eq.trans (congrFun (after_of_writes_sub hostOps0_3 _ hostOps0_3_writes (show main_v51 ∉ hostOps0_3_W by decide +kernel)) _) ((gates _ b t e).trans ?_)
  refine congrArg (· * _) (congrFun ?_ _)
  exact after_of_writes_sub hostOps0_1 _ hostOps0_1_writes (show main_v37 ∉ hostOps0_1_W by decide +kernel)

theorem perm_eq (j : Fin 2048) :
    ints S2x8x2048 (q4 X (Proc.devRef .tc main_v54)) (ix3 b e j) = BitVec.ofNat 32 (Choice.tok (pick X) b e j).val :=
  perm _ _ b e j fun t => keys _ b t e _ (routed_eq X b e t)

theorem rows_eq (j : Fin 2048) (k : Fin 192) :
    arr S2x8x2048x192 (s1 (q4 X) (Proc.devRef .tc main_v61)) (ix4 b e j k)
      = arr S2x2048x192 (q1 X (Proc.devRef .tc main_v25)) (ix3 b (Choice.tok (pick X) b e j) k) :=
  (rows _ b e j k _ (perm_eq X b e j)).trans
    (congrFun (keepQ X main_v25 (by decide +kernel) (by decide +kernel) (by decide +kernel)) _)

/-- The block of sequence `b` and expert `e`. -/
def block : Block :=
  routedBlock (q1 X (Proc.devRef .tc main_v25)) (probs X)
    (X (Proc.devRef .tc main_arg5)) (X (Proc.devRef .tc main_arg6)) (X (Proc.devRef .tc main_arg7))
    (X (Proc.devRef .tc main_arg8)) (X (Proc.devRef .tc main_arg9)) (X (Proc.devRef .tc main_arg10))
    (X (Proc.devRef .tc main_arg11)) (X (Proc.devRef .tc main_arg12))
    (X (Proc.devRef .tc main_arg13)) b e

theorem slots_eq : slots (q4 X) (block X b e).gg b e = block X b e := by
  have hx : (slots (q4 X) (block X b e).gg b e).xg = (block X b e).xg := funext fun j => funext fun k => rows_eq X b e j k
  refine Eq.trans (b := { block X b e with xg := (slots (q4 X) (block X b e).gg b e).xg }) ?_ (by rw [hx])
  unfold slots
  rw [keepA X main_arg5 (by decide +kernel), keepA X main_arg6 (by decide +kernel), keepA X main_arg7 (by decide +kernel),
    keepA X main_arg8 (by decide +kernel), keepA X main_arg9 (by decide +kernel), keepA X main_arg10 (by decide +kernel),
    keepA X main_arg11 (by decide +kernel), keepA X main_arg12 (by decide +kernel), keepA X main_arg13 (by decide +kernel)]
  rfl

end

variable (m : (ℓ : Loc nD τ sig) → Buf (Elt Ideal) ℓ) (c : Dev nD)

/-- The contents at the start of the last stretch. -/
abbrev late : Valuation τ sig (Elt Ideal) := after hostOps0_10 (after hostOps0_9 (exitC m c))

theorem late_keep (r : Ref sig .tc)
    (hp : r ∉ hostOps0_4_W ++ hostOps0_5_W ++ hostOps0_6_W ++ hostOps0_7_W ++ hostOps0_8_W) (hs : r ∉ stepW)
    (h9 : r ∉ lastW9) (h10 : r ∉ lastW10) : late m c (Proc.devRef .tc r) = mid m c (Proc.devRef .tc r) :=
  (keepL10 _ r h10).trans ((keepL9 _ r h9).trans (exit_keep m c r hp hs))

theorem places (b : Fin 2) (e : Fin 8) (t : Fin 2048) :
    ints S2x8x2048 (late m c (Proc.devRef .tc main_v169)) (ix3 b e t)
      = BitVec.ofNat 32 (spot (pick (launchContents m c)) b e t).val := by
  refine back _ _ b e t fun j => Eq.trans (congrFun ?_ _) (perm_eq (launchContents m c) b e j)
  exact (keepL9 _ main_v54 (by decide +kernel)).trans (exit_keep m c main_v54 (by decide +kernel) (by decide +kernel))

theorem outputs (b : Fin 2) (e : Fin 8) (j : Fin 2048) (k : Fin 192) :
    arr S8x2x2048x192 (late m c (Proc.devRef .tc main_v168)) (ix4 e b j k)
      = ∑ i, (block (launchContents m c) b e).gated j i * (block (launchContents m c) b e).ow i k := by
  refine Eq.trans (congrFun (keepL10 _ main_v168 (by decide +kernel)) _) ?_
  rw [← slots_eq]
  exact at_result m c _ b e j k

/-- The tokens, each with its two experts' outputs added. -/
theorem sums (b : Fin 2) (t : Fin 2048) (k : Fin 192) :
    arr S2x2048x192 (after hostOps0_11 (late m c) (Proc.devRef .tc main_v185)) (ix3 b t k)
      = arr S2x2048x192 (q1 (launchContents m c) (Proc.devRef .tc main_v1)) (ix3 b t k)
        + arr S192 (launchContents m c (Proc.devRef .tc main_arg3)) (ix1 k)
          * ∑ q : Fin 2, (block (launchContents m c) b (pick (launchContents m c) b t q)).out
              (spot (pick (launchContents m c)) b (pick (launchContents m c) b t q) t) k := by
  refine (sum_rows (late m c) b t k _ (fun e => places m c b e t)).trans ?_
  have h1 : late m c (Proc.devRef .tc main_v1) = q1 (launchContents m c) (Proc.devRef .tc main_v1) :=
    (late_keep m c main_v1 (by decide +kernel) (by decide +kernel) (by decide +kernel) (by decide +kernel)).trans
      (keepQ _ main_v1 (by decide +kernel) (by decide +kernel) (by decide +kernel))
  have h3 : late m c (Proc.devRef .tc main_arg3) = launchContents m c (Proc.devRef .tc main_arg3) :=
    (late_keep m c main_arg3 (by decide +kernel) (by decide +kernel) (by decide +kernel) (by decide +kernel)).trans
      (keepA _ main_arg3 (by decide +kernel))
  have h51 : late m c (Proc.devRef .tc main_v51) = mid m c (Proc.devRef .tc main_v51) :=
    late_keep m c main_v51 (by decide +kernel) (by decide +kernel) (by decide +kernel) (by decide +kernel)
  rw [h1, h3, h51]
  refine congrArg _ (congrArg _ ((sum_chosen (pick (launchContents m c)) (picks_injective _) b t _ fun e he => ?_).trans
    (Finset.sum_congr rfl fun q _ => ?_)))
  · rw [gates_eq, if_neg he, mul_zero, zero_mul]
  · rw [gates_eq, outputs, mul_comm]
    unfold Block.out
    refine congrArg _ ?_
    show _ = probs (launchContents m c) (ix3 b (Choice.tok _ b _ (spot _ b _ t)) _) * if Chosen _ b _ (Choice.tok _ b _ (spot _ b _ t)).val then 1 else 0
    rw [tok_spot]

theorem result_eq : finalContents condOps preI bodyI postI 2048 m c (Proc.devRef .tc main_v187)
    = transpose S2x192x16x16x8 [0, 4, 1, 2, 3]
        (shapeCast S2x16x16x8x192 (after hostOps0_11 (late m c) (Proc.devRef .tc main_v185)) (by decide)) (by decide) := by
  rw [final_eq]
  exact final _

theorem aux_eq : finalContents condOps preI bodyI postI 2048 m c (Proc.devRef .tc main_v49)
    = q3 (launchContents m c) (Proc.devRef .tc main_v49) := by
  rw [final_eq]
  exact (keepL11 _ main_v49 (by decide +kernel)).trans
    ((late_keep m c main_v49 (by decide +kernel) (by decide +kernel) (by decide +kernel) (by decide +kernel)).trans
      (after_of_writes_sub hostOps0_3 _ hostOps0_3_writes (by decide +kernel)))

end Cert.ReferenceIdeal.Stretch

end
-- ==== Proof.Prologue.lean ====
module

public import proofs.«01_k».proof.Proof.Front
public import proofs.«01_k».proof.Proof.RefResult

@[expose] public section

/-! The two programs share their first lines: from the same arguments they leave the same tokens, normalised tokens,
    gate probabilities and balance term. -/

set_option maxRecDepth 65536

noncomputable section

namespace Cert.Prologue

open Idealize.ShloMosaic Idealize.ShloMosaic.TcCoe
open Idealize.SL Idealize.SL.Sem StableHlo

abbrev KV := Valuation Cert.KernelIdeal.τ Cert.KernelIdeal.sig (Elt Ideal)
abbrev RV := Valuation Cert.ReferenceIdeal.τ Cert.ReferenceIdeal.sig (Elt Ideal)

variable {X : KV} {Y : RV}
/-- The tokens. -/
theorem tokens
    {a0 : FVec Ideal Cert.KernelIdeal.S2x192x16x16x8 .f32} (k0 : X (Proc.devRef .tc Cert.KernelIdeal.main_arg0) = a0)
      (r0 : Y (Proc.devRef .tc Cert.ReferenceIdeal.main_arg0) = a0) :
    ∃ a : FVec Ideal Cert.KernelIdeal.S2x2048x192 .f32,
      after Cert.KernelIdeal.Route.opsA X (Proc.devRef .tc Cert.KernelIdeal.main_call0_v1) = a
      ∧ after Cert.ReferenceIdeal.Gen.hostOps0 Y (Proc.devRef .tc Cert.ReferenceIdeal.main_v1) = a := by
  apply Exists.intro
  constructor
  · after_reads_simp
    rw [k0]
  · after_reads_simp
    rw [r0]
    rfl

/-- The normalised tokens. -/
theorem normed
    {a0 : FVec Ideal Cert.KernelIdeal.S2x192x16x16x8 .f32} (k0 : X (Proc.devRef .tc Cert.KernelIdeal.main_arg0) = a0)
      (r0 : Y (Proc.devRef .tc Cert.ReferenceIdeal.main_arg0) = a0)
    {a1 : FVec Ideal Cert.KernelIdeal.S192 .f32} (k1 : X (Proc.devRef .tc Cert.KernelIdeal.main_arg1) = a1)
      (r1 : Y (Proc.devRef .tc Cert.ReferenceIdeal.main_arg1) = a1)
    {a2 : FVec Ideal Cert.KernelIdeal.S192 .f32} (k2 : X (Proc.devRef .tc Cert.KernelIdeal.main_arg2) = a2)
      (r2 : Y (Proc.devRef .tc Cert.ReferenceIdeal.main_arg2) = a2) :
    ∃ a : FVec Ideal Cert.KernelIdeal.S2x2048x192 .f32,
      after Cert.KernelIdeal.Route.opsA X (Proc.devRef .tc Cert.KernelIdeal.main_call0_v25) = a
      ∧ after Cert.ReferenceIdeal.Gen.hostOps0 Y (Proc.devRef .tc Cert.ReferenceIdeal.main_v25) = a := by
  apply Exists.intro
  constructor
  · after_reads_simp
    rw [k0, k1, k2]
  · after_reads_simp
    rw [r0, r1, r2]
    rfl

/-- The gate probabilities. -/
theorem gates
    {a0 : FVec Ideal Cert.KernelIdeal.S2x192x16x16x8 .f32} (k0 : X (Proc.devRef .tc Cert.KernelIdeal.main_arg0) = a0)
      (r0 : Y (Proc.devRef .tc Cert.ReferenceIdeal.main_arg0) = a0)
    {a1 : FVec Ideal Cert.KernelIdeal.S192 .f32} (k1 : X (Proc.devRef .tc Cert.KernelIdeal.main_arg1) = a1)
      (r1 : Y (Proc.devRef .tc Cert.ReferenceIdeal.main_arg1) = a1)
    {a2 : FVec Ideal Cert.KernelIdeal.S192 .f32} (k2 : X (Proc.devRef .tc Cert.KernelIdeal.main_arg2) = a2)
      (r2 : Y (Proc.devRef .tc Cert.ReferenceIdeal.main_arg2) = a2)
    {a4 : FVec Ideal Cert.KernelIdeal.S192x8 .f32} (k4 : X (Proc.devRef .tc Cert.KernelIdeal.main_arg4) = a4)
      (r4 : Y (Proc.devRef .tc Cert.ReferenceIdeal.main_arg4) = a4) :
    ∃ a : FVec Ideal Cert.KernelIdeal.S2x2048x8 .f32,
      after Cert.KernelIdeal.Route.opsA X (Proc.devRef .tc Cert.KernelIdeal.main_call0_v37) = a
      ∧ after Cert.ReferenceIdeal.Gen.hostOps0 Y (Proc.devRef .tc Cert.ReferenceIdeal.main_v37) = a := by
  apply Exists.intro
  constructor
  · after_reads_simp
    rw [k0, k1, k2, k4]
  · after_reads_simp
    rw [r0, r1, r2, r4]
    rfl

/-- The experts' numbers that the choice leaves. -/
theorem picked
    {p : FVec Ideal Cert.KernelIdeal.S2x2048x8 .f32} (k : after Cert.KernelIdeal.Route.opsA X (Proc.devRef .tc Cert.KernelIdeal.main_call0_v37) = p)
      (r : after Cert.ReferenceIdeal.Gen.hostOps0 Y (Proc.devRef .tc Cert.ReferenceIdeal.main_v37) = p) :
    ∃ i : IVec Cert.KernelIdeal.S2x2048x2 32,
      after Cert.KernelIdeal.Route.opsA X (Proc.devRef .tc Cert.KernelIdeal.main_call0_indices) = i
      ∧ after Cert.ReferenceIdeal.Gen.hostOps0 Y (Proc.devRef .tc Cert.ReferenceIdeal.main_indices) = i := by
  refine ⟨(Host.topK Cert.KernelIdeal.S2x2048x2 2 (FloatOps.cmpfTotal (F := Ideal) .gt) p Cert.KernelIdeal.Facts₀.sliceFits_S2x2048x8_S2x2048x2).2, ?_, ?_⟩
  · rw [← k]
    after_reads_simp
    rfl
  · rw [← r]
    after_reads_simp

/-- The balance term, after any lines that left the same probabilities and numbers. -/
theorem balance_step {X : KV} {Y : RV}
    {p : FVec Ideal Cert.KernelIdeal.S2x2048x8 .f32} (k : X (Proc.devRef .tc Cert.KernelIdeal.main_call0_v37) = p)
      (r : Y (Proc.devRef .tc Cert.ReferenceIdeal.main_v37) = p)
    {i : IVec Cert.KernelIdeal.S2x2048x2 32} (ki : X (Proc.devRef .tc Cert.KernelIdeal.main_call0_indices) = i)
      (ri : Y (Proc.devRef .tc Cert.ReferenceIdeal.main_indices) = i) :
    ∃ a : FVec Ideal Cert.KernelIdeal.S_ .f32,
      after Cert.KernelIdeal.Route.opsB X (Proc.devRef .tc Cert.KernelIdeal.main_v0_1) = a
      ∧ after Cert.ReferenceIdeal.Gen.hostOps0_2 (after Cert.ReferenceIdeal.Gen.hostOps0_1 Y) (Proc.devRef .tc Cert.ReferenceIdeal.main_v49) = a := by
  apply Exists.intro
  constructor
  · after_reads_simp
    rw [k, ki]
  · after_reads_simp
    rw [r, ri]
    rfl

/-- The balance term. -/
theorem balance
    {p : FVec Ideal Cert.KernelIdeal.S2x2048x8 .f32} (k : after Cert.KernelIdeal.Route.opsA X (Proc.devRef .tc Cert.KernelIdeal.main_call0_v37) = p)
      (r : after Cert.ReferenceIdeal.Gen.hostOps0 Y (Proc.devRef .tc Cert.ReferenceIdeal.main_v37) = p) :
    ∃ a : FVec Ideal Cert.KernelIdeal.S_ .f32,
      after Cert.KernelIdeal.Route.opsB (after Cert.KernelIdeal.Route.opsA X) (Proc.devRef .tc Cert.KernelIdeal.main_v0_1) = a
      ∧ after Cert.ReferenceIdeal.Gen.hostOps0_2 (after Cert.ReferenceIdeal.Gen.hostOps0_1 (after Cert.ReferenceIdeal.Gen.hostOps0 Y)) (Proc.devRef .tc Cert.ReferenceIdeal.main_v49) = a := by
  obtain ⟨i, ki, ri⟩ := picked k r
  exact balance_step k r ki ri

end Cert.Prologue

end
-- ==== Proof.Results.lean ====
module

public import proofs.«01_k».proof.Proof.KernelResult
public import proofs.«01_k».proof.Proof.Prologue

@[expose] public section

/-! The two results of both programs, of the arguments: equal where the arguments are. -/

set_option maxRecDepth 16384

noncomputable section

namespace Cert.Prologue

open Idealize.ShloMosaic Idealize.ShloMosaic.TcCoe
open Idealize.SL Idealize.SL.Sem StableHlo
open Cert.Choice Cert.Spec

/-- The tokens, each with its two experts' outputs added, of what the shared lines leave and the weights. -/
def total (T N : FVec Ideal Cert.KernelIdeal.S2x2048x192 .f32) (P : FVec Ideal Cert.KernelIdeal.S2x2048x8 .f32) (a3 : FVec Ideal Cert.KernelIdeal.S192 .f32)
    (a5 : FVec Ideal Cert.KernelIdeal.S8x192x768 .f32) (a6 : FVec Ideal Cert.KernelIdeal.S8x384x4 .f32) (a7 : FVec Ideal Cert.KernelIdeal.S8x384 .f32) (a8 : FVec Ideal Cert.KernelIdeal.S8x384x44 .f32) (a9 : FVec Ideal Cert.KernelIdeal.S8x12x384 .f32) (a10 : FVec Ideal Cert.KernelIdeal.S8x384 .f32) (a11 : FVec Ideal Cert.KernelIdeal.S8x384x16 .f32) (a12 : FVec Ideal Cert.KernelIdeal.S8x384 .f32) (a13 : FVec Ideal Cert.KernelIdeal.S8x384x192 .f32) (y : Cert.KernelIdeal.S2x2048x192.Idx) : EReal :=
  T y + a3 (ix1 (y 2)) * ∑ q : Fin 2, (routedBlock N P a5 a6 a7 a8 a9 a10 a11 a12 a13 (y 0) (picks P (y 0) (y 1) q)).out
    (spot (picks P) (y 0) (picks P (y 0) (y 1) q) (y 1)) (y 2)

variable (m : (ℓ : Loc Cert.KernelIdeal.nD Cert.KernelIdeal.τ Cert.KernelIdeal.sig) → Buf (Elt Ideal) ℓ)
  (n : (ℓ : Loc Cert.ReferenceIdeal.nD Cert.ReferenceIdeal.τ Cert.ReferenceIdeal.sig) → Buf (Elt Ideal) ℓ)

section
open Cert.KernelIdeal Cert.KernelIdeal.Gen Cert.KernelIdeal.Array Cert.KernelIdeal.Route

theorem kernel_total (hH : Hyps m) (c : Dev nD) {T N : FVec Ideal Cert.KernelIdeal.S2x2048x192 .f32} {P : FVec Ideal Cert.KernelIdeal.S2x2048x8 .f32} {a3 : FVec Ideal Cert.KernelIdeal.S192 .f32}
    {a5 : FVec Ideal Cert.KernelIdeal.S8x192x768 .f32} {a6 : FVec Ideal Cert.KernelIdeal.S8x384x4 .f32} {a7 : FVec Ideal Cert.KernelIdeal.S8x384 .f32} {a8 : FVec Ideal Cert.KernelIdeal.S8x384x44 .f32} {a9 : FVec Ideal Cert.KernelIdeal.S8x12x384 .f32} {a10 : FVec Ideal Cert.KernelIdeal.S8x384 .f32} {a11 : FVec Ideal Cert.KernelIdeal.S8x384x16 .f32} {a12 : FVec Ideal Cert.KernelIdeal.S8x384 .f32} {a13 : FVec Ideal Cert.KernelIdeal.S8x384x192 .f32}
    (kT : after opsA (at0 m c) (Proc.devRef .tc main_call0_v1) = T) (kN : after opsA (at0 m c) (Proc.devRef .tc main_call0_v25) = N)
    (kP : after opsA (at0 m c) (Proc.devRef .tc main_call0_v37) = P)
    (k3 : m ((c : Thread nD τ).loc main_arg3) = a3)
    (k5 : m ((c : Thread nD τ).loc main_arg5) = a5)
    (k6 : m ((c : Thread nD τ).loc main_arg6) = a6)
    (k7 : m ((c : Thread nD τ).loc main_arg7) = a7)
    (k8 : m ((c : Thread nD τ).loc main_arg8) = a8)
    (k9 : m ((c : Thread nD τ).loc main_arg9) = a9)
    (k10 : m ((c : Thread nD τ).loc main_arg10) = a10)
    (k11 : m ((c : Thread nD τ).loc main_arg11) = a11)
    (k12 : m ((c : Thread nD τ).loc main_arg12) = a12)
    (k13 : m ((c : Thread nD τ).loc main_arg13) = a13)
    : after tailC (after tailB (after tailA (handed m hH c))) (Proc.devRef .tc main_call0_v110) = total T N P a3 a5 a6 a7 a8 a9 a10 a11 a12 a13 := by
  subst kT kN kP k3 k5 k6 k7 k8 k9 k10 k11 k12 k13
  funext y
  obtain ⟨b, t, k, rfl⟩ : ∃ (b : Fin 2) (t : Fin 2048) (k : Fin 192), y = ix3 b t k := ⟨y 0, y 1, y 2, eq_ix3 y⟩
  exact sums m hH c b t k

end

section
open Cert.ReferenceIdeal Cert.ReferenceIdeal.Gen Cert.ReferenceIdeal.Stretch Cert.ReferenceIdeal.Value

theorem ref_total (c : Dev nD) {T N : FVec Ideal Cert.KernelIdeal.S2x2048x192 .f32} {P : FVec Ideal Cert.KernelIdeal.S2x2048x8 .f32} {a3 : FVec Ideal Cert.KernelIdeal.S192 .f32}
    {a5 : FVec Ideal Cert.KernelIdeal.S8x192x768 .f32} {a6 : FVec Ideal Cert.KernelIdeal.S8x384x4 .f32} {a7 : FVec Ideal Cert.KernelIdeal.S8x384 .f32} {a8 : FVec Ideal Cert.KernelIdeal.S8x384x44 .f32} {a9 : FVec Ideal Cert.KernelIdeal.S8x12x384 .f32} {a10 : FVec Ideal Cert.KernelIdeal.S8x384 .f32} {a11 : FVec Ideal Cert.KernelIdeal.S8x384x16 .f32} {a12 : FVec Ideal Cert.KernelIdeal.S8x384 .f32} {a13 : FVec Ideal Cert.KernelIdeal.S8x384x192 .f32}
    (rT : after hostOps0 (launchContents n c) (Proc.devRef .tc main_v1) = T) (rN : after hostOps0 (launchContents n c) (Proc.devRef .tc main_v25) = N)
    (rP : after hostOps0 (launchContents n c) (Proc.devRef .tc main_v37) = P)
    (r3 : launchContents n c (Proc.devRef .tc main_arg3) = a3)
    (r5 : launchContents n c (Proc.devRef .tc main_arg5) = a5)
    (r6 : launchContents n c (Proc.devRef .tc main_arg6) = a6)
    (r7 : launchContents n c (Proc.devRef .tc main_arg7) = a7)
    (r8 : launchContents n c (Proc.devRef .tc main_arg8) = a8)
    (r9 : launchContents n c (Proc.devRef .tc main_arg9) = a9)
    (r10 : launchContents n c (Proc.devRef .tc main_arg10) = a10)
    (r11 : launchContents n c (Proc.devRef .tc main_arg11) = a11)
    (r12 : launchContents n c (Proc.devRef .tc main_arg12) = a12)
    (r13 : launchContents n c (Proc.devRef .tc main_arg13) = a13)
    : after hostOps0_11 (late n c) (Proc.devRef .tc main_v185) = total T N P a3 a5 a6 a7 a8 a9 a10 a11 a12 a13 := by
  subst rT rN rP r3 r5 r6 r7 r8 r9 r10 r11 r12 r13
  funext y
  obtain ⟨b, t, k, rfl⟩ : ∃ (b : Fin 2) (t : Fin 2048) (k : Fin 192), y = ix3 b t k := ⟨y 0, y 1, y 2, eq_ix3 y⟩
  exact sums n c b t k

end

/-- The first results, of the same arguments. -/
theorem first (hH : Cert.KernelIdeal.Gen.Hyps m) (c : Dev Cert.KernelIdeal.nD)
    {a0 : FVec Ideal Cert.KernelIdeal.S2x192x16x16x8 .f32} (k0 : m ((c.tc : Thread Cert.KernelIdeal.nD Cert.KernelIdeal.τ).loc Cert.KernelIdeal.main_arg0) = a0)
      (r0 : n ((c.tc : Thread Cert.ReferenceIdeal.nD Cert.ReferenceIdeal.τ).loc Cert.ReferenceIdeal.main_arg0) = a0)
    {a1 : FVec Ideal Cert.KernelIdeal.S192 .f32} (k1 : m ((c.tc : Thread Cert.KernelIdeal.nD Cert.KernelIdeal.τ).loc Cert.KernelIdeal.main_arg1) = a1)
      (r1 : n ((c.tc : Thread Cert.ReferenceIdeal.nD Cert.ReferenceIdeal.τ).loc Cert.ReferenceIdeal.main_arg1) = a1)
    {a2 : FVec Ideal Cert.KernelIdeal.S192 .f32} (k2 : m ((c.tc : Thread Cert.KernelIdeal.nD Cert.KernelIdeal.τ).loc Cert.KernelIdeal.main_arg2) = a2)
      (r2 : n ((c.tc : Thread Cert.ReferenceIdeal.nD Cert.ReferenceIdeal.τ).loc Cert.ReferenceIdeal.main_arg2) = a2)
    {a3 : FVec Ideal Cert.KernelIdeal.S192 .f32} (k3 : m ((c.tc : Thread Cert.KernelIdeal.nD Cert.KernelIdeal.τ).loc Cert.KernelIdeal.main_arg3) = a3)
      (r3 : n ((c.tc : Thread Cert.ReferenceIdeal.nD Cert.ReferenceIdeal.τ).loc Cert.ReferenceIdeal.main_arg3) = a3)
    {a4 : FVec Ideal Cert.KernelIdeal.S192x8 .f32} (k4 : m ((c.tc : Thread Cert.KernelIdeal.nD Cert.KernelIdeal.τ).loc Cert.KernelIdeal.main_arg4) = a4)
      (r4 : n ((c.tc : Thread Cert.ReferenceIdeal.nD Cert.ReferenceIdeal.τ).loc Cert.ReferenceIdeal.main_arg4) = a4)
    {a5 : FVec Ideal Cert.KernelIdeal.S8x192x768 .f32} (k5 : m ((c.tc : Thread Cert.KernelIdeal.nD Cert.KernelIdeal.τ).loc Cert.KernelIdeal.main_arg5) = a5)
      (r5 : n ((c.tc : Thread Cert.ReferenceIdeal.nD Cert.ReferenceIdeal.τ).loc Cert.ReferenceIdeal.main_arg5) = a5)
    {a6 : FVec Ideal Cert.KernelIdeal.S8x384x4 .f32} (k6 : m ((c.tc : Thread Cert.KernelIdeal.nD Cert.KernelIdeal.τ).loc Cert.KernelIdeal.main_arg6) = a6)
      (r6 : n ((c.tc : Thread Cert.ReferenceIdeal.nD Cert.ReferenceIdeal.τ).loc Cert.ReferenceIdeal.main_arg6) = a6)
    {a7 : FVec Ideal Cert.KernelIdeal.S8x384 .f32} (k7 : m ((c.tc : Thread Cert.KernelIdeal.nD Cert.KernelIdeal.τ).loc Cert.KernelIdeal.main_arg7) = a7)
      (r7 : n ((c.tc : Thread Cert.ReferenceIdeal.nD Cert.ReferenceIdeal.τ).loc Cert.ReferenceIdeal.main_arg7) = a7)
    {a8 : FVec Ideal Cert.KernelIdeal.S8x384x44 .f32} (k8 : m ((c.tc : Thread Cert.KernelIdeal.nD Cert.KernelIdeal.τ).loc Cert.KernelIdeal.main_arg8) = a8)
      (r8 : n ((c.tc : Thread Cert.ReferenceIdeal.nD Cert.ReferenceIdeal.τ).loc Cert.ReferenceIdeal.main_arg8) = a8)
    {a9 : FVec Ideal Cert.KernelIdeal.S8x12x384 .f32} (k9 : m ((c.tc : Thread Cert.KernelIdeal.nD Cert.KernelIdeal.τ).loc Cert.KernelIdeal.main_arg9) = a9)
      (r9 : n ((c.tc : Thread Cert.ReferenceIdeal.nD Cert.ReferenceIdeal.τ).loc Cert.ReferenceIdeal.main_arg9) = a9)
    {a10 : FVec Ideal Cert.KernelIdeal.S8x384 .f32} (k10 : m ((c.tc : Thread Cert.KernelIdeal.nD Cert.KernelIdeal.τ).loc Cert.KernelIdeal.main_arg10) = a10)
      (r10 : n ((c.tc : Thread Cert.ReferenceIdeal.nD Cert.ReferenceIdeal.τ).loc Cert.ReferenceIdeal.main_arg10) = a10)
    {a11 : FVec Ideal Cert.KernelIdeal.S8x384x16 .f32} (k11 : m ((c.tc : Thread Cert.KernelIdeal.nD Cert.KernelIdeal.τ).loc Cert.KernelIdeal.main_arg11) = a11)
      (r11 : n ((c.tc : Thread Cert.ReferenceIdeal.nD Cert.ReferenceIdeal.τ).loc Cert.ReferenceIdeal.main_arg11) = a11)
    {a12 : FVec Ideal Cert.KernelIdeal.S8x384 .f32} (k12 : m ((c.tc : Thread Cert.KernelIdeal.nD Cert.KernelIdeal.τ).loc Cert.KernelIdeal.main_arg12) = a12)
      (r12 : n ((c.tc : Thread Cert.ReferenceIdeal.nD Cert.ReferenceIdeal.τ).loc Cert.ReferenceIdeal.main_arg12) = a12)
    {a13 : FVec Ideal Cert.KernelIdeal.S8x384x192 .f32} (k13 : m ((c.tc : Thread Cert.KernelIdeal.nD Cert.KernelIdeal.τ).loc Cert.KernelIdeal.main_arg13) = a13)
      (r13 : n ((c.tc : Thread Cert.ReferenceIdeal.nD Cert.ReferenceIdeal.τ).loc Cert.ReferenceIdeal.main_arg13) = a13)
    : ∃ a : FVec Ideal Cert.KernelIdeal.S2x192x16x16x8 .f32, Cert.KernelIdeal.Array.out0 m hH c = a
      ∧ finalContents Cert.ReferenceIdeal.Value.condOps Cert.ReferenceIdeal.Value.preI Cert.ReferenceIdeal.Value.bodyI Cert.ReferenceIdeal.Value.postI 2048 n c (Proc.devRef .tc Cert.ReferenceIdeal.main_v187) = a := by
  obtain ⟨T, kT, rT⟩ := tokens (X := Cert.KernelIdeal.Array.at0 m c) (Y := launchContents n c) k0 r0
  obtain ⟨N, kN, rN⟩ := normed (X := Cert.KernelIdeal.Array.at0 m c) (Y := launchContents n c) k0 r0 k1 r1 k2 r2
  obtain ⟨P, kP, rP⟩ := gates (X := Cert.KernelIdeal.Array.at0 m c) (Y := launchContents n c) k0 r0 k1 r1 k2 r2 k4 r4
  refine ⟨transpose Cert.KernelIdeal.S2x192x16x16x8 [0, 4, 1, 2, 3]
    (shapeCast Cert.KernelIdeal.S2x16x16x8x192 (total T N P a3 a5 a6 a7 a8 a9 a10 a11 a12 a13) (by decide)) (by decide), ?_, ?_⟩
  · exact congrArg (fun v : FVec Ideal Cert.KernelIdeal.S2x2048x192 .f32 => transpose Cert.KernelIdeal.S2x192x16x16x8 [0, 4, 1, 2, 3]
      (shapeCast Cert.KernelIdeal.S2x16x16x8x192 v (by decide)) (by decide)) (kernel_total m hH c kT kN kP k3 k5 k6 k7 k8 k9 k10 k11 k12 k13)
  · exact (Cert.ReferenceIdeal.Stretch.result_eq n c).trans (congrArg (fun v : FVec Ideal Cert.KernelIdeal.S2x2048x192 .f32 => transpose Cert.KernelIdeal.S2x192x16x16x8 [0, 4, 1, 2, 3]
      (shapeCast Cert.KernelIdeal.S2x16x16x8x192 v (by decide)) (by decide)) (ref_total n c rT rN rP r3 r5 r6 r7 r8 r9 r10 r11 r12 r13))

/-- The second results, of the same arguments. -/
theorem second (c : Dev Cert.KernelIdeal.nD)
    {a0 : FVec Ideal Cert.KernelIdeal.S2x192x16x16x8 .f32} (k0 : m ((c.tc : Thread Cert.KernelIdeal.nD Cert.KernelIdeal.τ).loc Cert.KernelIdeal.main_arg0) = a0)
      (r0 : n ((c.tc : Thread Cert.ReferenceIdeal.nD Cert.ReferenceIdeal.τ).loc Cert.ReferenceIdeal.main_arg0) = a0)
    {a1 : FVec Ideal Cert.KernelIdeal.S192 .f32} (k1 : m ((c.tc : Thread Cert.KernelIdeal.nD Cert.KernelIdeal.τ).loc Cert.KernelIdeal.main_arg1) = a1)
      (r1 : n ((c.tc : Thread Cert.ReferenceIdeal.nD Cert.ReferenceIdeal.τ).loc Cert.ReferenceIdeal.main_arg1) = a1)
    {a2 : FVec Ideal Cert.KernelIdeal.S192 .f32} (k2 : m ((c.tc : Thread Cert.KernelIdeal.nD Cert.KernelIdeal.τ).loc Cert.KernelIdeal.main_arg2) = a2)
      (r2 : n ((c.tc : Thread Cert.ReferenceIdeal.nD Cert.ReferenceIdeal.τ).loc Cert.ReferenceIdeal.main_arg2) = a2)
    {a4 : FVec Ideal Cert.KernelIdeal.S192x8 .f32} (k4 : m ((c.tc : Thread Cert.KernelIdeal.nD Cert.KernelIdeal.τ).loc Cert.KernelIdeal.main_arg4) = a4)
      (r4 : n ((c.tc : Thread Cert.ReferenceIdeal.nD Cert.ReferenceIdeal.τ).loc Cert.ReferenceIdeal.main_arg4) = a4)
    : ∃ a : FVec Ideal Cert.KernelIdeal.S_ .f32, Cert.KernelIdeal.Array.out1 m c = a
      ∧ finalContents Cert.ReferenceIdeal.Value.condOps Cert.ReferenceIdeal.Value.preI Cert.ReferenceIdeal.Value.bodyI Cert.ReferenceIdeal.Value.postI 2048 n c (Proc.devRef .tc Cert.ReferenceIdeal.main_v49) = a := by
  obtain ⟨P, kP, rP⟩ := gates (X := Cert.KernelIdeal.Array.at0 m c) (Y := launchContents n c) k0 r0 k1 r1 k2 r2 k4 r4
  obtain ⟨a, ka, ra⟩ := balance kP rP
  exact ⟨a, ka, (Cert.ReferenceIdeal.Stretch.aux_eq n c).trans ra⟩

end Cert.Prologue

end
-- ==== Proof.Agree.lean ====
module

public import proofs.«01_k».proof.Defs
public import proofs.«01_k».proof.Proof.Results

@[expose] public section

/-! The reference's run and frame, and the two programs' results from memories that agree on the arguments. -/

set_option maxRecDepth 16384

noncomputable section

namespace Cert.Proof

open Idealize.ShloMosaic Idealize.SL Idealize.SL.Sem
open Idealize.ShloMosaic.TcCoe

section Reference

open Cert.ReferenceIdeal Cert.ReferenceIdeal.Gen Cert.ReferenceIdeal.Value StableHlo

variable (m : (ℓ : Loc Cert.ReferenceIdeal.nD Cert.ReferenceIdeal.τ Cert.ReferenceIdeal.sig) → Buf (Elt Ideal) ℓ) (ρ : Dev Cert.ReferenceIdeal.nD → PrngReg)

/-- The reference's run: its results at the last contents, its arguments unchanged. -/
theorem ref_run : θ_run (defs (F := Ideal)) (onTc (τ := τ) (main (F := Ideal))) ⟨m, fun _ => 0, ρ⟩
    (fun r => ∀ c : Dev nD,
      r.2.mem ((c.tc : Thread nD τ).loc main_v187) = finalContents condOps preI bodyI postI 2048 m c (Proc.devRef .tc main_v187)
      ∧ r.2.mem ((c.tc : Thread nD τ).loc main_v49) = finalContents condOps preI bodyI postI 2048 m c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c main_v187 (by decide +kernel), h c main_v49 (by decide +kernel),
      (h c main_arg0 (by decide +kernel)).trans (Stretch.kept m c main_arg0 (by decide +kernel) (by decide +kernel) (by decide +kernel) (by decide +kernel)),
      (h c main_arg1 (by decide +kernel)).trans (Stretch.kept m c main_arg1 (by decide +kernel) (by decide +kernel) (by decide +kernel) (by decide +kernel)),
      (h c main_arg2 (by decide +kernel)).trans (Stretch.kept m c main_arg2 (by decide +kernel) (by decide +kernel) (by decide +kernel) (by decide +kernel)),
      (h c main_arg3 (by decide +kernel)).trans (Stretch.kept m c main_arg3 (by decide +kernel) (by decide +kernel) (by decide +kernel) (by decide +kernel)),
      (h c main_arg4 (by decide +kernel)).trans (Stretch.kept m c main_arg4 (by decide +kernel) (by decide +kernel) (by decide +kernel) (by decide +kernel)),
      (h c main_arg5 (by decide +kernel)).trans (Stretch.kept m c main_arg5 (by decide +kernel) (by decide +kernel) (by decide +kernel) (by decide +kernel)),
      (h c main_arg6 (by decide +kernel)).trans (Stretch.kept m c main_arg6 (by decide +kernel) (by decide +kernel) (by decide +kernel) (by decide +kernel)),
      (h c main_arg7 (by decide +kernel)).trans (Stretch.kept m c main_arg7 (by decide +kernel) (by decide +kernel) (by decide +kernel) (by decide +kernel)),
      (h c main_arg8 (by decide +kernel)).trans (Stretch.kept m c main_arg8 (by decide +kernel) (by decide +kernel) (by decide +kernel) (by decide +kernel)),
      (h c main_arg9 (by decide +kernel)).trans (Stretch.kept m c main_arg9 (by decide +kernel) (by decide +kernel) (by decide +kernel) (by decide +kernel)),
      (h c main_arg10 (by decide +kernel)).trans (Stretch.kept m c main_arg10 (by decide +kernel) (by decide +kernel) (by decide +kernel) (by decide +kernel)),
      (h c main_arg11 (by decide +kernel)).trans (Stretch.kept m c main_arg11 (by decide +kernel) (by decide +kernel) (by decide +kernel) (by decide +kernel)),
      (h c main_arg12 (by decide +kernel)).trans (Stretch.kept m c main_arg12 (by decide +kernel) (by decide +kernel) (by decide +kernel) (by decide +kernel)),
      (h c main_arg13 (by decide +kernel)).trans (Stretch.kept m c main_arg13 (by decide +kernel) (by decide +kernel) (by decide +kernel) (by decide +kernel))⟩)
    (run_fold m ρ)

theorem ref_frame : Cert.quiescent_ReferenceIdeal := fun m ρ _ =>
  (θ_run defs _ _).mono (fun r h => ⟨fun c => (h c).2.2, sem_eq_zero_of_no_sems (by decide) r.2⟩)
    (ref_run m ρ)

end Reference

set_option maxHeartbeats 4000000 in
/-- The agreement, with each argument's two arrays compared as arrays of one shape. -/
theorem agree_arrays (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg) (_ : Pre_KernelIdeal m)
    (hargs : ∀ c : Dev Cert.KernelIdeal.nD,
      @Eq (FVec Ideal Cert.KernelIdeal.S2x192x16x16x8 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq (FVec Ideal Cert.KernelIdeal.S192 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq (FVec Ideal Cert.KernelIdeal.S192 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq (FVec Ideal Cert.KernelIdeal.S192 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq (FVec Ideal Cert.KernelIdeal.S192x8 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq (FVec Ideal Cert.KernelIdeal.S8x192x768 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq (FVec Ideal Cert.KernelIdeal.S8x384x4 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
      ∧ @Eq (FVec Ideal Cert.KernelIdeal.S8x384 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
      ∧ @Eq (FVec Ideal Cert.KernelIdeal.S8x384x44 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
      ∧ @Eq (FVec Ideal Cert.KernelIdeal.S8x12x384 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
      ∧ @Eq (FVec Ideal Cert.KernelIdeal.S8x384 .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
      ∧ @Eq (FVec Ideal Cert.KernelIdeal.S8x384x16 .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
      ∧ @Eq (FVec Ideal Cert.KernelIdeal.S8x384 .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
      ∧ @Eq (FVec Ideal Cert.KernelIdeal.S8x384x192 .f32) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))) :
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) := by
  have hH := Cert.KernelIdeal.Array.hyps m
  refine ⟨fun c => Cert.KernelIdeal.Array.out0 m hH c, fun c => Cert.KernelIdeal.Array.out1 m c, ?_, ?_⟩
  · exact (θ_run Cert.KernelIdeal.defs _ _).mono (fun r h c => ⟨(h.1 c).1, (h.1 c).2, h.2 c⟩)
      (θ_run_and (Cert.KernelIdeal.Array.run_results m g hH) (Cert.KernelIdeal.Gen.unchanged m g hH))
  · refine (θ_run Cert.ReferenceIdeal.defs _ _).mono (fun r h c => ?_) (ref_run m' g')
    obtain ⟨h0, h1, h2, h3, h4, h5, h6, h7, h8, h9, h10, h11, h12, h13⟩ := hargs c
    obtain ⟨a, ka, ra⟩ := Cert.Prologue.first m m' hH c rfl h0 rfl h1 rfl h2 rfl h3 rfl h4 rfl h5 rfl h6 rfl h7 rfl h8 rfl h9 rfl h10 rfl h11 rfl h12 rfl h13
    obtain ⟨s, ks, rs⟩ := Cert.Prologue.second m m' c rfl h0 rfl h1 rfl h2 rfl h4
    exact ⟨(h c).1.trans (ra.trans ka.symm), (h c).2.1.trans (rs.trans ks.symm), (h c).2.2⟩

set_option maxHeartbeats 20000000 in
/-- The two programs' results agree. -/
theorem agree : Cert.algebraic_KernelIdeal_ReferenceIdeal := agree_arrays

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Counts
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_counts.counts_facts,
    fun m ρ h => Cert.Kernel.Gen.frame m ρ (Cert.Kernel.Counts.hyps_of_pre m h),
    fun m ρ _ => Cert.KernelIdeal.Gen.frame m ρ (Cert.KernelIdeal.Array.hyps m),
    fun m ρ _ => Cert.KernelIdeal.Gen.frame m ρ (Cert.KernelIdeal.Array.hyps m),
    ref_frame,
    IdealRules.named_const.statement Cert.KernelIdeal.κ "softplus_cut" .f32 0x41A00000#32 ⊤ rfl,
    agree⟩

end Cert.Proof

end
